-- ==== Defs.lean ====
def Pre_KernelScan (m : (ℓ : Loc Cert.KernelScan.nD Cert.KernelScan.τ Cert.KernelScan.sig) → Buf (Elt Bits) ℓ) : Prop :=
  True

def Pre_KernelScanIdeal (m : (ℓ : Loc Cert.KernelScanIdeal.nD Cert.KernelScanIdeal.τ Cert.KernelScanIdeal.sig) → Buf (Elt Ideal) ℓ) : Prop :=
  True

def Pre_RefDh0Ideal (m : (ℓ : Loc Cert.RefDh0Ideal.nD Cert.RefDh0Ideal.τ Cert.RefDh0Ideal.sig) → Buf (Elt Ideal) ℓ) : Prop :=
  True

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_RefDxIdeal (m : (ℓ : Loc Cert.RefDxIdeal.nD Cert.RefDxIdeal.τ Cert.RefDxIdeal.sig) → Buf (Elt Ideal) ℓ) : Prop :=
  True

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_RefDwIdeal (m : (ℓ : Loc Cert.RefDwIdeal.nD Cert.RefDwIdeal.τ Cert.RefDwIdeal.sig) → Buf (Elt Ideal) ℓ) : Prop :=
  True

def quiescent_KernelScan [hKernelScan : Cert.KernelScan.Facts] : Prop :=
  ∀ (m : (ℓ : Loc Cert.KernelScan.nD Cert.KernelScan.τ Cert.KernelScan.sig) → Buf (Elt Bits) ℓ) (g : Dev Cert.KernelScan.nD → PrngReg), Pre_KernelScan m →
    θ_run (Cert.KernelScan.defs (F := Bits)) (onTc (τ := Cert.KernelScan.τ) (Cert.KernelScan.main (F := Bits))) ⟨m, fun _ => 0, g⟩ (fun r => (∀ c : Dev Cert.KernelScan.nD,
      r.2.mem ((c.tc : Thread Cert.KernelScan.nD Cert.KernelScan.τ).loc Cert.KernelScan.main_arg0) = m ((c.tc : Thread Cert.KernelScan.nD Cert.KernelScan.τ).loc Cert.KernelScan.main_arg0)
      ∧ r.2.mem ((c.tc : Thread Cert.KernelScan.nD Cert.KernelScan.τ).loc Cert.KernelScan.main_arg1) = m ((c.tc : Thread Cert.KernelScan.nD Cert.KernelScan.τ).loc Cert.KernelScan.main_arg1)
      ∧ r.2.mem ((c.tc : Thread Cert.KernelScan.nD Cert.KernelScan.τ).loc Cert.KernelScan.main_arg2) = m ((c.tc : Thread Cert.KernelScan.nD Cert.KernelScan.τ).loc Cert.KernelScan.main_arg2)
      ∧ r.2.mem ((c.tc : Thread Cert.KernelScan.nD Cert.KernelScan.τ).loc Cert.KernelScan.main_arg3) = m ((c.tc : Thread Cert.KernelScan.nD Cert.KernelScan.τ).loc Cert.KernelScan.main_arg3)
      ∧ r.2.mem ((c.tc : Thread Cert.KernelScan.nD Cert.KernelScan.τ).loc Cert.KernelScan.main_arg4) = m ((c.tc : Thread Cert.KernelScan.nD Cert.KernelScan.τ).loc Cert.KernelScan.main_arg4))
      ∧ r.2.sem = fun _ => 0)

def quiescent_KernelScanIdeal [hKernelScanIdeal : Cert.KernelScanIdeal.Facts] : Prop :=
  ∀ (m : (ℓ : Loc Cert.KernelScanIdeal.nD Cert.KernelScanIdeal.τ Cert.KernelScanIdeal.sig) → Buf (Elt Ideal) ℓ) (g : Dev Cert.KernelScanIdeal.nD → PrngReg), Pre_KernelScanIdeal m →
    θ_run (Cert.KernelScanIdeal.defs (F := Ideal)) (onTc (τ := Cert.KernelScanIdeal.τ) (Cert.KernelScanIdeal.main (F := Ideal))) ⟨m, fun _ => 0, g⟩ (fun r => (∀ c : Dev Cert.KernelScanIdeal.nD,
      r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
      ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1)
      ∧ r.2.mem ((c.tc : Thread Cert.KernelScanIdeal.nD Cert.KernelScanIdeal.τ).loc Cert.KernelScanIdeal.main_arg2) = m ((c.tc : Thread Cert.KernelScanIdeal.nD Cert.KernelScanIdeal.τ).loc Cert.KernelScanIdeal.main_arg2)
      ∧ r.2.mem ((c.tc : Thread Cert.KernelScanIdeal.nD Cert.KernelScanIdeal.τ).loc Cert.KernelScanIdeal.main_arg3) = m ((c.tc : Thread Cert.KernelScanIdeal.nD Cert.KernelScanIdeal.τ).loc Cert.KernelScanIdeal.main_arg3)
      ∧ r.2.mem ((c.tc : Thread Cert.KernelScanIdeal.nD Cert.KernelScanIdeal.τ).loc Cert.KernelScanIdeal.main_arg4) = m ((c.tc : Thread Cert.KernelScanIdeal.nD Cert.KernelScanIdeal.τ).loc Cert.KernelScanIdeal.main_arg4))
      ∧ r.2.sem = fun _ => 0)

def quiescent_RefDh0Ideal [hRefDh0Ideal : Cert.RefDh0Ideal.Facts] : Prop :=
  ∀ (m : (ℓ : Loc Cert.RefDh0Ideal.nD Cert.RefDh0Ideal.τ Cert.RefDh0Ideal.sig) → Buf (Elt Ideal) ℓ) (g : Dev Cert.RefDh0Ideal.nD → PrngReg), Pre_RefDh0Ideal m →
    θ_run (Cert.RefDh0Ideal.defs (F := Ideal)) (onTc (τ := Cert.RefDh0Ideal.τ) (Cert.RefDh0Ideal.main (F := Ideal))) ⟨m, fun _ => 0, g⟩ (fun r => (∀ c : Dev Cert.RefDh0Ideal.nD,
      r.2.mem ((c.tc : Thread Cert.RefDh0Ideal.nD Cert.RefDh0Ideal.τ).loc Cert.RefDh0Ideal.main_arg0) = m ((c.tc : Thread Cert.RefDh0Ideal.nD Cert.RefDh0Ideal.τ).loc Cert.RefDh0Ideal.main_arg0)
      ∧ r.2.mem ((c.tc : Thread Cert.RefDh0Ideal.nD Cert.RefDh0Ideal.τ).loc Cert.RefDh0Ideal.main_arg1) = m ((c.tc : Thread Cert.RefDh0Ideal.nD Cert.RefDh0Ideal.τ).loc Cert.RefDh0Ideal.main_arg1)
      ∧ r.2.mem ((c.tc : Thread Cert.RefDh0Ideal.nD Cert.RefDh0Ideal.τ).loc Cert.RefDh0Ideal.main_arg2) = m ((c.tc : Thread Cert.RefDh0Ideal.nD Cert.RefDh0Ideal.τ).loc Cert.RefDh0Ideal.main_arg2)
      ∧ r.2.mem ((c.tc : Thread Cert.RefDh0Ideal.nD Cert.RefDh0Ideal.τ).loc Cert.RefDh0Ideal.main_arg3) = m ((c.tc : Thread Cert.RefDh0Ideal.nD Cert.RefDh0Ideal.τ).loc Cert.RefDh0Ideal.main_arg3)
      ∧ r.2.mem ((c.tc : Thread Cert.RefDh0Ideal.nD Cert.RefDh0Ideal.τ).loc Cert.RefDh0Ideal.main_arg4) = m ((c.tc : Thread Cert.RefDh0Ideal.nD Cert.RefDh0Ideal.τ).loc Cert.RefDh0Ideal.main_arg4))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3))
      ∧ r.2.sem = fun _ => 0)

def quiescent_RefDxIdeal [hRefDxIdeal : Cert.RefDxIdeal.Facts] : Prop :=
  ∀ (m : (ℓ : Loc Cert.RefDxIdeal.nD Cert.RefDxIdeal.τ Cert.RefDxIdeal.sig) → Buf (Elt Ideal) ℓ) (g : Dev Cert.RefDxIdeal.nD → PrngReg), Pre_RefDxIdeal m →
    θ_run (Cert.RefDxIdeal.defs (F := Ideal)) (onTc (τ := Cert.RefDxIdeal.τ) (Cert.RefDxIdeal.main (F := Ideal))) ⟨m, fun _ => 0, g⟩ (fun r => (∀ c : Dev Cert.RefDxIdeal.nD,
      r.2.mem ((c.tc : Thread Cert.RefDxIdeal.nD Cert.RefDxIdeal.τ).loc Cert.RefDxIdeal.main_arg0) = m ((c.tc : Thread Cert.RefDxIdeal.nD Cert.RefDxIdeal.τ).loc Cert.RefDxIdeal.main_arg0)
      ∧ r.2.mem ((c.tc : Thread Cert.RefDxIdeal.nD Cert.RefDxIdeal.τ).loc Cert.RefDxIdeal.main_arg1) = m ((c.tc : Thread Cert.RefDxIdeal.nD Cert.RefDxIdeal.τ).loc Cert.RefDxIdeal.main_arg1)
      ∧ r.2.mem ((c.tc : Thread Cert.RefDxIdeal.nD Cert.RefDxIdeal.τ).loc Cert.RefDxIdeal.main_arg2) = m ((c.tc : Thread Cert.RefDxIdeal.nD Cert.RefDxIdeal.τ).loc Cert.RefDxIdeal.main_arg2)
      ∧ r.2.mem ((c.tc : Thread Cert.RefDxIdeal.nD Cert.RefDxIdeal.τ).loc Cert.RefDxIdeal.main_arg3) = m ((c.tc : Thread Cert.RefDxIdeal.nD Cert.RefDxIdeal.τ).loc Cert.RefDxIdeal.main_arg3))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1)
      ∧ r.2.mem ((c.tc : Thread Cert.KernelDw.nD Cert.KernelDw.τ).loc Cert.KernelDw.main_arg2) = m ((c.tc : Thread Cert.KernelDw.nD Cert.KernelDw.τ).loc Cert.KernelDw.main_arg2)
      ∧ r.2.mem ((c.tc : Thread Cert.KernelDw.nD Cert.KernelDw.τ).loc Cert.KernelDw.main_arg3) = m ((c.tc : Thread Cert.KernelDw.nD Cert.KernelDw.τ).loc Cert.KernelDw.main_arg3))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
      ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
      ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3))
      ∧ r.2.sem = fun _ => 0)

def quiescent_RefDwIdeal [hRefDwIdeal : Cert.RefDwIdeal.Facts] : Prop :=
  ∀ (m : (ℓ : Loc Cert.RefDwIdeal.nD Cert.RefDwIdeal.τ Cert.RefDwIdeal.sig) → Buf (Elt Ideal) ℓ) (g : Dev Cert.RefDwIdeal.nD → PrngReg), Pre_RefDwIdeal m →
    θ_run (Cert.RefDwIdeal.defs (F := Ideal)) (onTc (τ := Cert.RefDwIdeal.τ) (Cert.RefDwIdeal.main (F := Ideal))) ⟨m, fun _ => 0, g⟩ (fun r => (∀ c : Dev Cert.RefDwIdeal.nD,
      r.2.mem ((c.tc : Thread Cert.RefDwIdeal.nD Cert.RefDwIdeal.τ).loc Cert.RefDwIdeal.main_arg0) = m ((c.tc : Thread Cert.RefDwIdeal.nD Cert.RefDwIdeal.τ).loc Cert.RefDwIdeal.main_arg0)
      ∧ r.2.mem ((c.tc : Thread Cert.RefDwIdeal.nD Cert.RefDwIdeal.τ).loc Cert.RefDwIdeal.main_arg1) = m ((c.tc : Thread Cert.RefDwIdeal.nD Cert.RefDwIdeal.τ).loc Cert.RefDwIdeal.main_arg1)
      ∧ r.2.mem ((c.tc : Thread Cert.RefDwIdeal.nD Cert.RefDwIdeal.τ).loc Cert.RefDwIdeal.main_arg2) = m ((c.tc : Thread Cert.RefDwIdeal.nD Cert.RefDwIdeal.τ).loc Cert.RefDwIdeal.main_arg2)
      ∧ r.2.mem ((c.tc : Thread Cert.RefDwIdeal.nD Cert.RefDwIdeal.τ).loc Cert.RefDwIdeal.main_arg3) = m ((c.tc : Thread Cert.RefDwIdeal.nD Cert.RefDwIdeal.τ).loc Cert.RefDwIdeal.main_arg3))
      ∧ r.2.sem = fun _ => 0)

def preserves_KernelScan_KernelScanIdeal : Prop :=
  IdealRules.named_const.Statement Cert.KernelScanIdeal.κ "neg_log2e" .f32 0xBFB8AA3B#32 ((-((Real.log 2)⁻¹) : ℝ) : EReal)

def algebraic_KernelScanIdeal_RefDh0Ideal [hKernelScanIdeal : Cert.KernelScanIdeal.Facts] [hRefDh0Ideal : Cert.RefDh0Ideal.Facts] : Prop :=
  ∀ (m : (ℓ : Loc Cert.KernelScanIdeal.nD Cert.KernelScanIdeal.τ Cert.KernelScanIdeal.sig) → Buf (Elt Ideal) ℓ) (g : Dev Cert.KernelScanIdeal.nD → PrngReg)
    (m' : (ℓ : Loc Cert.RefDh0Ideal.nD Cert.RefDh0Ideal.τ Cert.RefDh0Ideal.sig) → Buf (Elt Ideal) ℓ) (g' : Dev Cert.RefDh0Ideal.nD → PrngReg), Pre_KernelScanIdeal m →
    (∀ c : Dev Cert.KernelScanIdeal.nD,
      m' ((c.tc : Thread Cert.RefDh0Ideal.nD Cert.RefDh0Ideal.τ).loc Cert.RefDh0Ideal.main_arg0) = m ((c.tc : Thread Cert.KernelScanIdeal.nD Cert.KernelScanIdeal.τ).loc Cert.KernelScanIdeal.main_arg0)
      ∧ m' ((c.tc : Thread Cert.RefDh0Ideal.nD Cert.RefDh0Ideal.τ).loc Cert.RefDh0Ideal.main_arg1) = m ((c.tc : Thread Cert.KernelScanIdeal.nD Cert.KernelScanIdeal.τ).loc Cert.KernelScanIdeal.main_arg1)
      ∧ m' ((c.tc : Thread Cert.RefDh0Ideal.nD Cert.RefDh0Ideal.τ).loc Cert.RefDh0Ideal.main_arg2) = m ((c.tc : Thread Cert.KernelScanIdeal.nD Cert.KernelScanIdeal.τ).loc Cert.KernelScanIdeal.main_arg2)
      ∧ m' ((c.tc : Thread Cert.RefDh0Ideal.nD Cert.RefDh0Ideal.τ).loc Cert.RefDh0Ideal.main_arg3) = m ((c.tc : Thread Cert.KernelScanIdeal.nD Cert.KernelScanIdeal.τ).loc Cert.KernelScanIdeal.main_arg3)
      ∧ m' ((c.tc : Thread Cert.RefDh0Ideal.nD Cert.RefDh0Ideal.τ).loc Cert.RefDh0Ideal.main_arg4) = m ((c.tc : Thread Cert.KernelScanIdeal.nD Cert.KernelScanIdeal.τ).loc Cert.KernelScanIdeal.main_arg4)) →
    ∃ (v0 : (c : Dev Cert.KernelScanIdeal.nD) → Buf (Elt Ideal) ((c.tc : Thread Cert.KernelScanIdeal.nD Cert.KernelScanIdeal.τ).loc Cert.KernelScanIdeal.main_v0_2)),
      θ_run (Cert.KernelScanIdeal.defs (F := Ideal)) (onTc (τ := Cert.KernelScanIdeal.τ) (Cert.KernelScanIdeal.main (F := Ideal))) ⟨m, fun _ => 0, g⟩ (fun r => ∀ c : Dev Cert.KernelScanIdeal.nD,
          r.2.mem ((c.tc : Thread Cert.KernelScanIdeal.nD Cert.KernelScanIdeal.τ).loc Cert.KernelScanIdeal.main_v0_2) = v0 c
          ∧ r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
          ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1)
          ∧ r.2.mem ((c.tc : Thread Cert.KernelScanIdeal.nD Cert.KernelScanIdeal.τ).loc Cert.KernelScanIdeal.main_arg2) = m ((c.tc : Thread Cert.KernelScanIdeal.nD Cert.KernelScanIdeal.τ).loc Cert.KernelScanIdeal.main_arg2)
          ∧ r.2.mem ((c.tc : Thread Cert.KernelScanIdeal.nD Cert.KernelScanIdeal.τ).loc Cert.KernelScanIdeal.main_arg3) = m ((c.tc : Thread Cert.KernelScanIdeal.nD Cert.KernelScanIdeal.τ).loc Cert.KernelScanIdeal.main_arg3)
          ∧ r.2.mem ((c.tc : Thread Cert.KernelScanIdeal.nD Cert.KernelScanIdeal.τ).loc Cert.KernelScanIdeal.main_arg4) = m ((c.tc : Thread Cert.KernelScanIdeal.nD Cert.KernelScanIdeal.τ).loc Cert.KernelScanIdeal.main_arg4))
      ∧ θ_run (Cert.RefDh0Ideal.defs (F := Ideal)) (onTc (τ := Cert.RefDh0Ideal.τ) (Cert.RefDh0Ideal.main (F := Ideal))) ⟨m', fun _ => 0, g'⟩ (fun r => ∀ c : Dev Cert.RefDh0Ideal.nD,
          r.2.mem ((c.tc : Thread Cert.RefDh0Ideal.nD Cert.RefDh0Ideal.τ).loc Cert.RefDh0Ideal.main_v0) = v0 c
          ∧ r.2.mem ((c.tc : Thread Cert.RefDh0Ideal.nD Cert.RefDh0Ideal.τ).loc Cert.RefDh0Ideal.main_arg0) = m' ((c.tc : Thread Cert.RefDh0Ideal.nD Cert.RefDh0Ideal.τ).loc Cert.RefDh0Ideal.main_arg0)
          ∧ r.2.mem ((c.tc : Thread Cert.RefDh0Ideal.nD Cert.RefDh0Ideal.τ).loc Cert.RefDh0Ideal.main_arg1) = m' ((c.tc : Thread Cert.RefDh0Ideal.nD Cert.RefDh0Ideal.τ).loc Cert.RefDh0Ideal.main_arg1)
          ∧ r.2.mem ((c.tc : Thread Cert.RefDh0Ideal.nD Cert.RefDh0Ideal.τ).loc Cert.RefDh0Ideal.main_arg2) = m' ((c.tc : Thread Cert.RefDh0Ideal.nD Cert.RefDh0Ideal.τ).loc Cert.RefDh0Ideal.main_arg2)
          ∧ r.2.mem ((c.tc : Thread Cert.RefDh0Ideal.nD Cert.RefDh0Ideal.τ).loc Cert.RefDh0Ideal.main_arg3) = m' ((c.tc : Thread Cert.RefDh0Ideal.nD Cert.RefDh0Ideal.τ).loc Cert.RefDh0Ideal.main_arg3)
          ∧ r.2.mem ((c.tc : Thread Cert.RefDh0Ideal.nD Cert.RefDh0Ideal.τ).loc Cert.RefDh0Ideal.main_arg4) = m' ((c.tc : Thread Cert.RefDh0Ideal.nD Cert.RefDh0Ideal.τ).loc Cert.RefDh0Ideal.main_arg4))

def preserves_KernelDx_KernelDxIdeal : Prop :=
  True

def algebraic_KernelDxIdeal_RefDxIdeal [hKernelDxIdeal : Cert.KernelDxIdeal.Facts] [hRefDxIdeal : Cert.RefDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.RefDxIdeal.nD Cert.RefDxIdeal.τ Cert.RefDxIdeal.sig) → Buf (Elt Ideal) ℓ) (g' : Dev Cert.RefDxIdeal.nD → PrngReg), Pre_KernelDxIdeal m →
    (∀ c : Dev Cert.KernelDxIdeal.nD,
      m' ((c.tc : Thread Cert.RefDxIdeal.nD Cert.RefDxIdeal.τ).loc Cert.RefDxIdeal.main_arg0) = m ((c.tc : Thread Cert.KernelDxIdeal.nD Cert.KernelDxIdeal.τ).loc Cert.KernelDxIdeal.main_arg0)
      ∧ m' ((c.tc : Thread Cert.RefDxIdeal.nD Cert.RefDxIdeal.τ).loc Cert.RefDxIdeal.main_arg1) = m ((c.tc : Thread Cert.KernelDxIdeal.nD Cert.KernelDxIdeal.τ).loc Cert.KernelDxIdeal.main_arg1)
      ∧ m' ((c.tc : Thread Cert.RefDxIdeal.nD Cert.RefDxIdeal.τ).loc Cert.RefDxIdeal.main_arg2) = m ((c.tc : Thread Cert.KernelDxIdeal.nD Cert.KernelDxIdeal.τ).loc Cert.KernelDxIdeal.main_arg2)
      ∧ m' ((c.tc : Thread Cert.RefDxIdeal.nD Cert.RefDxIdeal.τ).loc Cert.RefDxIdeal.main_arg3) = m ((c.tc : Thread Cert.KernelDxIdeal.nD Cert.KernelDxIdeal.τ).loc Cert.KernelDxIdeal.main_arg3)) →
    ∃ (v0 : (c : Dev Cert.KernelDxIdeal.nD) → Buf (Elt Ideal) ((c.tc : Thread Cert.KernelDxIdeal.nD Cert.KernelDxIdeal.τ).loc Cert.KernelDxIdeal.main_v1)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v1) = v0 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3))
      ∧ θ_run (Cert.RefDxIdeal.defs (F := Ideal)) (onTc (τ := Cert.RefDxIdeal.τ) (Cert.RefDxIdeal.main (F := Ideal))) ⟨m', fun _ => 0, g'⟩ (fun r => ∀ c : Dev Cert.RefDxIdeal.nD,
          r.2.mem ((c.tc : Thread Cert.RefDxIdeal.nD Cert.RefDxIdeal.τ).loc Cert.RefDxIdeal.main_v0) = v0 c
          ∧ r.2.mem ((c.tc : Thread Cert.RefDxIdeal.nD Cert.RefDxIdeal.τ).loc Cert.RefDxIdeal.main_arg0) = m' ((c.tc : Thread Cert.RefDxIdeal.nD Cert.RefDxIdeal.τ).loc Cert.RefDxIdeal.main_arg0)
          ∧ r.2.mem ((c.tc : Thread Cert.RefDxIdeal.nD Cert.RefDxIdeal.τ).loc Cert.RefDxIdeal.main_arg1) = m' ((c.tc : Thread Cert.RefDxIdeal.nD Cert.RefDxIdeal.τ).loc Cert.RefDxIdeal.main_arg1)
          ∧ r.2.mem ((c.tc : Thread Cert.RefDxIdeal.nD Cert.RefDxIdeal.τ).loc Cert.RefDxIdeal.main_arg2) = m' ((c.tc : Thread Cert.RefDxIdeal.nD Cert.RefDxIdeal.τ).loc Cert.RefDxIdeal.main_arg2)
          ∧ r.2.mem ((c.tc : Thread Cert.RefDxIdeal.nD Cert.RefDxIdeal.τ).loc Cert.RefDxIdeal.main_arg3) = m' ((c.tc : Thread Cert.RefDxIdeal.nD Cert.RefDxIdeal.τ).loc Cert.RefDxIdeal.main_arg3))

def preserves_KernelDw_KernelDwIdeal : Prop :=
  True

def algebraic_KernelDwIdeal_RefDwIdeal [hKernelDwIdeal : Cert.KernelDwIdeal.Facts] [hRefDwIdeal : Cert.RefDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.RefDwIdeal.nD Cert.RefDwIdeal.τ Cert.RefDwIdeal.sig) → Buf (Elt Ideal) ℓ) (g' : Dev Cert.RefDwIdeal.nD → PrngReg), Pre_KernelDwIdeal m →
    (∀ c : Dev Cert.KernelDwIdeal.nD,
      m' ((c.tc : Thread Cert.RefDwIdeal.nD Cert.RefDwIdeal.τ).loc Cert.RefDwIdeal.main_arg0) = m ((c.tc : Thread Cert.KernelDwIdeal.nD Cert.KernelDwIdeal.τ).loc Cert.KernelDwIdeal.main_arg0)
      ∧ m' ((c.tc : Thread Cert.RefDwIdeal.nD Cert.RefDwIdeal.τ).loc Cert.RefDwIdeal.main_arg1) = m ((c.tc : Thread Cert.KernelDwIdeal.nD Cert.KernelDwIdeal.τ).loc Cert.KernelDwIdeal.main_arg1)
      ∧ m' ((c.tc : Thread Cert.RefDwIdeal.nD Cert.RefDwIdeal.τ).loc Cert.RefDwIdeal.main_arg2) = m ((c.tc : Thread Cert.KernelDwIdeal.nD Cert.KernelDwIdeal.τ).loc Cert.KernelDwIdeal.main_arg2)
      ∧ m' ((c.tc : Thread Cert.RefDwIdeal.nD Cert.RefDwIdeal.τ).loc Cert.RefDwIdeal.main_arg3) = m ((c.tc : Thread Cert.KernelDwIdeal.nD Cert.KernelDwIdeal.τ).loc Cert.KernelDwIdeal.main_arg3)) →
    ∃ (v0 : (c : Dev Cert.KernelDwIdeal.nD) → Buf (Elt Ideal) ((c.tc : Thread Cert.KernelDwIdeal.nD Cert.KernelDwIdeal.τ).loc Cert.KernelDwIdeal.main_v2)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v2) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
          ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
          ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3))
      ∧ θ_run (Cert.RefDwIdeal.defs (F := Ideal)) (onTc (τ := Cert.RefDwIdeal.τ) (Cert.RefDwIdeal.main (F := Ideal))) ⟨m', fun _ => 0, g'⟩ (fun r => ∀ c : Dev Cert.RefDwIdeal.nD,
          r.2.mem ((c.tc : Thread Cert.RefDwIdeal.nD Cert.RefDwIdeal.τ).loc Cert.RefDwIdeal.main_v0) = v0 c
          ∧ r.2.mem ((c.tc : Thread Cert.RefDwIdeal.nD Cert.RefDwIdeal.τ).loc Cert.RefDwIdeal.main_arg0) = m' ((c.tc : Thread Cert.RefDwIdeal.nD Cert.RefDwIdeal.τ).loc Cert.RefDwIdeal.main_arg0)
          ∧ r.2.mem ((c.tc : Thread Cert.RefDwIdeal.nD Cert.RefDwIdeal.τ).loc Cert.RefDwIdeal.main_arg1) = m' ((c.tc : Thread Cert.RefDwIdeal.nD Cert.RefDwIdeal.τ).loc Cert.RefDwIdeal.main_arg1)
          ∧ r.2.mem ((c.tc : Thread Cert.RefDwIdeal.nD Cert.RefDwIdeal.τ).loc Cert.RefDwIdeal.main_arg2) = m' ((c.tc : Thread Cert.RefDwIdeal.nD Cert.RefDwIdeal.τ).loc Cert.RefDwIdeal.main_arg2)
          ∧ r.2.mem ((c.tc : Thread Cert.RefDwIdeal.nD Cert.RefDwIdeal.τ).loc Cert.RefDwIdeal.main_arg3) = m' ((c.tc : Thread Cert.RefDwIdeal.nD Cert.RefDwIdeal.τ).loc Cert.RefDwIdeal.main_arg3))

def Claim : Prop :=
  ∃ (hKernelScan : Cert.KernelScan.Facts) (hKernelScanIdeal : Cert.KernelScanIdeal.Facts) (hRefDh0Ideal : Cert.RefDh0Ideal.Facts) (hKernelDx : Cert.KernelDx.Facts) (hKernelDxIdeal : Cert.KernelDxIdeal.Facts) (hRefDxIdeal : Cert.RefDxIdeal.Facts) (hKernelDw : Cert.KernelDw.Facts) (hKernelDwIdeal : Cert.KernelDwIdeal.Facts) (hRefDwIdeal : Cert.RefDwIdeal.Facts),
    quiescent_KernelScan (hKernelScan := hKernelScan)
    ∧ quiescent_KernelScanIdeal (hKernelScanIdeal := hKernelScanIdeal)
    ∧ quiescent_RefDh0Ideal (hRefDh0Ideal := hRefDh0Ideal)
    ∧ quiescent_KernelDx (hKernelDx := hKernelDx)
    ∧ quiescent_KernelDxIdeal (hKernelDxIdeal := hKernelDxIdeal)
    ∧ quiescent_RefDxIdeal (hRefDxIdeal := hRefDxIdeal)
    ∧ quiescent_KernelDw (hKernelDw := hKernelDw)
    ∧ quiescent_KernelDwIdeal (hKernelDwIdeal := hKernelDwIdeal)
    ∧ quiescent_RefDwIdeal (hRefDwIdeal := hRefDwIdeal)
    ∧ preserves_KernelScan_KernelScanIdeal
    ∧ algebraic_KernelScanIdeal_RefDh0Ideal (hKernelScanIdeal := hKernelScanIdeal) (hRefDh0Ideal := hRefDh0Ideal)
    ∧ preserves_KernelDx_KernelDxIdeal
    ∧ algebraic_KernelDxIdeal_RefDxIdeal (hKernelDxIdeal := hKernelDxIdeal) (hRefDxIdeal := hRefDxIdeal)
    ∧ preserves_KernelDw_KernelDwIdeal
    ∧ algebraic_KernelDwIdeal_RefDwIdeal (hKernelDwIdeal := hKernelDwIdeal) (hRefDwIdeal := hRefDwIdeal)
-- ==== KernelScan.lean ====
abbrev S6x256x2304 : Shape := ⟨3, ![6, 256, 2304]⟩
abbrev S6x256 : Shape := ⟨2, ![6, 256]⟩
abbrev S6x256x4608 : Shape := ⟨3, ![6, 256, 4608]⟩
abbrev S6x2304 : Shape := ⟨2, ![6, 2304]⟩
abbrev S1x256x2304 : Shape := ⟨3, ![1, 256, 2304]⟩
abbrev S1x256x4608 : Shape := ⟨3, ![1, 256, 4608]⟩
abbrev S4160x128 : Shape := ⟨2, ![4160, 128]⟩
abbrev S544x128 : Shape := ⟨2, ![544, 128]⟩
abbrev S24x128 : Shape := ⟨2, ![24, 128]⟩
abbrev S144x128 : Shape := ⟨2, ![144, 128]⟩
abbrev S256x128 : Shape := ⟨2, ![256, 128]⟩
abbrev S48x256 : Shape := ⟨2, ![48, 256]⟩
abbrev S256 : Shape := ⟨1, ![256]⟩
abbrev S1x256 : Shape := ⟨2, ![1, 256]⟩
abbrev S128x256 : Shape := ⟨2, ![128, 256]⟩
abbrev S6x128 : Shape := ⟨2, ![6, 128]⟩
abbrev S128 : Shape := ⟨1, ![128]⟩
abbrev S1x128 : Shape := ⟨2, ![1, 128]⟩
abbrev S32x128 : Shape := ⟨2, ![32, 128]⟩
abbrev S1x32x128 : Shape := ⟨3, ![1, 32, 128]⟩
abbrev S8x128 : Shape := ⟨2, ![8, 128]⟩
abbrev S32 : Shape := ⟨1, ![32]⟩
abbrev S32x1 : Shape := ⟨2, ![32, 1]⟩
abbrev S8x256 : Shape := ⟨2, ![8, 256]⟩

abbrev nBuf : Space → Nat
  | .hbm => 8
  | .vmem => 28
  | .smem => 0
  | _ => 0

abbrev bufTy : (tb : Table) → Fin (tcTables nBuf tb) → BufTy
  | .hbm, ⟨0, _⟩ => ⟨S6x256x2304, .fp8e5m2⟩
  | .hbm, ⟨1, _⟩ => ⟨S6x256, .f32⟩
  | .hbm, ⟨2, _⟩ => ⟨S6x256x4608, .fp8e4m3⟩
  | .hbm, ⟨3, _⟩ => ⟨S6x256, .f32⟩
  | .hbm, ⟨4, _⟩ => ⟨S6x2304, .f32⟩
  | .hbm, ⟨5, _⟩ => ⟨S6x256x4608, .fp8e5m2⟩
  | .hbm, ⟨6, _⟩ => ⟨S6x256, .f32⟩
  | .hbm, ⟨7, _⟩ => ⟨S6x2304, .f32⟩
  | .local _ .vmem, ⟨0, _⟩ => ⟨S1x256x2304, .fp8e5m2⟩
  | .local _ .vmem, ⟨1, _⟩ => ⟨S1x256x2304, .fp8e5m2⟩
  | .local _ .vmem, ⟨2, _⟩ => ⟨S1x256x4608, .fp8e4m3⟩
  | .local _ .vmem, ⟨3, _⟩ => ⟨S1x256x4608, .fp8e4m3⟩
  | .local _ .vmem, ⟨4, _⟩ => ⟨S6x256, .f32⟩
  | .local _ .vmem, ⟨5, _⟩ => ⟨S6x256, .f32⟩
  | .local _ .vmem, ⟨6, _⟩ => ⟨S6x2304, .f32⟩
  | .local _ .vmem, ⟨7, _⟩ => ⟨S1x256x4608, .fp8e5m2⟩
  | .local _ .vmem, ⟨8, _⟩ => ⟨S1x256x4608, .fp8e5m2⟩
  | .local _ .vmem, ⟨9, _⟩ => ⟨S6x256, .f32⟩
  | .local _ .vmem, ⟨10, _⟩ => ⟨S6x2304, .f32⟩
  | .local _ .vmem, ⟨11, _⟩ => ⟨S4160x128, .f32⟩
  | .local _ .vmem, ⟨12, _⟩ => ⟨S4160x128, .f32⟩
  | .local _ .vmem, ⟨13, _⟩ => ⟨S4160x128, .f32⟩
  | .local _ .vmem, ⟨14, _⟩ => ⟨S4160x128, .f32⟩
  | .local _ .vmem, ⟨15, _⟩ => ⟨S544x128, .f32⟩
  | .local _ .vmem, ⟨16, _⟩ => ⟨S544x128, .f32⟩
  | .local _ .vmem, ⟨17, _⟩ => ⟨S544x128, .f32⟩
  | .local _ .vmem, ⟨18, _⟩ => ⟨S544x128, .f32⟩
  | .local _ .vmem, ⟨19, _⟩ => ⟨S544x128, .f32⟩
  | .local _ .vmem, ⟨20, _⟩ => ⟨S544x128, .f32⟩
  | .local _ .vmem, ⟨21, _⟩ => ⟨S24x128, .f32⟩
  | .local _ .vmem, ⟨22, _⟩ => ⟨S144x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S48x256, .f32⟩
  | _, _ => ⟨S6x256x2304, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_scratch9 : Ref sig .tc := ⟨.vmem, 20, rfl⟩
abbrev cc0_scratch10 : Ref sig .tc := ⟨.vmem, 21, rfl⟩
abbrev cc0_scratch11 : Ref sig .tc := ⟨.vmem, 22, rfl⟩
abbrev cc0_scratch12 : Ref sig .tc := ⟨.vmem, 23, rfl⟩
abbrev cc0_scratch13 : Ref sig .tc := ⟨.vmem, 24, rfl⟩
abbrev cc0_scratch14 : Ref sig .tc := ⟨.vmem, 25, rfl⟩
abbrev cc0_scratch15 : Ref sig .tc := ⟨.vmem, 26, rfl⟩
abbrev cc0_scratch16 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32 : BitVec 32 := 0#32
  let c8_i32 : BitVec 32 := 8#32
  let v234 : BitVec 32 := Scalar.addi c0_i32 c8_i32
  let c1_i32 : BitVec 32 := 1#32
  ⟨c0_i32, v234, c1_i32⟩
def k0_off1 (k0_t1 : Fin k0_t1_loop.trips) : Fin 2 → Nat :=
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v356 : Index := Scalar.indexCast v355
  let c0_159 : Index := 0#32
  ![v356.toNat, 0]
def k0_off2 (k0_t1 : Fin k0_t1_loop.trips) : Fin 3 → Nat :=
  let c0_164 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v364 : Index := Scalar.indexCast v355
  let c0_165 : Index := 0#32
  ![0, v364.toNat, 0]
def k0_off3 (k0_t1 : Fin k0_t1_loop.trips) (c0_i32_163 : BitVec 32) : Fin 2 → Nat :=
  let c0_i32 : BitVec 32 := 0#32
  let c1_i32 : BitVec 32 := 1#32
  let arg26 : BitVec 32 := Scf.iv c0_i32 c1_i32 k0_t1
  let c32_i32_162 : BitVec 32 := 32#32
  let v362 : BitVec 32 := Scalar.muli arg26 c32_i32_162
  let v363 : BitVec 32 := Scalar.addi c0_i32_163 v362
  let v369 : Index := Scalar.indexCast v363
  let c0_166 : Index := 0#32
  ![v369.toNat, 0]
def k0_off4 (k0_t1 : Fin k0_t1_loop.trips) : Fin 3 → Nat :=
  let c0_167 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v373 : Index := Scalar.indexCast v355
  let c2304 : Index := 2304#32
  ![0, v373.toNat, 2304]
def k0_off5 (k0_t1 : Fin k0_t1_loop.trips) : Fin 3 → Nat :=
  let c0_169 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v382 : Index := Scalar.indexCast v355
  let c0_170 : Index := 0#32
  ![0, v382.toNat, 0]
def k0_off6 (k0_t1 : Fin k0_t1_loop.trips) : Fin 3 → Nat :=
  let c0_173 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v393 : Index := Scalar.indexCast v355
  let c128_174 : Index := 128#32
  ![0, v393.toNat, 128]
def k0_off7 (k0_t1 : Fin k0_t1_loop.trips) : Fin 3 → Nat :=
  let c0_176 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v402 : Index := Scalar.indexCast v355
  let c2432 : Index := 2432#32
  ![0, v402.toNat, 2432]
def k0_off8 (k0_t1 : Fin k0_t1_loop.trips) : Fin 3 → Nat :=
  let c0_178 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v411 : Index := Scalar.indexCast v355
  let c128_179 : Index := 128#32
  ![0, v411.toNat, 128]
def k0_off9 (k0_t1 : Fin k0_t1_loop.trips) : Fin 3 → Nat :=
  let c0_182 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v422 : Index := Scalar.indexCast v355
  let c256_183 : Index := 256#32
  ![0, v422.toNat, 256]
def k0_off10 (k0_t1 : Fin k0_t1_loop.trips) : Fin 3 → Nat :=
  let c0_185 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v431 : Index := Scalar.indexCast v355
  let c2560 : Index := 2560#32
  ![0, v431.toNat, 2560]
def k0_off11 (k0_t1 : Fin k0_t1_loop.trips) : Fin 3 → Nat :=
  let c0_187 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v440 : Index := Scalar.indexCast v355
  let c256_188 : Index := 256#32
  ![0, v440.toNat, 256]
def k0_off12 (k0_t1 : Fin k0_t1_loop.trips) : Fin 3 → Nat :=
  let c0_191 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v451 : Index := Scalar.indexCast v355
  let c384_192 : Index := 384#32
  ![0, v451.toNat, 384]
def k0_off13 (k0_t1 : Fin k0_t1_loop.trips) : Fin 3 → Nat :=
  let c0_194 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v460 : Index := Scalar.indexCast v355
  let c2688 : Index := 2688#32
  ![0, v460.toNat, 2688]
def k0_off14 (k0_t1 : Fin k0_t1_loop.trips) : Fin 3 → Nat :=
  let c0_196 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v469 : Index := Scalar.indexCast v355
  let c384_197 : Index := 384#32
  ![0, v469.toNat, 384]
def k0_off15 (k0_t1 : Fin k0_t1_loop.trips) : Fin 3 → Nat :=
  let c0_200 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v480 : Index := Scalar.indexCast v355
  let c512_201 : Index := 512#32
  ![0, v480.toNat, 512]
def k0_off16 (k0_t1 : Fin k0_t1_loop.trips) : Fin 3 → Nat :=
  let c0_203 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v489 : Index := Scalar.indexCast v355
  let c2816 : Index := 2816#32
  ![0, v489.toNat, 2816]
def k0_off17 (k0_t1 : Fin k0_t1_loop.trips) : Fin 3 → Nat :=
  let c0_205 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v498 : Index := Scalar.indexCast v355
  let c512_206 : Index := 512#32
  ![0, v498.toNat, 512]
def k0_off18 (k0_t1 : Fin k0_t1_loop.trips) : Fin 3 → Nat :=
  let c0_209 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v509 : Index := Scalar.indexCast v355
  let c640_210 : Index := 640#32
  ![0, v509.toNat, 640]
def k0_off19 (k0_t1 : Fin k0_t1_loop.trips) : Fin 3 → Nat :=
  let c0_212 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v518 : Index := Scalar.indexCast v355
  let c2944 : Index := 2944#32
  ![0, v518.toNat, 2944]
def k0_off20 (k0_t1 : Fin k0_t1_loop.trips) : Fin 3 → Nat :=
  let c0_214 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v527 : Index := Scalar.indexCast v355
  let c640_215 : Index := 640#32
  ![0, v527.toNat, 640]
def k0_off21 (k0_t1 : Fin k0_t1_loop.trips) : Fin 3 → Nat :=
  let c0_218 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v538 : Index := Scalar.indexCast v355
  let c768_219 : Index := 768#32
  ![0, v538.toNat, 768]
def k0_off22 (k0_t1 : Fin k0_t1_loop.trips) : Fin 3 → Nat :=
  let c0_221 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v547 : Index := Scalar.indexCast v355
  let c3072 : Index := 3072#32
  ![0, v547.toNat, 3072]
def k0_off23 (k0_t1 : Fin k0_t1_loop.trips) : Fin 3 → Nat :=
  let c0_223 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v556 : Index := Scalar.indexCast v355
  let c768_224 : Index := 768#32
  ![0, v556.toNat, 768]
def k0_off24 (k0_t1 : Fin k0_t1_loop.trips) : Fin 3 → Nat :=
  let c0_227 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v567 : Index := Scalar.indexCast v355
  let c896_228 : Index := 896#32
  ![0, v567.toNat, 896]
def k0_off25 (k0_t1 : Fin k0_t1_loop.trips) : Fin 3 → Nat :=
  let c0_230 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v576 : Index := Scalar.indexCast v355
  let c3200 : Index := 3200#32
  ![0, v576.toNat, 3200]
def k0_off26 (k0_t1 : Fin k0_t1_loop.trips) : Fin 3 → Nat :=
  let c0_232 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v585 : Index := Scalar.indexCast v355
  let c896_233 : Index := 896#32
  ![0, v585.toNat, 896]
def k0_off27 (k0_t1 : Fin k0_t1_loop.trips) : Fin 3 → Nat :=
  let c0_236 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v596 : Index := Scalar.indexCast v355
  let c1024_237 : Index := 1024#32
  ![0, v596.toNat, 1024]
def k0_off28 (k0_t1 : Fin k0_t1_loop.trips) : Fin 3 → Nat :=
  let c0_239 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v605 : Index := Scalar.indexCast v355
  let c3328 : Index := 3328#32
  ![0, v605.toNat, 3328]
def k0_off29 (k0_t1 : Fin k0_t1_loop.trips) : Fin 3 → Nat :=
  let c0_241 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v614 : Index := Scalar.indexCast v355
  let c1024_242 : Index := 1024#32
  ![0, v614.toNat, 1024]
def k0_off30 (k0_t1 : Fin k0_t1_loop.trips) : Fin 3 → Nat :=
  let c0_245 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v625 : Index := Scalar.indexCast v355
  let c1152_246 : Index := 1152#32
  ![0, v625.toNat, 1152]
def k0_off31 (k0_t1 : Fin k0_t1_loop.trips) : Fin 3 → Nat :=
  let c0_248 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v634 : Index := Scalar.indexCast v355
  let c3456 : Index := 3456#32
  ![0, v634.toNat, 3456]
def k0_off32 (k0_t1 : Fin k0_t1_loop.trips) : Fin 3 → Nat :=
  let c0_250 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v643 : Index := Scalar.indexCast v355
  let c1152_251 : Index := 1152#32
  ![0, v643.toNat, 1152]
def k0_off33 (k0_t1 : Fin k0_t1_loop.trips) : Fin 3 → Nat :=
  let c0_254 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v654 : Index := Scalar.indexCast v355
  let c1280_255 : Index := 1280#32
  ![0, v654.toNat, 1280]
def k0_off34 (k0_t1 : Fin k0_t1_loop.trips) : Fin 3 → Nat :=
  let c0_257 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v663 : Index := Scalar.indexCast v355
  let c3584 : Index := 3584#32
  ![0, v663.toNat, 3584]
def k0_off35 (k0_t1 : Fin k0_t1_loop.trips) : Fin 3 → Nat :=
  let c0_259 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v672 : Index := Scalar.indexCast v355
  let c1280_260 : Index := 1280#32
  ![0, v672.toNat, 1280]
def k0_off36 (k0_t1 : Fin k0_t1_loop.trips) : Fin 3 → Nat :=
  let c0_263 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v683 : Index := Scalar.indexCast v355
  let c1408_264 : Index := 1408#32
  ![0, v683.toNat, 1408]
def k0_off37 (k0_t1 : Fin k0_t1_loop.trips) : Fin 3 → Nat :=
  let c0_266 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v692 : Index := Scalar.indexCast v355
  let c3712 : Index := 3712#32
  ![0, v692.toNat, 3712]
def k0_off38 (k0_t1 : Fin k0_t1_loop.trips) : Fin 3 → Nat :=
  let c0_268 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v701 : Index := Scalar.indexCast v355
  let c1408_269 : Index := 1408#32
  ![0, v701.toNat, 1408]
def k0_off39 (k0_t1 : Fin k0_t1_loop.trips) : Fin 3 → Nat :=
  let c0_272 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v712 : Index := Scalar.indexCast v355
  let c1536_273 : Index := 1536#32
  ![0, v712.toNat, 1536]
def k0_off40 (k0_t1 : Fin k0_t1_loop.trips) : Fin 3 → Nat :=
  let c0_275 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v721 : Index := Scalar.indexCast v355
  let c3840 : Index := 3840#32
  ![0, v721.toNat, 3840]
def k0_off41 (k0_t1 : Fin k0_t1_loop.trips) : Fin 3 → Nat :=
  let c0_277 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v730 : Index := Scalar.indexCast v355
  let c1536_278 : Index := 1536#32
  ![0, v730.toNat, 1536]
def k0_off42 (k0_t1 : Fin k0_t1_loop.trips) : Fin 3 → Nat :=
  let c0_281 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v741 : Index := Scalar.indexCast v355
  let c1664_282 : Index := 1664#32
  ![0, v741.toNat, 1664]
def k0_off43 (k0_t1 : Fin k0_t1_loop.trips) : Fin 3 → Nat :=
  let c0_284 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v750 : Index := Scalar.indexCast v355
  let c3968 : Index := 3968#32
  ![0, v750.toNat, 3968]
def k0_off44 (k0_t1 : Fin k0_t1_loop.trips) : Fin 3 → Nat :=
  let c0_286 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v759 : Index := Scalar.indexCast v355
  let c1664_287 : Index := 1664#32
  ![0, v759.toNat, 1664]
def k0_off45 (k0_t1 : Fin k0_t1_loop.trips) : Fin 3 → Nat :=
  let c0_290 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v770 : Index := Scalar.indexCast v355
  let c1792_291 : Index := 1792#32
  ![0, v770.toNat, 1792]
def k0_off46 (k0_t1 : Fin k0_t1_loop.trips) : Fin 3 → Nat :=
  let c0_293 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v779 : Index := Scalar.indexCast v355
  let c4096 : Index := 4096#32
  ![0, v779.toNat, 4096]
def k0_off47 (k0_t1 : Fin k0_t1_loop.trips) : Fin 3 → Nat :=
  let c0_295 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v788 : Index := Scalar.indexCast v355
  let c1792_296 : Index := 1792#32
  ![0, v788.toNat, 1792]
def k0_off48 (k0_t1 : Fin k0_t1_loop.trips) : Fin 3 → Nat :=
  let c0_299 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v799 : Index := Scalar.indexCast v355
  let c1920_300 : Index := 1920#32
  ![0, v799.toNat, 1920]
def k0_off49 (k0_t1 : Fin k0_t1_loop.trips) : Fin 3 → Nat :=
  let c0_302 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v808 : Index := Scalar.indexCast v355
  let c4224 : Index := 4224#32
  ![0, v808.toNat, 4224]
def k0_off50 (k0_t1 : Fin k0_t1_loop.trips) : Fin 3 → Nat :=
  let c0_304 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v817 : Index := Scalar.indexCast v355
  let c1920_305 : Index := 1920#32
  ![0, v817.toNat, 1920]
def k0_off51 (k0_t1 : Fin k0_t1_loop.trips) : Fin 3 → Nat :=
  let c0_321 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v857 : Index := Scalar.indexCast v355
  let c2048_322 : Index := 2048#32
  ![0, v857.toNat, 2048]
def k0_off52 (k0_t1 : Fin k0_t1_loop.trips) (c0_i32_313 : BitVec 32) : Fin 2 → Nat :=
  let c0_i32 : BitVec 32 := 0#32
  let c1_i32 : BitVec 32 := 1#32
  let arg26 : BitVec 32 := Scf.iv c0_i32 c1_i32 k0_t1
  let c0_i32_307 : BitVec 32 := 0#32
  let v827 : BitVec 1 := Scalar.cmpi .sgt arg26 c0_i32_307
  let v828 : BitVec 32 := Scalar.extui v827
  let c0_i32_308 : BitVec 32 := 0#32
  let v829 : BitVec 1 := Scalar.cmpi .slt arg26 c0_i32_308
  let v830 : BitVec 32 := Scalar.extui v829
  let v831 : BitVec 32 := Scalar.subi v828 v830
  let c2_i32 : BitVec 32 := 2#32
  let c0_i32_309 : BitVec 32 := 0#32
  let v832 : BitVec 1 := Scalar.cmpi .sgt c2_i32 c0_i32_309
  let v833 : BitVec 32 := Scalar.extui v832
  let c0_i32_310 : BitVec 32 := 0#32
  let v834 : BitVec 1 := Scalar.cmpi .slt c2_i32 c0_i32_310
  let v835 : BitVec 32 := Scalar.extui v834
  let v836 : BitVec 32 := Scalar.subi v833 v835
  let v837 : BitVec 1 := Scalar.cmpi .ne v831 v836
  let v838 : BitVec 32 := Scalar.remsi arg26 c2_i32
  let c0_i32_311 : BitVec 32 := 0#32
  let v839 : BitVec 1 := Scalar.cmpi .ne v838 c0_i32_311
  let v840 : BitVec 1 := Scalar.andi v837 v839
  let v826 : BitVec 32 := Scalar.divsi arg26 c2_i32
  let c1_i32_312 : BitVec 32 := 1#32
  let v841 : BitVec 32 := Scalar.subi v826 c1_i32_312
  let v842 : BitVec 32 := Scalar.select v840 v841 v826
  let v843 : BitVec 32 := Scalar.addi c0_i32_313 v842
  let c68_i32 : BitVec 32 := 68#32
  let v844 : BitVec 32 := Scalar.muli v843 c68_i32
  let c2_i32_314 : BitVec 32 := 2#32
  let c0_i32_315 : BitVec 32 := 0#32
  let v845 : BitVec 1 := Scalar.cmpi .eq c2_i32_314 c0_i32_315
  let c1_i32_316 : BitVec 32 := 1#32
  let v846 : BitVec 32 := Scalar.select v845 c1_i32_316 c2_i32_314
  let v847 : BitVec 32 := Scalar.remsi arg26 v846
  let c0_i32_318 : BitVec 32 := 0#32
  let v849 : BitVec 1 := Scalar.cmpi .slt v847 c0_i32_318
  let c0_i32_319 : BitVec 32 := 0#32
  let v850 : BitVec 1 := Scalar.cmpi .slt v846 c0_i32_319
  let v851 : BitVec 1 := Scalar.xori v849 v850
  let c0_i32_317 : BitVec 32 := 0#32
  let v848 : BitVec 1 := Scalar.cmpi .ne v847 c0_i32_317
  let v852 : BitVec 1 := Scalar.andi v851 v848
  let v853 : BitVec 32 := Scalar.addi v847 v846
  let v854 : BitVec 32 := Scalar.select v852 v853 v847
  let c32_i32_320 : BitVec 32 := 32#32
  let v855 : BitVec 32 := Scalar.muli v854 c32_i32_320
  let v856 : BitVec 32 := Scalar.addi v844 v855
  let v862 : Index := Scalar.indexCast v856
  let c0_323 : Index := 0#32
  ![v862.toNat, 0]
def k0_off53 (k0_t1 : Fin k0_t1_loop.trips) : Fin 3 → Nat :=
  let c0_324 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v866 : Index := Scalar.indexCast v355
  let c4352 : Index := 4352#32
  ![0, v866.toNat, 4352]
def k0_off54 (k0_t1 : Fin k0_t1_loop.trips) : Fin 3 → Nat :=
  let c0_326 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v875 : Index := Scalar.indexCast v355
  let c2048_327 : Index := 2048#32
  ![0, v875.toNat, 2048]
def k0_off55 (k0_t1 : Fin k0_t1_loop.trips) : Fin 3 → Nat :=
  let c0_345 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v915 : Index := Scalar.indexCast v355
  let c2176_346 : Index := 2176#32
  ![0, v915.toNat, 2176]
def k0_off56 (k0_t1 : Fin k0_t1_loop.trips) : Fin 3 → Nat :=
  let c0_348 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v924 : Index := Scalar.indexCast v355
  let c4480 : Index := 4480#32
  ![0, v924.toNat, 4480]
def k0_off57 (k0_t1 : Fin k0_t1_loop.trips) : Fin 3 → Nat :=
  let c0_350 : Index := 0#32
  let c0_i32 : BitVec 32 := 0#32
  let c1_i32 : BitVec 32 := 1#32
  let arg26 : BitVec 32 := Scf.iv c0_i32 c1_i32 k0_t1
  let c32_i32_158 : BitVec 32 := 32#32
  let v355 : BitVec 32 := Scalar.muli arg26 c32_i32_158
  let v933 : Index := Scalar.indexCast v355
  let c2176_351 : Index := 2176#32
  ![0, v933.toNat, 2176]
@[reducible] def k0_t2_loop : Scf.Loop 32 :=
  let c0_i32_92 : BitVec 32 := 0#32
  let c32_i32 : BitVec 32 := 32#32
  let v237 : BitVec 32 := Scalar.addi c0_i32_92 c32_i32
  let c1_i32_93 : BitVec 32 := 1#32
  ⟨c0_i32_92, v237, c1_i32_93⟩
def k0_off58 (k0_t2 : Fin k0_t2_loop.trips) (c0_i32_159 : BitVec 32) (c0_i32_160 : BitVec 32) : Fin 2 → Nat :=
  let c0_i32_92 : BitVec 32 := 0#32
  let c1_i32_93 : BitVec 32 := 1#32
  let arg26 : BitVec 32 := Scf.iv c0_i32_92 c1_i32_93 k0_t2
  let c8_i32_158 : BitVec 32 := 8#32
  let v355 : BitVec 32 := Scalar.muli arg26 c8_i32_158
  let v356 : BitVec 32 := Scalar.addi v355 c0_i32_159
  let v357 : BitVec 32 := Scalar.addi v356 c0_i32_160
  let v358 : Index := Scalar.indexCast v357
  let c0_161 : Index := 0#32
  ![v358.toNat, 0]
@[reducible] def k0_t3_loop : Scf.Loop 32 :=
  let c0_i32_96 : BitVec 32 := 0#32
  let c32_i32_97 : BitVec 32 := 32#32
  let v240 : BitVec 32 := Scalar.addi c0_i32_96 c32_i32_97
  let c1_i32_98 : BitVec 32 := 1#32
  ⟨c0_i32_96, v240, c1_i32_98⟩
def k0_off59 (k0_t3 : Fin k0_t3_loop.trips) (c0_i32_159 : BitVec 32) (c0_i32_160 : BitVec 32) : Fin 2 → Nat :=
  let c255_i32 : BitVec 32 := 255#32
  let c0_i32_96 : BitVec 32 := 0#32
  let c1_i32_98 : BitVec 32 := 1#32
  let arg26 : BitVec 32 := Scf.iv c0_i32_96 c1_i32_98 k0_t3
  let c8_i32_158 : BitVec 32 := 8#32
  let v355 : BitVec 32 := Scalar.muli arg26 c8_i32_158
  let v356 : BitVec 32 := Scalar.addi v355 c0_i32_159
  let v357 : BitVec 32 := Scalar.subi c255_i32 v356
  let v358 : BitVec 32 := Scalar.addi v357 c0_i32_160
  let v359 : Index := Scalar.indexCast v358
  let c0_161 : Index := 0#32
  ![v359.toNat, 0]
def k0_off60 (i : grid0.Coords) (c0_i32_100 : BitVec 32) : Fin 2 → Nat :=
  let arg0 : BitVec 32 := BitVec.ofNat 32 (i 0).val
  let c24_i32 : BitVec 32 := 24#32
  let v242 : BitVec 32 := Scalar.muli arg0 c24_i32
  let v243 : BitVec 32 := Scalar.addi v242 c0_i32_100
  let v244 : Index := Scalar.indexCast v243
  let c0_101 : Index := 0#32
  ![v244.toNat, 0]
@[reducible] def k0_t4_loop : Scf.Loop 32 :=
  let c0_i32_118 : BitVec 32 := 0#32
  let c8_i32_119 : BitVec 32 := 8#32
  let v293 : BitVec 32 := Scalar.addi c0_i32_118 c8_i32_119
  let c1_i32_120 : BitVec 32 := 1#32
  ⟨c0_i32_118, v293, c1_i32_120⟩
def k0_off61 (k0_t4 : Fin k0_t4_loop.trips) (c0_i32_159 : BitVec 32) : Fin 2 → Nat :=
  let c0_i32_118 : BitVec 32 := 0#32
  let c1_i32_120 : BitVec 32 := 1#32
  let arg26 : BitVec 32 := Scf.iv c0_i32_118 c1_i32_120 k0_t4
  let c8_i32_158 : BitVec 32 := 8#32
  let v355 : BitVec 32 := Scalar.muli arg26 c8_i32_158
  let v356 : BitVec 32 := Scalar.addi v355 c0_i32_159
  let v357 : Index := Scalar.indexCast v356
  let c0_160 : Index := 0#32
  ![v357.toNat, 0]
@[reducible] def k0_t5_loop : Scf.Loop 32 :=
  let c0_i32_130 : BitVec 32 := 0#32
  let c8_i32_131 : BitVec 32 := 8#32
  let v316 : BitVec 32 := Scalar.addi c0_i32_130 c8_i32_131
  let c1_i32_132 : BitVec 32 := 1#32
  ⟨c0_i32_130, v316, c1_i32_132⟩
def k0_off62 (k0_t5 : Fin k0_t5_loop.trips) (c0_i32_159 : BitVec 32) : Fin 2 → Nat :=
  let c0_i32_130 : BitVec 32 := 0#32
  let c1_i32_132 : BitVec 32 := 1#32
  let arg26 : BitVec 32 := Scf.iv c0_i32_130 c1_i32_132 k0_t5
  let c8_i32_158 : BitVec 32 := 8#32
  let v355 : BitVec 32 := Scalar.muli arg26 c8_i32_158
  let v356 : BitVec 32 := Scalar.addi v355 c0_i32_159
  let v357 : Index := Scalar.indexCast v356
  let c0_160 : Index := 0#32
  ![v357.toNat, 0]
@[reducible] def k0_t6_loop : Scf.Loop 32 :=
  let c0_i32_134 : BitVec 32 := 0#32
  let c8_i32_135 : BitVec 32 := 8#32
  let v318 : BitVec 32 := Scalar.addi c0_i32_134 c8_i32_135
  let c1_i32_136 : BitVec 32 := 1#32
  ⟨c0_i32_134, v318, c1_i32_136⟩
def k0_off63 (k0_t6 : Fin k0_t6_loop.trips) (c0_i32_159 : BitVec 32) : Fin 2 → Nat :=
  let c63_i32 : BitVec 32 := 63#32
  let c0_i32_134 : BitVec 32 := 0#32
  let c1_i32_136 : BitVec 32 := 1#32
  let arg26 : BitVec 32 := Scf.iv c0_i32_134 c1_i32_136 k0_t6
  let c8_i32_158 : BitVec 32 := 8#32
  let v355 : BitVec 32 := Scalar.muli arg26 c8_i32_158
  let v356 : BitVec 32 := Scalar.addi v355 c0_i32_159
  let v357 : BitVec 32 := Scalar.subi c63_i32 v356
  let v358 : Index := Scalar.indexCast v357
  let c0_160 : Index := 0#32
  ![v358.toNat, 0]
@[reducible] def k0_t7_loop : Scf.Loop 32 :=
  let c0_i32_143 : BitVec 32 := 0#32
  let c8_i32_144 : BitVec 32 := 8#32
  let v335 : BitVec 32 := Scalar.addi c0_i32_143 c8_i32_144
  let c1_i32_145 : BitVec 32 := 1#32
  ⟨c0_i32_143, v335, c1_i32_145⟩
def k0_off64 (k0_t7 : Fin k0_t7_loop.trips) (c0_i32_159 : BitVec 32) : Fin 2 → Nat :=
  let c63_i32 : BitVec 32 := 63#32
  let c0_i32_143 : BitVec 32 := 0#32
  let c1_i32_145 : BitVec 32 := 1#32
  let arg26 : BitVec 32 := Scf.iv c0_i32_143 c1_i32_145 k0_t7
  let c8_i32_158 : BitVec 32 := 8#32
  let v355 : BitVec 32 := Scalar.muli arg26 c8_i32_158
  let v356 : BitVec 32 := Scalar.addi v355 c0_i32_159
  let v357 : BitVec 32 := Scalar.subi c63_i32 v356
  let v358 : Index := Scalar.indexCast v357
  let c0_160 : Index := 0#32
  ![v358.toNat, 0]
@[reducible] def k0_t8_loop : Scf.Loop 32 :=
  let c0_i32_149 : BitVec 32 := 0#32
  let c8_i32_150 : BitVec 32 := 8#32
  let v343 : BitVec 32 := Scalar.addi c0_i32_149 c8_i32_150
  let c1_i32_151 : BitVec 32 := 1#32
  ⟨c0_i32_149, v343, c1_i32_151⟩
def k0_off65 (k0_t8 : Fin k0_t8_loop.trips) (c0_i32_160 : BitVec 32) : Fin 2 → Nat :=
  let c0_i32_149 : BitVec 32 := 0#32
  let c1_i32_151 : BitVec 32 := 1#32
  let arg26 : BitVec 32 := Scf.iv c0_i32_149 c1_i32_151 k0_t8
  let c32_i32_159 : BitVec 32 := 32#32
  let v356 : BitVec 32 := Scalar.muli arg26 c32_i32_159
  let v357 : BitVec 32 := Scalar.addi c0_i32_160 v356
  let v358 : Index := Scalar.indexCast v357
  let c0_161 : Index := 0#32
  ![v358.toNat, 0]
def k0_off66 (k0_t8 : Fin k0_t8_loop.trips) (c0_i32_214 : BitVec 32) : Fin 2 → Nat :=
  let c0_i32_149 : BitVec 32 := 0#32
  let c1_i32_151 : BitVec 32 := 1#32
  let arg26 : BitVec 32 := Scf.iv c0_i32_149 c1_i32_151 k0_t8
  let c0_i32_208 : BitVec 32 := 0#32
  let v516 : BitVec 1 := Scalar.cmpi .sgt arg26 c0_i32_208
  let v517 : BitVec 32 := Scalar.extui v516
  let c0_i32_209 : BitVec 32 := 0#32
  let v518 : BitVec 1 := Scalar.cmpi .slt arg26 c0_i32_209
  let v519 : BitVec 32 := Scalar.extui v518
  let v520 : BitVec 32 := Scalar.subi v517 v519
  let c2_i32 : BitVec 32 := 2#32
  let c0_i32_210 : BitVec 32 := 0#32
  let v521 : BitVec 1 := Scalar.cmpi .sgt c2_i32 c0_i32_210
  let v522 : BitVec 32 := Scalar.extui v521
  let c0_i32_211 : BitVec 32 := 0#32
  let v523 : BitVec 1 := Scalar.cmpi .slt c2_i32 c0_i32_211
  let v524 : BitVec 32 := Scalar.extui v523
  let v525 : BitVec 32 := Scalar.subi v522 v524
  let v526 : BitVec 1 := Scalar.cmpi .ne v520 v525
  let v527 : BitVec 32 := Scalar.remsi arg26 c2_i32
  let c0_i32_212 : BitVec 32 := 0#32
  let v528 : BitVec 1 := Scalar.cmpi .ne v527 c0_i32_212
  let v529 : BitVec 1 := Scalar.andi v526 v528
  let v515 : BitVec 32 := Scalar.divsi arg26 c2_i32
  let c1_i32_213 : BitVec 32 := 1#32
  let v530 : BitVec 32 := Scalar.subi v515 c1_i32_213
  let v531 : BitVec 32 := Scalar.select v529 v530 v515
  let v532 : BitVec 32 := Scalar.addi c0_i32_214 v531
  let c68_i32 : BitVec 32 := 68#32
  let v533 : BitVec 32 := Scalar.muli v532 c68_i32
  let c2_i32_215 : BitVec 32 := 2#32
  let c0_i32_216 : BitVec 32 := 0#32
  let v534 : BitVec 1 := Scalar.cmpi .eq c2_i32_215 c0_i32_216
  let c1_i32_217 : BitVec 32 := 1#32
  let v535 : BitVec 32 := Scalar.select v534 c1_i32_217 c2_i32_215
  let v536 : BitVec 32 := Scalar.remsi arg26 v535
  let c0_i32_219 : BitVec 32 := 0#32
  let v538 : BitVec 1 := Scalar.cmpi .slt v536 c0_i32_219
  let c0_i32_220 : BitVec 32 := 0#32
  let v539 : BitVec 1 := Scalar.cmpi .slt v535 c0_i32_220
  let v540 : BitVec 1 := Scalar.xori v538 v539
  let c0_i32_218 : BitVec 32 := 0#32
  let v537 : BitVec 1 := Scalar.cmpi .ne v536 c0_i32_218
  let v541 : BitVec 1 := Scalar.andi v540 v537
  let v542 : BitVec 32 := Scalar.addi v536 v535
  let v543 : BitVec 32 := Scalar.select v541 v542 v536
  let c32_i32_221 : BitVec 32 := 32#32
  let v544 : BitVec 32 := Scalar.muli v543 c32_i32_221
  let v545 : BitVec 32 := Scalar.addi v533 v544
  let v546 : Index := Scalar.indexCast v545
  let c0_222 : Index := 0#32
  ![v546.toNat, 0]
@[reducible] def k0_t9_loop : Scf.Loop 32 :=
  let c0_i32_246 : BitVec 32 := 0#32
  let c254_i32 : BitVec 32 := 254#32
  let v601 : BitVec 32 := Scalar.addi c0_i32_246 c254_i32
  let c1_i32_247 : BitVec 32 := 1#32
  ⟨c0_i32_246, v601, c1_i32_247⟩
def k0_off67 (k0_t8 : Fin k0_t8_loop.trips) : Fin 2 → Nat :=
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v611 : Index := Scalar.indexCast v355
  let c0_252 : Index := 0#32
  ![v611.toNat, 0]
def k0_off68 (k0_t8 : Fin k0_t8_loop.trips) : Fin 3 → Nat :=
  let c0_258 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v625 : Index := Scalar.indexCast v355
  let c0_259 : Index := 0#32
  ![0, v625.toNat, 0]
def k0_off69 (k0_t8 : Fin k0_t8_loop.trips) : Fin 3 → Nat :=
  let c0_263 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v637 : Index := Scalar.indexCast v355
  let c2304 : Index := 2304#32
  ![0, v637.toNat, 2304]
def k0_off70 (k0_t8 : Fin k0_t8_loop.trips) : Fin 3 → Nat :=
  let c0_269 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v651 : Index := Scalar.indexCast v355
  let c128_270 : Index := 128#32
  ![0, v651.toNat, 128]
def k0_off71 (k0_t8 : Fin k0_t8_loop.trips) : Fin 3 → Nat :=
  let c0_274 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v663 : Index := Scalar.indexCast v355
  let c2432 : Index := 2432#32
  ![0, v663.toNat, 2432]
def k0_off72 (k0_t8 : Fin k0_t8_loop.trips) : Fin 3 → Nat :=
  let c0_280 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v677 : Index := Scalar.indexCast v355
  let c256_281 : Index := 256#32
  ![0, v677.toNat, 256]
def k0_off73 (k0_t8 : Fin k0_t8_loop.trips) : Fin 3 → Nat :=
  let c0_285 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v689 : Index := Scalar.indexCast v355
  let c2560 : Index := 2560#32
  ![0, v689.toNat, 2560]
def k0_off74 (k0_t8 : Fin k0_t8_loop.trips) : Fin 3 → Nat :=
  let c0_291 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v703 : Index := Scalar.indexCast v355
  let c384_292 : Index := 384#32
  ![0, v703.toNat, 384]
def k0_off75 (k0_t8 : Fin k0_t8_loop.trips) : Fin 3 → Nat :=
  let c0_296 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v715 : Index := Scalar.indexCast v355
  let c2688 : Index := 2688#32
  ![0, v715.toNat, 2688]
def k0_off76 (k0_t8 : Fin k0_t8_loop.trips) : Fin 3 → Nat :=
  let c0_302 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v729 : Index := Scalar.indexCast v355
  let c512_303 : Index := 512#32
  ![0, v729.toNat, 512]
def k0_off77 (k0_t8 : Fin k0_t8_loop.trips) : Fin 3 → Nat :=
  let c0_307 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v741 : Index := Scalar.indexCast v355
  let c2816 : Index := 2816#32
  ![0, v741.toNat, 2816]
def k0_off78 (k0_t8 : Fin k0_t8_loop.trips) : Fin 3 → Nat :=
  let c0_313 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v755 : Index := Scalar.indexCast v355
  let c640_314 : Index := 640#32
  ![0, v755.toNat, 640]
def k0_off79 (k0_t8 : Fin k0_t8_loop.trips) : Fin 3 → Nat :=
  let c0_318 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v767 : Index := Scalar.indexCast v355
  let c2944 : Index := 2944#32
  ![0, v767.toNat, 2944]
def k0_off80 (k0_t8 : Fin k0_t8_loop.trips) : Fin 3 → Nat :=
  let c0_324 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v781 : Index := Scalar.indexCast v355
  let c768_325 : Index := 768#32
  ![0, v781.toNat, 768]
def k0_off81 (k0_t8 : Fin k0_t8_loop.trips) : Fin 3 → Nat :=
  let c0_329 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v793 : Index := Scalar.indexCast v355
  let c3072 : Index := 3072#32
  ![0, v793.toNat, 3072]
def k0_off82 (k0_t8 : Fin k0_t8_loop.trips) : Fin 3 → Nat :=
  let c0_335 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v807 : Index := Scalar.indexCast v355
  let c896_336 : Index := 896#32
  ![0, v807.toNat, 896]
def k0_off83 (k0_t8 : Fin k0_t8_loop.trips) : Fin 3 → Nat :=
  let c0_340 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v819 : Index := Scalar.indexCast v355
  let c3200 : Index := 3200#32
  ![0, v819.toNat, 3200]
def k0_off84 (k0_t8 : Fin k0_t8_loop.trips) : Fin 3 → Nat :=
  let c0_346 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v833 : Index := Scalar.indexCast v355
  let c1024_347 : Index := 1024#32
  ![0, v833.toNat, 1024]
def k0_off85 (k0_t8 : Fin k0_t8_loop.trips) : Fin 3 → Nat :=
  let c0_351 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v845 : Index := Scalar.indexCast v355
  let c3328 : Index := 3328#32
  ![0, v845.toNat, 3328]
def k0_off86 (k0_t8 : Fin k0_t8_loop.trips) : Fin 3 → Nat :=
  let c0_357 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v859 : Index := Scalar.indexCast v355
  let c1152_358 : Index := 1152#32
  ![0, v859.toNat, 1152]
def k0_off87 (k0_t8 : Fin k0_t8_loop.trips) : Fin 3 → Nat :=
  let c0_362 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v871 : Index := Scalar.indexCast v355
  let c3456 : Index := 3456#32
  ![0, v871.toNat, 3456]
def k0_off88 (k0_t8 : Fin k0_t8_loop.trips) : Fin 3 → Nat :=
  let c0_368 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v885 : Index := Scalar.indexCast v355
  let c1280_369 : Index := 1280#32
  ![0, v885.toNat, 1280]
def k0_off89 (k0_t8 : Fin k0_t8_loop.trips) : Fin 3 → Nat :=
  let c0_373 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v897 : Index := Scalar.indexCast v355
  let c3584 : Index := 3584#32
  ![0, v897.toNat, 3584]
def k0_off90 (k0_t8 : Fin k0_t8_loop.trips) : Fin 3 → Nat :=
  let c0_379 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v911 : Index := Scalar.indexCast v355
  let c1408_380 : Index := 1408#32
  ![0, v911.toNat, 1408]
def k0_off91 (k0_t8 : Fin k0_t8_loop.trips) : Fin 3 → Nat :=
  let c0_384 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v923 : Index := Scalar.indexCast v355
  let c3712 : Index := 3712#32
  ![0, v923.toNat, 3712]
def k0_off92 (k0_t8 : Fin k0_t8_loop.trips) : Fin 3 → Nat :=
  let c0_390 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v937 : Index := Scalar.indexCast v355
  let c1536_391 : Index := 1536#32
  ![0, v937.toNat, 1536]
def k0_off93 (k0_t8 : Fin k0_t8_loop.trips) : Fin 3 → Nat :=
  let c0_395 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v949 : Index := Scalar.indexCast v355
  let c3840 : Index := 3840#32
  ![0, v949.toNat, 3840]
def k0_off94 (k0_t8 : Fin k0_t8_loop.trips) : Fin 3 → Nat :=
  let c0_401 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v963 : Index := Scalar.indexCast v355
  let c1664_402 : Index := 1664#32
  ![0, v963.toNat, 1664]
def k0_off95 (k0_t8 : Fin k0_t8_loop.trips) : Fin 3 → Nat :=
  let c0_406 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v975 : Index := Scalar.indexCast v355
  let c3968 : Index := 3968#32
  ![0, v975.toNat, 3968]
def k0_off96 (k0_t8 : Fin k0_t8_loop.trips) : Fin 3 → Nat :=
  let c0_412 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v989 : Index := Scalar.indexCast v355
  let c1792_413 : Index := 1792#32
  ![0, v989.toNat, 1792]
def k0_off97 (k0_t8 : Fin k0_t8_loop.trips) : Fin 3 → Nat :=
  let c0_417 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v1001 : Index := Scalar.indexCast v355
  let c4096 : Index := 4096#32
  ![0, v1001.toNat, 4096]
def k0_off98 (k0_t8 : Fin k0_t8_loop.trips) : Fin 3 → Nat :=
  let c0_423 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v1015 : Index := Scalar.indexCast v355
  let c1920_424 : Index := 1920#32
  ![0, v1015.toNat, 1920]
def k0_off99 (k0_t8 : Fin k0_t8_loop.trips) : Fin 3 → Nat :=
  let c0_428 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v1027 : Index := Scalar.indexCast v355
  let c4224 : Index := 4224#32
  ![0, v1027.toNat, 4224]
def k0_off100 (k0_t8 : Fin k0_t8_loop.trips) : Fin 3 → Nat :=
  let c0_448 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v1070 : Index := Scalar.indexCast v355
  let c2048_449 : Index := 2048#32
  ![0, v1070.toNat, 2048]
def k0_off101 (k0_t8 : Fin k0_t8_loop.trips) : Fin 3 → Nat :=
  let c0_453 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v1082 : Index := Scalar.indexCast v355
  let c4352 : Index := 4352#32
  ![0, v1082.toNat, 4352]
def k0_off102 (k0_t8 : Fin k0_t8_loop.trips) : Fin 3 → Nat :=
  let c0_473 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v1125 : Index := Scalar.indexCast v355
  let c2176_474 : Index := 2176#32
  ![0, v1125.toNat, 2176]
def k0_off103 (k0_t8 : Fin k0_t8_loop.trips) : Fin 3 → Nat :=
  let c0_478 : Index := 0#32
  let c0_i32_149 : BitVec 32 := 0#32
  let c1_i32_151 : BitVec 32 := 1#32
  let arg26 : BitVec 32 := Scf.iv c0_i32_149 c1_i32_151 k0_t8
  let c32_i32_158 : BitVec 32 := 32#32
  let v355 : BitVec 32 := Scalar.muli arg26 c32_i32_158
  let v1137 : Index := Scalar.indexCast v355
  let c4480 : Index := 4480#32
  ![0, v1137.toNat, 4480]
def k0_off104 (i : grid0.Coords) : Fin 2 → Nat :=
  let arg0 : BitVec 32 := BitVec.ofNat 32 (i 0).val
  let c8_i32_155 : BitVec 32 := 8#32
  let v347 : BitVec 32 := Scalar.muli arg0 c8_i32_155
  let v348 : Index := Scalar.indexCast v347
  let c0_156 : Index := 0#32
  ![v348.toNat, 0]
def k0_cond1 (i : grid0.Coords) : BitVec 1 :=
  let arg0 : BitVec 32 := BitVec.ofNat 32 (i 0).val
  let c5_i32 : BitVec 32 := 5#32
  let v352 : BitVec 1 := Scalar.cmpi .eq arg0 c5_i32
  let v353 : BitVec 32 := Scalar.extui v352
  let c0_i32_157 : BitVec 32 := 0#32
  let v354 : BitVec 1 := Scalar.cmpi .ne v353 c0_i32_157
  v354

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2304 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4608 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x4608 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x2304 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelScanIdeal.lean ====
variable {F : FTy → Type} [FloatOps F] [Named F]
def κ : String → Option EReal := fun
  | "neg_log2e" => some ((-((Real.log 2)⁻¹) : ℝ) : EReal)
  | _ => none
-- ==== RefDh0Ideal.lean ====
abbrev S6x256x2304 : Shape := ⟨3, ![6, 256, 2304]⟩
abbrev S6x256 : Shape := ⟨2, ![6, 256]⟩
abbrev S6x256x4608 : Shape := ⟨3, ![6, 256, 4608]⟩
abbrev S6x2304 : Shape := ⟨2, ![6, 2304]⟩
abbrev S6x1x2304 : Shape := ⟨3, ![6, 1, 2304]⟩
abbrev S6x1 : Shape := ⟨2, ![6, 1]⟩

abbrev nBuf : Space → Nat
  | .hbm => 6
  | .vmem => 5
  | .smem => 0
  | _ => 0

abbrev bufTy : (tb : Table) → Fin (tcTables nBuf tb) → BufTy
  | .hbm, ⟨0, _⟩ => ⟨S6x256x2304, .fp8e5m2⟩
  | .hbm, ⟨1, _⟩ => ⟨S6x256, .f32⟩
  | .hbm, ⟨2, _⟩ => ⟨S6x256x4608, .fp8e4m3⟩
  | .hbm, ⟨3, _⟩ => ⟨S6x256, .f32⟩
  | .hbm, ⟨4, _⟩ => ⟨S6x2304, .f32⟩
  | .hbm, ⟨5, _⟩ => ⟨S6x2304, .f32⟩
  | .local _ .vmem, ⟨0, _⟩ => ⟨S6x256x2304, .fp8e5m2⟩
  | .local _ .vmem, ⟨1, _⟩ => ⟨S6x256, .f32⟩
  | .local _ .vmem, ⟨2, _⟩ => ⟨S6x256x4608, .fp8e4m3⟩
  | .local _ .vmem, ⟨3, _⟩ => ⟨S6x256, .f32⟩
  | .local _ .vmem, ⟨4, _⟩ => ⟨S6x2304, .f32⟩
  | _, _ => ⟨S6x256x2304, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c256_i32 : BitVec 32 := 256#32
  let v1 : BitVec 32 := Scalar.addi c0_i32 c256_i32
  let c1_i32 : BitVec 32 := 1#32
  ⟨c0_i32, v1, c1_i32⟩
def k0_off1 (k0_t1 : Fin k0_t1_loop.trips) : Fin 3 → Nat :=
  let c0_2 : Index := 0#32
  let c255_i32 : BitVec 32 := 255#32
  let c0_i32 : BitVec 32 := 0#32
  let c1_i32 : BitVec 32 := 1#32
  let arg5 : BitVec 32 := Scf.iv c0_i32 c1_i32 k0_t1
  let v4 : BitVec 32 := Scalar.subi c255_i32 arg5
  let v5 : Index := Scalar.indexCast v4
  let c0_3 : Index := 0#32
  ![0, v5.toNat, 0]
def k0_off2 (k0_t1 : Fin k0_t1_loop.trips) : Fin 2 → Nat :=
  let c0_4 : Index := 0#32
  let c255_i32 : BitVec 32 := 255#32
  let c0_i32 : BitVec 32 := 0#32
  let c1_i32 : BitVec 32 := 1#32
  let arg5 : BitVec 32 := Scf.iv c0_i32 c1_i32 k0_t1
  let v4 : BitVec 32 := Scalar.subi c255_i32 arg5
  let v9 : Index := Scalar.indexCast v4
  ![0, v9.toNat]
def k0_off3 (k0_t1 : Fin k0_t1_loop.trips) : Fin 3 → Nat :=
  let c0_5 : Index := 0#32
  let c255_i32 : BitVec 32 := 255#32
  let c0_i32 : BitVec 32 := 0#32
  let c1_i32 : BitVec 32 := 1#32
  let arg5 : BitVec 32 := Scf.iv c0_i32 c1_i32 k0_t1
  let v4 : BitVec 32 := Scalar.subi c255_i32 arg5
  let v13 : Index := Scalar.indexCast v4
  let c0_6 : Index := 0#32
  ![0, v13.toNat, 0]
abbrev stage0_0 : Fin 1 → Memref sig .tc .vmem S6x256x2304 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelDx.lean ====
abbrev S6x256x4608 : Shape := ⟨3, ![6, 256, 4608]⟩
abbrev S4608x1536 : Shape := ⟨2, ![4608, 1536]⟩
abbrev S4608 : Shape := ⟨1, ![4608]⟩
abbrev S6x256 : Shape := ⟨2, ![6, 256]⟩
abbrev S1x4608 : Shape := ⟨2, ![1, 4608]⟩
abbrev S6x256x1536 : Shape := ⟨3, ![6, 256, 1536]⟩
abbrev S1x256x4608 : Shape := ⟨3, ![1, 256, 4608]⟩
abbrev S1x256x1536 : Shape := ⟨3, ![1, 256, 1536]⟩
abbrev S1x128 : Shape := ⟨2, ![1, 128]⟩
abbrev S128x128 : Shape := ⟨2, ![128, 128]⟩
abbrev S128x1536 : Shape := ⟨2, ![128, 1536]⟩
abbrev S256x4608 : Shape := ⟨2, ![256, 4608]⟩
abbrev S256x1536 : Shape := ⟨2, ![256, 1536]⟩
abbrev S256 : Shape := ⟨1, ![256]⟩
abbrev S1x256 : Shape := ⟨2, ![1, 256]⟩
abbrev S128x256 : Shape := ⟨2, ![128, 256]⟩
abbrev S256x128 : Shape := ⟨2, ![256, 128]⟩

abbrev nBuf : Space → Nat
  | .hbm => 6
  | .vmem => 8
  | .smem => 0
  | _ => 0

abbrev bufTy : (tb : Table) → Fin (tcTables nBuf tb) → BufTy
  | .hbm, ⟨0, _⟩ => ⟨S6x256x4608, .fp8e5m2⟩
  | .hbm, ⟨1, _⟩ => ⟨S4608x1536, .fp8e4m3⟩
  | .hbm, ⟨2, _⟩ => ⟨S4608, .f32⟩
  | .hbm, ⟨3, _⟩ => ⟨S6x256, .f32⟩
  | .hbm, ⟨4, _⟩ => ⟨S1x4608, .f32⟩
  | .hbm, ⟨5, _⟩ => ⟨S6x256x1536, .bf16⟩
  | .local _ .vmem, ⟨0, _⟩ => ⟨S1x256x4608, .fp8e5m2⟩
  | .local _ .vmem, ⟨1, _⟩ => ⟨S1x256x4608, .fp8e5m2⟩
  | .local _ .vmem, ⟨2, _⟩ => ⟨S4608x1536, .fp8e4m3⟩
  | .local _ .vmem, ⟨3, _⟩ => ⟨S1x4608, .f32⟩
  | .local _ .vmem, ⟨4, _⟩ => ⟨S6x256, .f32⟩
  | .local _ .vmem, ⟨5, _⟩ => ⟨S1x256x1536, .bf16⟩
  | .local _ .vmem, ⟨6, _⟩ => ⟨S1x256x1536, .bf16⟩
  | .local _ .vmem, ⟨7, _⟩ => ⟨S4608x1536, .bf16⟩
  | _, _ => ⟨S6x256x4608, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4608 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefDxIdeal.lean ====
abbrev S6x256x4608 : Shape := ⟨3, ![6, 256, 4608]⟩
abbrev S4608x1536 : Shape := ⟨2, ![4608, 1536]⟩
abbrev S4608 : Shape := ⟨1, ![4608]⟩
abbrev S6x256 : Shape := ⟨2, ![6, 256]⟩
abbrev S6x256x1536 : Shape := ⟨3, ![6, 256, 1536]⟩
abbrev S4608x1 : Shape := ⟨2, ![4608, 1]⟩
abbrev S6x256x1 : Shape := ⟨3, ![6, 256, 1]⟩

abbrev nBuf : Space → Nat
  | .hbm => 5
  | .vmem => 5
  | .smem => 0
  | _ => 0

abbrev bufTy : (tb : Table) → Fin (tcTables nBuf tb) → BufTy
  | .hbm, ⟨0, _⟩ => ⟨S6x256x4608, .fp8e5m2⟩
  | .hbm, ⟨1, _⟩ => ⟨S4608x1536, .fp8e4m3⟩
  | .hbm, ⟨2, _⟩ => ⟨S4608, .f32⟩
  | .hbm, ⟨3, _⟩ => ⟨S6x256, .f32⟩
  | .hbm, ⟨4, _⟩ => ⟨S6x256x1536, .bf16⟩
  | .local _ .vmem, ⟨0, _⟩ => ⟨S6x256x4608, .fp8e5m2⟩
  | .local _ .vmem, ⟨1, _⟩ => ⟨S4608x1536, .fp8e4m3⟩
  | .local _ .vmem, ⟨2, _⟩ => ⟨S4608, .f32⟩
  | .local _ .vmem, ⟨3, _⟩ => ⟨S6x256, .f32⟩
  | .local _ .vmem, ⟨4, _⟩ => ⟨S6x256x1536, .bf16⟩
  | _, _ => ⟨S6x256x4608, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6x256x4608 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelDw.lean ====
abbrev S6x256x4608 : Shape := ⟨3, ![6, 256, 4608]⟩
abbrev S6x256x1536 : Shape := ⟨3, ![6, 256, 1536]⟩
abbrev S6x256 : Shape := ⟨2, ![6, 256]⟩
abbrev S1536x4608 : Shape := ⟨2, ![1536, 4608]⟩
abbrev S1536x1536 : Shape := ⟨2, ![1536, 1536]⟩
abbrev S4608x1536 : Shape := ⟨2, ![4608, 1536]⟩
abbrev S1536x256 : Shape := ⟨2, ![1536, 256]⟩
abbrev S256x1536 : Shape := ⟨2, ![256, 1536]⟩
abbrev S1x256 : Shape := ⟨2, ![1, 256]⟩
abbrev S128x256 : Shape := ⟨2, ![128, 256]⟩
abbrev S256x128 : Shape := ⟨2, ![256, 128]⟩

abbrev nBuf : Space → Nat
  | .hbm => 7
  | .vmem => 8
  | .smem => 0
  | _ => 0

abbrev bufTy : (tb : Table) → Fin (tcTables nBuf tb) → BufTy
  | .hbm, ⟨0, _⟩ => ⟨S6x256x4608, .fp8e5m2⟩
  | .hbm, ⟨1, _⟩ => ⟨S6x256x1536, .fp8e4m3⟩
  | .hbm, ⟨2, _⟩ => ⟨S6x256, .f32⟩
  | .hbm, ⟨3, _⟩ => ⟨S6x256, .f32⟩
  | .hbm, ⟨4, _⟩ => ⟨S1536x4608, .fp8e5m2⟩
  | .hbm, ⟨5, _⟩ => ⟨S1536x1536, .fp8e4m3⟩
  | .hbm, ⟨6, _⟩ => ⟨S4608x1536, .f32⟩
  | .local _ .vmem, ⟨0, _⟩ => ⟨S1536x256, .fp8e5m2⟩
  | .local _ .vmem, ⟨1, _⟩ => ⟨S1536x256, .fp8e5m2⟩
  | .local _ .vmem, ⟨2, _⟩ => ⟨S1536x1536, .fp8e4m3⟩
  | .local _ .vmem, ⟨3, _⟩ => ⟨S6x256, .f32⟩
  | .local _ .vmem, ⟨4, _⟩ => ⟨S6x256, .f32⟩
  | .local _ .vmem, ⟨5, _⟩ => ⟨S256x1536, .f32⟩
  | .local _ .vmem, ⟨6, _⟩ => ⟨S256x1536, .f32⟩
  | .local _ .vmem, ⟨7, _⟩ => ⟨S1536x1536, .bf16⟩
  | _, _ => ⟨S6x256x4608, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefDwIdeal.lean ====
abbrev S6x256x4608 : Shape := ⟨3, ![6, 256, 4608]⟩
abbrev S6x256x1536 : Shape := ⟨3, ![6, 256, 1536]⟩
abbrev S6x256 : Shape := ⟨2, ![6, 256]⟩
abbrev S4608x1536 : Shape := ⟨2, ![4608, 1536]⟩
abbrev S6x256x1 : Shape := ⟨3, ![6, 256, 1]⟩

abbrev nBuf : Space → Nat
  | .hbm => 5
  | .vmem => 5
  | .smem => 0
  | _ => 0

abbrev bufTy : (tb : Table) → Fin (tcTables nBuf tb) → BufTy
  | .hbm, ⟨0, _⟩ => ⟨S6x256x4608, .fp8e5m2⟩
  | .hbm, ⟨1, _⟩ => ⟨S6x256x1536, .fp8e4m3⟩
  | .hbm, ⟨2, _⟩ => ⟨S6x256, .f32⟩
  | .hbm, ⟨3, _⟩ => ⟨S6x256, .f32⟩
  | .hbm, ⟨4, _⟩ => ⟨S4608x1536, .f32⟩
  | .local _ .vmem, ⟨0, _⟩ => ⟨S6x256x4608, .fp8e5m2⟩
  | .local _ .vmem, ⟨1, _⟩ => ⟨S6x256x1536, .fp8e4m3⟩
  | .local _ .vmem, ⟨2, _⟩ => ⟨S6x256, .f32⟩
  | .local _ .vmem, ⟨3, _⟩ => ⟨S6x256, .f32⟩
  | .local _ .vmem, ⟨4, _⟩ => ⟨S4608x1536, .f32⟩
  | _, _ => ⟨S6x256x4608, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6x256x4608 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.ScanLoops.lean ====
/- The counted loops of the scan's body whose stores go through strided rows: each keeps the buffers it touches, at any contents. -/
module

public import proofs.«01_k».proof.Proof.Gen.KernelScan.Loops

@[expose] public section

set_option maxRecDepth 8192
set_option maxHeartbeats 4000000

noncomputable section

namespace Cert.KernelScan.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Loop 2: the buffers it touches, at any contents. -/
@[sl_loop] def loopInv_k0_t2 (𝒱 : Variants) (c : Dev nD) (bd : Option 𝒱.V) (E : Set ℕ) (i : grid0.Coords) (arg1 : Memref sig .tc .vmem S1x256x2304 .fp8e5m2) (harg1 : arg1.IsWhole) (arg2 : Memref sig .tc .vmem S1x256x4608 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S6x2304 .f32) (harg5 : arg5.IsWhole) (arg6 : Memref sig .tc .vmem S1x256x4608 .fp8e5m2) (harg6 : arg6.IsWhole) (arg7 : Memref sig .tc .vmem S6x256 .f32) (harg7 : arg7.IsWhole) (arg8 : Memref sig .tc .vmem S6x2304 .f32) (harg8 : arg8.IsWhole) (arg9 : Memref sig .tc .vmem S4160x128 .f32) (harg9 : arg9.IsWhole) (arg10 : Memref sig .tc .vmem S4160x128 .f32) (harg10 : arg10.IsWhole) (arg11 : Memref sig .tc .vmem S4160x128 .f32) (harg11 : arg11.IsWhole) (arg12 : Memref sig .tc .vmem S4160x128 .f32) (harg12 : arg12.IsWhole) (arg13 : Memref sig .tc .vmem S544x128 .f32) (harg13 : arg13.IsWhole) (arg14 : Memref sig .tc .vmem S544x128 .f32) (harg14 : arg14.IsWhole) (arg15 : Memref sig .tc .vmem S544x128 .f32) (harg15 : arg15.IsWhole) (arg16 : Memref sig .tc .vmem S544x128 .f32) (harg16 : arg16.IsWhole) (arg17 : Memref sig .tc .vmem S544x128 .f32) (harg17 : arg17.IsWhole) (arg18 : Memref sig .tc .vmem S544x128 .f32) (harg18 : arg18.IsWhole) (arg19 : Memref sig .tc .vmem S24x128 .f32) (harg19 : arg19.IsWhole) (arg20 : Memref sig .tc .vmem S144x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S48x256 .f32) (harg25 : arg25.IsWhole) (arg0 : BitVec 32) (v222 : FVec F S1x128 .f32) (init : Vec F S8x128 .f32 × Vec F S8x128 .f32) :
    Gen.LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v222 init where
  inv _ _ := iprop((∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f))
  step k acc := by
    iintro ⟨⟨%f9, H9⟩, ⟨%f10, H10⟩, ⟨%f11, H11⟩⟩
    unfold Gen.k0_t2_body
    sl_exec_parts
    sl_step
    isplitl [H9]; · iexists _; iexact H9
    isplitl [H10]; · iexists _; iexact H10
    iexists _; iexact H11

/-- Loop 3: the buffers it touches, at any contents. -/
@[sl_loop] def loopInv_k0_t3 (𝒱 : Variants) (c : Dev nD) (bd : Option 𝒱.V) (E : Set ℕ) (i : grid0.Coords) (arg1 : Memref sig .tc .vmem S1x256x2304 .fp8e5m2) (harg1 : arg1.IsWhole) (arg2 : Memref sig .tc .vmem S1x256x4608 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S6x2304 .f32) (harg5 : arg5.IsWhole) (arg6 : Memref sig .tc .vmem S1x256x4608 .fp8e5m2) (harg6 : arg6.IsWhole) (arg7 : Memref sig .tc .vmem S6x256 .f32) (harg7 : arg7.IsWhole) (arg8 : Memref sig .tc .vmem S6x2304 .f32) (harg8 : arg8.IsWhole) (arg9 : Memref sig .tc .vmem S4160x128 .f32) (harg9 : arg9.IsWhole) (arg10 : Memref sig .tc .vmem S4160x128 .f32) (harg10 : arg10.IsWhole) (arg11 : Memref sig .tc .vmem S4160x128 .f32) (harg11 : arg11.IsWhole) (arg12 : Memref sig .tc .vmem S4160x128 .f32) (harg12 : arg12.IsWhole) (arg13 : Memref sig .tc .vmem S544x128 .f32) (harg13 : arg13.IsWhole) (arg14 : Memref sig .tc .vmem S544x128 .f32) (harg14 : arg14.IsWhole) (arg15 : Memref sig .tc .vmem S544x128 .f32) (harg15 : arg15.IsWhole) (arg16 : Memref sig .tc .vmem S544x128 .f32) (harg16 : arg16.IsWhole) (arg17 : Memref sig .tc .vmem S544x128 .f32) (harg17 : arg17.IsWhole) (arg18 : Memref sig .tc .vmem S544x128 .f32) (harg18 : arg18.IsWhole) (arg19 : Memref sig .tc .vmem S24x128 .f32) (harg19 : arg19.IsWhole) (arg20 : Memref sig .tc .vmem S144x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S48x256 .f32) (harg25 : arg25.IsWhole) (arg0 : BitVec 32) (v222 : FVec F S1x128 .f32) (init : FVec F S8x128 .f32 × FVec F S8x128 .f32) :
    Gen.LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v222 init where
  inv _ _ := iprop((∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f))
  step k acc := by
    iintro ⟨⟨%f9, H9⟩, ⟨%f10, H10⟩, ⟨%f11, H11⟩, ⟨%f12, H12⟩⟩
    unfold Gen.k0_t3_body
    sl_exec_parts
    sl_step
    isplitl [H9]; · iexists _; iexact H9
    isplitl [H10]; · iexists _; iexact H10
    isplitl [H11]; · iexists _; iexact H11
    iexists _; iexact H12

/-- Loop 4: the buffers it touches, at any contents. -/
@[sl_loop] def loopInv_k0_t4 (𝒱 : Variants) (c : Dev nD) (bd : Option 𝒱.V) (E : Set ℕ) (i : grid0.Coords) (arg1 : Memref sig .tc .vmem S1x256x2304 .fp8e5m2) (harg1 : arg1.IsWhole) (arg2 : Memref sig .tc .vmem S1x256x4608 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S6x2304 .f32) (harg5 : arg5.IsWhole) (arg6 : Memref sig .tc .vmem S1x256x4608 .fp8e5m2) (harg6 : arg6.IsWhole) (arg7 : Memref sig .tc .vmem S6x256 .f32) (harg7 : arg7.IsWhole) (arg8 : Memref sig .tc .vmem S6x2304 .f32) (harg8 : arg8.IsWhole) (arg9 : Memref sig .tc .vmem S4160x128 .f32) (harg9 : arg9.IsWhole) (arg10 : Memref sig .tc .vmem S4160x128 .f32) (harg10 : arg10.IsWhole) (arg11 : Memref sig .tc .vmem S4160x128 .f32) (harg11 : arg11.IsWhole) (arg12 : Memref sig .tc .vmem S4160x128 .f32) (harg12 : arg12.IsWhole) (arg13 : Memref sig .tc .vmem S544x128 .f32) (harg13 : arg13.IsWhole) (arg14 : Memref sig .tc .vmem S544x128 .f32) (harg14 : arg14.IsWhole) (arg15 : Memref sig .tc .vmem S544x128 .f32) (harg15 : arg15.IsWhole) (arg16 : Memref sig .tc .vmem S544x128 .f32) (harg16 : arg16.IsWhole) (arg17 : Memref sig .tc .vmem S544x128 .f32) (harg17 : arg17.IsWhole) (arg18 : Memref sig .tc .vmem S544x128 .f32) (harg18 : arg18.IsWhole) (arg19 : Memref sig .tc .vmem S24x128 .f32) (harg19 : arg19.IsWhole) (arg20 : Memref sig .tc .vmem S144x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S48x256 .f32) (harg25 : arg25.IsWhole) (v239 : FVec F S8x128 .f32) (v254 : IVec S8x128 32) (v272 : IVec S8x128 1) (v290 : IVec S8x128 1) (v292 : FVec F S8x128 .f32) (c0_i32_118 : BitVec 32) (init : FVec F S8x128 .f32 × FVec F S8x128 .f32) :
    Gen.LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v239 v254 v272 v290 v292 c0_i32_118 init where
  inv _ _ := iprop((∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg17.view.loc (c : Thread nD τ) ↦[arg17.view.set]{fullShare} f) ∗ (∃ f, arg18.view.loc (c : Thread nD τ) ↦[arg18.view.set]{fullShare} f))
  step k acc := by
    iintro ⟨⟨%f13, H13⟩, ⟨%f14, H14⟩, ⟨%f15, H15⟩, ⟨%f17, H17⟩, ⟨%f18, H18⟩⟩
    unfold Gen.k0_t4_body
    sl_exec_parts
    sl_step
    isplitl [H13]; · iexists _; iexact H13
    isplitl [H14]; · iexists _; iexact H14
    isplitl [H15]; · iexists _; iexact H15
    isplitl [H17]; · iexists _; iexact H17
    iexists _; iexact H18

/-- Loop 5: the buffers it touches, at any contents. -/
@[sl_loop] def loopInv_k0_t5 (𝒱 : Variants) (c : Dev nD) (bd : Option 𝒱.V) (E : Set ℕ) (i : grid0.Coords) (arg1 : Memref sig .tc .vmem S1x256x2304 .fp8e5m2) (harg1 : arg1.IsWhole) (arg2 : Memref sig .tc .vmem S1x256x4608 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S6x2304 .f32) (harg5 : arg5.IsWhole) (arg6 : Memref sig .tc .vmem S1x256x4608 .fp8e5m2) (harg6 : arg6.IsWhole) (arg7 : Memref sig .tc .vmem S6x256 .f32) (harg7 : arg7.IsWhole) (arg8 : Memref sig .tc .vmem S6x2304 .f32) (harg8 : arg8.IsWhole) (arg9 : Memref sig .tc .vmem S4160x128 .f32) (harg9 : arg9.IsWhole) (arg10 : Memref sig .tc .vmem S4160x128 .f32) (harg10 : arg10.IsWhole) (arg11 : Memref sig .tc .vmem S4160x128 .f32) (harg11 : arg11.IsWhole) (arg12 : Memref sig .tc .vmem S4160x128 .f32) (harg12 : arg12.IsWhole) (arg13 : Memref sig .tc .vmem S544x128 .f32) (harg13 : arg13.IsWhole) (arg14 : Memref sig .tc .vmem S544x128 .f32) (harg14 : arg14.IsWhole) (arg15 : Memref sig .tc .vmem S544x128 .f32) (harg15 : arg15.IsWhole) (arg16 : Memref sig .tc .vmem S544x128 .f32) (harg16 : arg16.IsWhole) (arg17 : Memref sig .tc .vmem S544x128 .f32) (harg17 : arg17.IsWhole) (arg18 : Memref sig .tc .vmem S544x128 .f32) (harg18 : arg18.IsWhole) (arg19 : Memref sig .tc .vmem S24x128 .f32) (harg19 : arg19.IsWhole) (arg20 : Memref sig .tc .vmem S144x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S48x256 .f32) (harg25 : arg25.IsWhole) (v239 : FVec F S8x128 .f32) (v254 : IVec S8x128 32) (v272 : IVec S8x128 1) (v290 : IVec S8x128 1) (v292 : FVec F S8x128 .f32) (c0_i32_118 : BitVec 32) (init : FVec F S8x128 .f32) :
    Gen.LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v239 v254 v272 v290 v292 c0_i32_118 init where
  inv _ _ := iprop((∃ f, arg13.view.loc (c : Thread nD τ) ↦[arg13.view.set]{fullShare} f) ∗ (∃ f, arg14.view.loc (c : Thread nD τ) ↦[arg14.view.set]{fullShare} f) ∗ (∃ f, arg17.view.loc (c : Thread nD τ) ↦[arg17.view.set]{fullShare} f) ∗ (∃ f, arg18.view.loc (c : Thread nD τ) ↦[arg18.view.set]{fullShare} f))
  step k acc := by
    iintro ⟨⟨%f13, H13⟩, ⟨%f14, H14⟩, ⟨%f17, H17⟩, ⟨%f18, H18⟩⟩
    unfold Gen.k0_t5_body
    sl_exec_parts
    sl_step
    isplitl [H13]; · iexists _; iexact H13
    isplitl [H14]; · iexists _; iexact H14
    isplitl [H17]; · iexists _; iexact H17
    iexists _; iexact H18

/-- Loop 7: the buffers it touches, at any contents. -/
@[sl_loop] def loopInv_k0_t7 (𝒱 : Variants) (c : Dev nD) (bd : Option 𝒱.V) (E : Set ℕ) (i : grid0.Coords) (arg1 : Memref sig .tc .vmem S1x256x2304 .fp8e5m2) (harg1 : arg1.IsWhole) (arg2 : Memref sig .tc .vmem S1x256x4608 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S6x2304 .f32) (harg5 : arg5.IsWhole) (arg6 : Memref sig .tc .vmem S1x256x4608 .fp8e5m2) (harg6 : arg6.IsWhole) (arg7 : Memref sig .tc .vmem S6x256 .f32) (harg7 : arg7.IsWhole) (arg8 : Memref sig .tc .vmem S6x2304 .f32) (harg8 : arg8.IsWhole) (arg9 : Memref sig .tc .vmem S4160x128 .f32) (harg9 : arg9.IsWhole) (arg10 : Memref sig .tc .vmem S4160x128 .f32) (harg10 : arg10.IsWhole) (arg11 : Memref sig .tc .vmem S4160x128 .f32) (harg11 : arg11.IsWhole) (arg12 : Memref sig .tc .vmem S4160x128 .f32) (harg12 : arg12.IsWhole) (arg13 : Memref sig .tc .vmem S544x128 .f32) (harg13 : arg13.IsWhole) (arg14 : Memref sig .tc .vmem S544x128 .f32) (harg14 : arg14.IsWhole) (arg15 : Memref sig .tc .vmem S544x128 .f32) (harg15 : arg15.IsWhole) (arg16 : Memref sig .tc .vmem S544x128 .f32) (harg16 : arg16.IsWhole) (arg17 : Memref sig .tc .vmem S544x128 .f32) (harg17 : arg17.IsWhole) (arg18 : Memref sig .tc .vmem S544x128 .f32) (harg18 : arg18.IsWhole) (arg19 : Memref sig .tc .vmem S24x128 .f32) (harg19 : arg19.IsWhole) (arg20 : Memref sig .tc .vmem S144x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S48x256 .f32) (harg25 : arg25.IsWhole) (init : FVec F S8x128 .f32) :
    Gen.LoopInvTy_k0_t7 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 init where
  inv _ _ := iprop((∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f))
  step k acc := by
    iintro ⟨⟨%f13, H13⟩, ⟨%f14, H14⟩, ⟨%f15, H15⟩, ⟨%f16, H16⟩⟩
    unfold Gen.k0_t7_body
    sl_exec_parts
    sl_step
    isplitl [H13]; · iexists _; iexact H13
    isplitl [H14]; · iexists _; iexact H14
    isplitl [H15]; · iexists _; iexact H15
    iexists _; iexact H16

/-- Loop 8: the buffers it touches, at any contents. -/
@[sl_loop] def loopInv_k0_t8 (𝒱 : Variants) (c : Dev nD) (bd : Option 𝒱.V) (E : Set ℕ) (i : grid0.Coords) (arg1 : Memref sig .tc .vmem S1x256x2304 .fp8e5m2) (harg1 : arg1.IsWhole) (arg2 : Memref sig .tc .vmem S1x256x4608 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S6x2304 .f32) (harg5 : arg5.IsWhole) (arg6 : Memref sig .tc .vmem S1x256x4608 .fp8e5m2) (harg6 : arg6.IsWhole) (arg7 : Memref sig .tc .vmem S6x256 .f32) (harg7 : arg7.IsWhole) (arg8 : Memref sig .tc .vmem S6x2304 .f32) (harg8 : arg8.IsWhole) (arg9 : Memref sig .tc .vmem S4160x128 .f32) (harg9 : arg9.IsWhole) (arg10 : Memref sig .tc .vmem S4160x128 .f32) (harg10 : arg10.IsWhole) (arg11 : Memref sig .tc .vmem S4160x128 .f32) (harg11 : arg11.IsWhole) (arg12 : Memref sig .tc .vmem S4160x128 .f32) (harg12 : arg12.IsWhole) (arg13 : Memref sig .tc .vmem S544x128 .f32) (harg13 : arg13.IsWhole) (arg14 : Memref sig .tc .vmem S544x128 .f32) (harg14 : arg14.IsWhole) (arg15 : Memref sig .tc .vmem S544x128 .f32) (harg15 : arg15.IsWhole) (arg16 : Memref sig .tc .vmem S544x128 .f32) (harg16 : arg16.IsWhole) (arg17 : Memref sig .tc .vmem S544x128 .f32) (harg17 : arg17.IsWhole) (arg18 : Memref sig .tc .vmem S544x128 .f32) (harg18 : arg18.IsWhole) (arg19 : Memref sig .tc .vmem S24x128 .f32) (harg19 : arg19.IsWhole) (arg20 : Memref sig .tc .vmem S144x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S48x256 .f32) (harg25 : arg25.IsWhole) :
    Gen.LoopInvTy_k0_t8 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 where
  inv _ _ := iprop((∃ f, arg10.view.loc (c : Thread nD τ) ↦[arg10.view.set]{fullShare} f) ∗ (∃ f, arg11.view.loc (c : Thread nD τ) ↦[arg11.view.set]{fullShare} f) ∗ (∃ f, arg14.view.loc (c : Thread nD τ) ↦[arg14.view.set]{fullShare} f) ∗ (∃ f, arg15.view.loc (c : Thread nD τ) ↦[arg15.view.set]{fullShare} f) ∗ (∃ f, arg24.view.loc (c : Thread nD τ) ↦[arg24.view.set]{fullShare} f) ∗ (∃ f, arg6.view.loc (c : Thread nD τ) ↦[arg6.view.set]{fullShare} f))
  step k acc := by
    iintro ⟨⟨%f10, H10⟩, ⟨%f11, H11⟩, ⟨%f14, H14⟩, ⟨%f15, H15⟩, ⟨%f24, H24⟩, ⟨%f6, H6⟩⟩
    unfold Gen.k0_t8_body
    sl_exec_parts
    sl_step
    isplitl [H10]; · iexists _; iexact H10
    isplitl [H11]; · iexists _; iexact H11
    isplitl [H14]; · iexists _; iexact H14
    isplitl [H15]; · iexists _; iexact H15
    isplitl [H24]; · iexists _; iexact H24
    iexists _; iexact H6

end Cert.KernelScan.Hand

end
-- ==== Proof.ScanBody.lean ====
/- The scan's body run once: the inputs' buffers come back as they were, every other buffer at some contents. -/
module

public import proofs.«01_k».proof.Proof.ScanLoops
public import proofs.«01_k».proof.Proof.Gen.KernelScan.Frame
public import Idealize.ShloMosaic.Lib.Claim

@[expose] public section

set_option maxRecDepth 16384
set_option maxHeartbeats 8000000

noncomputable section

namespace Cert.KernelScan.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)
open Cert.KernelScan.Gen

variable {F : FTy → Type} [FloatOps F]

local notation "𝕄" => MT nD τ sig Unit (Elt F) ℕ (UR sig nD τ) ℕ

/-- The body at any grid point, whether or not it is the last: it runs, keeping its inputs. -/
theorem body_run (c : Dev nD) (i : grid0.Coords) (arg1 : Memref sig .tc .vmem S1x256x2304 .fp8e5m2) (harg1 : arg1.IsWhole) (arg2 : Memref sig .tc .vmem S1x256x4608 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S6x2304 .f32) (harg5 : arg5.IsWhole) (arg6 : Memref sig .tc .vmem S1x256x4608 .fp8e5m2) (harg6 : arg6.IsWhole) (arg7 : Memref sig .tc .vmem S6x256 .f32) (harg7 : arg7.IsWhole) (arg8 : Memref sig .tc .vmem S6x2304 .f32) (harg8 : arg8.IsWhole) (arg9 : Memref sig .tc .vmem S4160x128 .f32) (harg9 : arg9.IsWhole) (arg10 : Memref sig .tc .vmem S4160x128 .f32) (harg10 : arg10.IsWhole) (arg11 : Memref sig .tc .vmem S4160x128 .f32) (harg11 : arg11.IsWhole) (arg12 : Memref sig .tc .vmem S4160x128 .f32) (harg12 : arg12.IsWhole) (arg13 : Memref sig .tc .vmem S544x128 .f32) (harg13 : arg13.IsWhole) (arg14 : Memref sig .tc .vmem S544x128 .f32) (harg14 : arg14.IsWhole) (arg15 : Memref sig .tc .vmem S544x128 .f32) (harg15 : arg15.IsWhole) (arg16 : Memref sig .tc .vmem S544x128 .f32) (harg16 : arg16.IsWhole) (arg17 : Memref sig .tc .vmem S544x128 .f32) (harg17 : arg17.IsWhole) (arg18 : Memref sig .tc .vmem S544x128 .f32) (harg18 : arg18.IsWhole) (arg19 : Memref sig .tc .vmem S24x128 .f32) (harg19 : arg19.IsWhole) (arg20 : Memref sig .tc .vmem S144x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S48x256 .f32) (harg25 : arg25.IsWhole)
    (x1 : Vec F S1x256x2304 .fp8e5m2) (x2 : Vec F S1x256x4608 .fp8e4m3) (x3 : Vec F S6x256 .f32) (x4 : Vec F S6x256 .f32) (x5 : Vec F S6x2304 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
      ⊢ wp frame (wpE (defs₀ (F := F)) Variants.none c none) E (cc0_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_scan_eq_skeleton]; unfold cc0_scan_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  obtain rfl := harg1.eq_unread hf1
  obtain rfl := harg2.eq_unread hf2
  obtain rfl := harg3.eq_unread hf3
  obtain rfl := harg4.eq_unread hf4
  obtain rfl := harg5.eq_unread hf5
  by_cases hc : k0_cond1 i = 1#1
  · sl_exec_parts (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexists _; isplitr; swap; · iexact H6
      ipureintro; exact rfl
    isplitl [H7]
    · iexists _; iexists _; isplitr; swap; · iexact H7
      ipureintro; exact rfl
    isplitl [H8]
    · iexists _; iexists _; isplitr; swap; · iexact H8
      ipureintro; exact rfl
    isplitl [H9]
    · iexists _; iexists _; isplitr; swap; · iexact H9
      ipureintro; exact rfl
    isplitl [H10]
    · iexists _; iexists _; isplitr; swap; · iexact H10
      ipureintro; exact rfl
    isplitl [H11]
    · iexists _; iexists _; isplitr; swap; · iexact H11
      ipureintro; exact rfl
    isplitl [H12]
    · iexists _; iexists _; isplitr; swap; · iexact H12
      ipureintro; exact rfl
    isplitl [H13]
    · iexists _; iexists _; isplitr; swap; · iexact H13
      ipureintro; exact rfl
    isplitl [H14]
    · iexists _; iexists _; isplitr; swap; · iexact H14
      ipureintro; exact rfl
    isplitl [H15]
    · iexists _; iexists _; isplitr; swap; · iexact H15
      ipureintro; exact rfl
    isplitl [H16]
    · iexists _; iexists _; isplitr; swap; · iexact H16
      ipureintro; exact rfl
    isplitl [H17]
    · iexists _; iexists _; isplitr; swap; · iexact H17
      ipureintro; exact rfl
    isplitl [H18]
    · iexists _; iexists _; isplitr; swap; · iexact H18
      ipureintro; exact rfl
    isplitl [H19]
    · iexists _; iexists _; isplitr; swap; · iexact H19
      ipureintro; exact rfl
    isplitl [H20]
    · iexists _; iexists _; isplitr; swap; · iexact H20
      ipureintro; exact rfl
    isplitl [H21]
    · iexists _; iexists _; isplitr; swap; · iexact H21
      ipureintro; exact rfl
    isplitl [H22]
    · iexists _; iexists _; isplitr; swap; · iexact H22
      ipureintro; exact rfl
    isplitl [H23]
    · iexists _; iexists _; isplitr; swap; · iexact H23
      ipureintro; exact rfl
    isplitl [H24]
    · iexists _; iexists _; isplitr; swap; · iexact H24
      ipureintro; exact rfl
    iexists _; iexists _; isplitr; swap; · iexact H25
    ipureintro; exact rfl
  · sl_exec_parts (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexists _; isplitr; swap; · iexact H6
      ipureintro; exact rfl
    isplitl [H7]
    · iexists _; iexists _; isplitr; swap; · iexact H7
      ipureintro; exact rfl
    isplitl [H8]
    · iexists _; iexists _; isplitr; swap; · iexact H8
      ipureintro; exact rfl
    isplitl [H9]
    · iexists _; iexists _; isplitr; swap; · iexact H9
      ipureintro; exact rfl
    isplitl [H10]
    · iexists _; iexists _; isplitr; swap; · iexact H10
      ipureintro; exact rfl
    isplitl [H11]
    · iexists _; iexists _; isplitr; swap; · iexact H11
      ipureintro; exact rfl
    isplitl [H12]
    · iexists _; iexists _; isplitr; swap; · iexact H12
      ipureintro; exact rfl
    isplitl [H13]
    · iexists _; iexists _; isplitr; swap; · iexact H13
      ipureintro; exact rfl
    isplitl [H14]
    · iexists _; iexists _; isplitr; swap; · iexact H14
      ipureintro; exact rfl
    isplitl [H15]
    · iexists _; iexists _; isplitr; swap; · iexact H15
      ipureintro; exact rfl
    isplitl [H16]
    · iexists _; iexists _; isplitr; swap; · iexact H16
      ipureintro; exact rfl
    isplitl [H17]
    · iexists _; iexists _; isplitr; swap; · iexact H17
      ipureintro; exact rfl
    isplitl [H18]
    · iexists _; iexists _; isplitr; swap; · iexact H18
      ipureintro; exact rfl
    isplitl [H19]
    · iexists _; iexists _; isplitr; swap; · iexact H19
      ipureintro; exact rfl
    isplitl [H20]
    · iexists _; iexists _; isplitr; swap; · iexact H20
      ipureintro; exact rfl
    isplitl [H21]
    · iexists _; iexists _; isplitr; swap; · iexact H21
      ipureintro; exact rfl
    isplitl [H22]
    · iexists _; iexists _; isplitr; swap; · iexact H22
      ipureintro; exact rfl
    isplitl [H23]
    · iexists _; iexists _; isplitr; swap; · iexact H23
      ipureintro; exact rfl
    isplitl [H24]
    · iexists _; iexists _; isplitr; swap; · iexact H24
      ipureintro; exact rfl
    iexists _; iexists _; isplitr; swap; · iexact H25
    ipureintro; exact rfl

end Cert.KernelScan.Hand

end
-- ==== Proof.ScanFrame.lean ====
/- The frame of the scan's launch: it terminates, its inputs end unchanged, every semaphore counter ends at zero. -/
module

public import proofs.«01_k».proof.Proof.ScanBody

@[expose] public section

set_option maxRecDepth 16384
set_option maxHeartbeats 4000000

noncomputable section

namespace Cert.KernelScan.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)
open Cert.KernelScan.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: an input's buffer is left as found; of the outputs nothing is said. -/
def rdat (c : Dev nD) : RDat τ (Elt F) Unit ℕ (UR sig nD τ) ℕ cfg0 c where
  A w := V m c (Pipeline.arrRef spec0 w)
  after w _ Y X := w.val < 5 → X = Y
  Φ _ := Pipeline.ΦA spec0 c
  q _ := fullShare
  owed _ := 0

/-- The scratch buffers as memrefs owned at some contents, beside the generator register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d) ∗ (∃ d, owns (c : Thread nD τ) (Memref.whole cc0_scratch14) fullShare d) ∗ (∃ d, owns (c : Thread nD τ) (Memref.whole cc0_scratch15) fullShare d) ∗ (∃ d, owns (c : Thread nD τ) (Memref.whole cc0_scratch16) fullShare d)) ∗ (∃ r, prngReg c r)) := by
  unfold Pipeline.ΦA; rw [scopedRest0_eq]; simp only [owns_whole]; try rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : (rdat (F := F) m c).BodyObligation (defs₀ (F := F)) Variants.none () Set.univ := fun t Y hY => by
  rw [bigSep_W0, bigSep_W0, defs₀_row]
  show iprop(Pipeline.ΦA spec0 c ∗ _ ∗ _) ⊢ wp _ _ _ (bodyAt0 t) fun _ => iprop(Pipeline.ΦA spec0 c ∗ _ ∗ _)
  rw [PhiA_eq]
  iintro ⟨⟨⟨S0, S1, S2, S3, S4, S5, S6, S7, S8, S9, S10, S11, S12, S13, S14, S15, S16⟩, Hg⟩, Ho, H1, H2, H3, H4, H5, H6, H7, H8⟩
  iapply (body_run c (grid0.coords t) _ _ _ _ _ _ _ _ _ _ _ _ _ _ _ _ _ _ _ _ _ _ _ _ _ _ _ _ _ _ _ _ _ _ _ _ _ _ _ _ _ _ _ _ _ _ _ _ _ _ (Y 0) (Y 1) (Y 2) (Y 3) (Y 4) Set.univ _)
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  iintro ⟨H1, H2, H3, H4, H5, ⟨%e6, H6⟩, ⟨%e7, H7⟩, ⟨%e8, H8⟩, S0, S1, S2, S3, S4, S5, S6, S7, S8, S9, S10, S11, S12, S13, S14, S15, S16⟩
  isplitl [S0 S1 S2 S3 S4 S5 S6 S7 S8 S9 S10 S11 S12 S13 S14 S15 S16 Hg]
  · isplitl [S0 S1 S2 S3 S4 S5 S6 S7 S8 S9 S10 S11 S12 S13 S14 S15 S16]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      iexact S16
    iexact Hg
  isplitl [Ho]; · iexact Ho
  isplitl [H1]
  · iexists _; isplitr; swap; · iexact H1
    ipureintro; intro h; first | rfl | exact absurd h (by decide)
  isplitl [H2]
  · iexists _; isplitr; swap; · iexact H2
    ipureintro; intro h; first | rfl | exact absurd h (by decide)
  isplitl [H3]
  · iexists _; isplitr; swap; · iexact H3
    ipureintro; intro h; first | rfl | exact absurd h (by decide)
  isplitl [H4]
  · iexists _; isplitr; swap; · iexact H4
    ipureintro; intro h; first | rfl | exact absurd h (by decide)
  isplitl [H5]
  · iexists _; isplitr; swap; · iexact H5
    ipureintro; intro h; first | rfl | exact absurd h (by decide)
  isplitl [H6]
  · iexists _; isplitr; swap; · iexact H6
    ipureintro; intro h; first | rfl | exact absurd h (by decide)
  isplitl [H7]
  · iexists _; isplitr; swap; · iexact H7
    ipureintro; intro h; first | rfl | exact absurd h (by decide)
  iexists _; isplitr; swap; · iexact H8
  ipureintro; intro h; exact absurd h (by decide)

-- the implicit arguments are found by unifying the conclusion, which takes unfolding plain definitions in a metavariable's type
set_option backward.isDefEq.respectTransparency.types false in
/-- The launch. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := body_obligation m) (hshare := fun c w => by unfold Pipeline.RDat.share; split <;> rfl)
    (howed := fun _ _ => rfl) (V := V m) (hmain := hmain m Variants.none) (hA := fun _ _ => rfl)
    (hΦ := fun _ _ => rfl) (hQ' := fun _ h => h)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨h.1.arr_in c 0 rfl, h.1.arr_in c 2 rfl, h.1.arr_in c 1 rfl, h.1.arr_in c 3 rfl, h.1.arr_in c 4 rfl⟩, h.2⟩)
    (run_main m ρ)

end Cert.KernelScan.Hand

end
-- ==== Proof.ScanKit.lean ====
/- Reading a buffer of 128-lane rows of which a loop writes one row of every group at a time (rows a fixed pitch apart). -/
module

public import proofs.«01_k».proof.Proof.Gen.KernelScanIdeal.Loops
public import Idealize.ShloMosaic.Lib.Pointwise

@[expose] public section

noncomputable section

namespace Cert.KernelScanIdeal.Hand

open Idealize.ShloMosaic Idealize.ShloMosaic.TcCoe

/-- `n` rows of 128 lanes. -/
abbrev Rows (n : ℕ) : Shape := ⟨2, ![n, 128]⟩

variable {kd : Kind} {sp : Space} {n : ℕ}

/-- What a read of eight rows, `P` apart from row `o`, holds. -/
theorem readAt_rows (v : View sig kd sp (Rows n) .f32) (g : v.ty.Contents (Elt Ideal)) (off : Fin 2 → ℕ) (P o : ℕ) (hoff : off = ![o, 0])
    (inb : ∀ a, S8x128.size a = 0 ∨ off a + (![P, 1] : Fin 2 → ℕ) a * (S8x128.size a - 1) < (Rows n).size a)
    (s : Fin 8) (l : Fin 128) (h : o + P * s.val < n) :
    v.readAt (Elt Ideal) (⟨off, S8x128.size, ![P, 1], inb⟩ : LoadRect (Rows n)) g (ix2 s l) = v.read (Elt Ideal) g (ix2 ⟨o + P * s.val, h⟩ l) := by
  subst hoff
  rw [View.readAt_apply]
  refine congrArg _ (funext fun a => Fin.ext ?_)
  fin_cases a
  · rfl
  · show 0 + 1 * l.val = l.val
    omega

/-- Of a buffer's rows (row mod `P` below `T`), the ones that come before `N` in the order of writing hold `new`, the others `old`. -/
def Swept (v : View sig kd sp (Rows n) .f32) (P T : ℕ) (ord : ℕ → ℕ) (old new : ℕ → ℕ → EReal) (N : ℕ) (g : v.ty.Contents (Elt Ideal)) : Prop :=
  ∀ (r : ℕ) (hr : r < n) (l : Fin 128), r % P < T →
    (v.read (Elt Ideal) g (ix2 ⟨r, hr⟩ l) : EReal) = if ord r < N then new r l.val else old r l.val

/-- One write of eight rows, `P` apart from row `o`: the next in the order. -/
theorem Swept.step (v : View sig kd sp (Rows n) .f32) (P T : ℕ) (ord : ℕ → ℕ) (old new : ℕ → ℕ → EReal) (N : ℕ) (f : v.ty.Contents (Elt Ideal))
    (L : List (View.Piece (Elt Ideal) (Rows n) .f32)) (off : Fin 2 → ℕ) (o : ℕ) (hoff : off = ![o, 0])
    (inb : ∀ a, S8x128.size a = 0 ∨ off a + (![P, 1] : Fin 2 → ℕ) a * (S8x128.size a - 1) < (Rows n).size a)
    (pos : ∀ a : Fin 2, 0 < (![P, 1] : Fin 2 → ℕ) a) (w : S8x128.Idx → EReal)
    (hN : ∀ r, r < n → r % P < T → (ord r = N ↔ ∃ s : Fin 8, r = o + P * s.val))
    (h : Swept v P T ord old new N (v.writes (Elt Ideal) f L))
    (hw : ∀ (s : Fin 8) (l : Fin 128), w (ix2 s l) = new (o + P * s.val) l.val) :
    Swept v P T ord old new (N + 1) (v.writes (Elt Ideal) f (⟨⟨(⟨off, S8x128.size, ![P, 1], inb⟩ : LoadRect (Rows n)), pos⟩, w⟩ :: L)) := by
  subst hoff
  intro r hr l hT
  by_cases hs : ∃ s : Fin 8, r = o + P * s.val
  · have ho := (hN r hr hT).2 hs
    obtain ⟨s, rfl⟩ := hs
    rw [if_pos (by omega), ← hw s l]
    refine View.read_writes_cons_hit_of_coords v f (⟨(⟨![o, 0], S8x128.size, ![P, 1], inb⟩ : LoadRect (Rows n)), pos⟩ : Rect (Rows n)) w L (ix2 s l : S8x128.Idx) _ fun a => ?_
    fin_cases a
    · rfl
    · show l.val = 0 + 1 * l.val
      omega
  · have ho : ord r ≠ N := fun e => hs ((hN r hr hT).1 e)
    rw [View.read_writes_cons_miss v f _ L _ ?_, h r hr l hT]
    · exact if_congr (by omega) rfl rfl
    · intro hy
      rw [LoadRect.mem_set] at hy
      obtain ⟨s, hs8, e⟩ := hy 0
      exact hs ⟨⟨s, hs8⟩, e⟩

/-- Eight rows still to be written hold `old`. -/
theorem Swept.readAt (v : View sig kd sp (Rows n) .f32) (P T : ℕ) (ord : ℕ → ℕ) (old new : ℕ → ℕ → EReal) (N : ℕ) (g : v.ty.Contents (Elt Ideal))
    (h : Swept v P T ord old new N g) (off : Fin 2 → ℕ) (o : ℕ) (hoff : off = ![o, 0])
    (inb : ∀ a, S8x128.size a = 0 ∨ off a + (![P, 1] : Fin 2 → ℕ) a * (S8x128.size a - 1) < (Rows n).size a)
    (s : Fin 8) (l : Fin 128) (hr : o + P * s.val < n) (hT : (o + P * s.val) % P < T) (hN : N ≤ ord (o + P * s.val)) :
    (v.readAt (Elt Ideal) (⟨off, S8x128.size, ![P, 1], inb⟩ : LoadRect (Rows n)) g (ix2 s l) : EReal) = old (o + P * s.val) l.val := by
  rw [readAt_rows v g off P o hoff inb s l hr]
  refine (h _ hr l hT).trans (if_neg (by omega))

/-- `Swept.step`, the payload valued under what stands before it. -/
theorem Swept.step' (v : View sig kd sp (Rows n) .f32) (P T : ℕ) (ord : ℕ → ℕ) (old new : ℕ → ℕ → EReal) (N : ℕ) (f : v.ty.Contents (Elt Ideal))
    (L : List (View.Piece (Elt Ideal) (Rows n) .f32)) (off : Fin 2 → ℕ) (o : ℕ) (hoff : off = ![o, 0])
    (inb : ∀ a, S8x128.size a = 0 ∨ off a + (![P, 1] : Fin 2 → ℕ) a * (S8x128.size a - 1) < (Rows n).size a)
    (pos : ∀ a : Fin 2, 0 < (![P, 1] : Fin 2 → ℕ) a) (w : S8x128.Idx → EReal)
    (hN : ∀ r, r < n → r % P < T → (ord r = N ↔ ∃ s : Fin 8, r = o + P * s.val))
    (hw : Swept v P T ord old new N (v.writes (Elt Ideal) f L) → ∀ (s : Fin 8) (l : Fin 128), w (ix2 s l) = new (o + P * s.val) l.val)
    (h : Swept v P T ord old new N (v.writes (Elt Ideal) f L)) :
    Swept v P T ord old new (N + 1) (v.writes (Elt Ideal) f (⟨⟨(⟨off, S8x128.size, ![P, 1], inb⟩ : LoadRect (Rows n)), pos⟩, w⟩ :: L)) :=
  Swept.step v P T ord old new N f L off o hoff inb pos w hN h (hw h)

/-! ### The gates, at one element -/

/-- The constant the logistic's exponent carries. -/
def negLog2e : EReal := Named.named (F := Ideal) κ "neg_log2e" (φ := .f32) 0xBFB8AA3B#32

/-- The update gate of an exponent already scaled. -/
def gZ (x : EReal) : EReal := Ideal.div 1 (1 + FloatOps.exp2 (F := Ideal) (φ := .f32) x)

/-- What the carried state is scaled by. -/
def gA (x : EReal) : EReal := 1 - gZ x

/-- The order in which the forward pass goes through the main rows: time, then half. -/
def fwdM (r : ℕ) : ℕ := 2 * (r % 260) + r / 2080

/-- The order in which the forward pass goes through the remaining rows: time within the chunk. -/
def fwdL (r : ℕ) : ℕ := r % 68

theorem fwdM_iff (t K : ℕ) (ht : t < 256) (hK : K < 2) (r : ℕ) (hr : r < 4160) (hT : r % 260 < 256) :
    fwdM r = 2 * t + K ↔ ∃ s : Fin 8, r = (2080 * K + t) + 260 * s.val := by
  unfold fwdM
  have e : r / 2080 = r / 260 / 8 := by rw [Nat.div_div_eq_div_mul]
  have em := Nat.div_add_mod r 260
  have eq := Nat.div_add_mod (r / 260) 8
  have hK' : K = 0 ∨ K = 1 := by omega
  rw [e]
  constructor
  · intro h
    have h1 : r % 260 = t := by omega
    have h2 : r / 260 / 8 = K := by omega
    refine ⟨⟨r / 260 - 8 * K, by omega⟩, ?_⟩
    show r = (2080 * K + t) + 260 * (r / 260 - 8 * K)
    omega
  · rintro ⟨s, h⟩
    have := s.isLt
    have h1 : r % 260 = t := by omega
    have h2 : r / 260 = 8 * K + s.val := by omega
    omega

theorem fwdL_iff (t : ℕ) (ht : t < 64) (r : ℕ) (hr : r < 544) (hT : r % 68 < 64) :
    fwdL r = t ↔ ∃ s : Fin 8, r = t + 68 * s.val := by
  unfold fwdL
  constructor
  · intro h
    refine ⟨⟨r / 68, by omega⟩, ?_⟩
    show r = t + 68 * (r / 68)
    omega
  · rintro ⟨s, h⟩
    have := s.isLt
    omega

/-- The forward order's place of a main row. -/
theorem fwdM_at (k j K N : ℕ) (hk : k < 32) (hj : j < 8) (hK : K < 2) (hN : N = 16 * k + 2 * j + K) :
    ∀ r, r < 4160 → r % 260 < 256 → (fwdM r = N ↔ ∃ s : Fin 8, r = (2080 * K + (8 * k + j)) + 260 * s.val) := by
  intro r hr hT
  have := fwdM_iff (8 * k + j) K (by omega) hK r hr hT
  rwa [show 2 * (8 * k + j) + K = N by omega] at this

/-- A read of main rows the sweep has not come to yet. -/
theorem readM (v : View sig kd sp (Rows 4160) .f32) (old new : ℕ → ℕ → EReal) (N : ℕ) (g : v.ty.Contents (Elt Ideal))
    (h : Swept v 260 256 fwdM old new N g) (k j K : ℕ) (hk : k < 32) (hj : j < 8) (hK : K < 2) (hN : N ≤ 16 * k + 2 * j + K) (off : Fin 2 → ℕ)
    (hoff : off = ![2080 * K + (8 * k + j), 0])
    (inb : ∀ a, S8x128.size a = 0 ∨ off a + (![260, 1] : Fin 2 → ℕ) a * (S8x128.size a - 1) < (Rows 4160).size a)
    (s : Fin 8) (l : Fin 128) (o : ℕ) (ho : o = 2080 * K + (8 * k + j) + 260 * s.val) :
    (v.readAt (Elt Ideal) (⟨off, S8x128.size, ![260, 1], inb⟩ : LoadRect (Rows 4160)) g (ix2 s l) : EReal) = old o l.val := by
  subst ho
  have hs := s.isLt
  have hm : (2080 * K + (8 * k + j) + 260 * s.val) % 260 < 256 := by
    rw [show 2080 * K + (8 * k + j) + 260 * s.val = (8 * k + j) + 260 * (8 * K + s.val) by ring, Nat.add_mul_mod_self_left, Nat.mod_eq_of_lt (by omega)]
    omega
  refine Swept.readAt v 260 256 fwdM old new N g h off _ hoff inb s l (by omega) hm ?_
  rw [(fwdM_at k j K _ hk hj hK rfl _ (by omega) hm).mpr ⟨s, rfl⟩]
  exact hN

/-! ### Where the strided rows lie -/

theorem off58 (k : Fin k0_t2_loop.trips) (j K : ℕ) (hj : j < 8) (hK : K < 2) :
    k0_off58 k (BitVec.ofNat 32 j) (BitVec.ofNat 32 (2080 * K)) = ![2080 * K + (8 * k.val + j), 0] := by
  refine (Gen.k0_off58_eq k ⟨j, hj⟩ ⟨K, hK⟩).trans ?_
  congr 1
  show 8 * k.val + j + 2080 * K = _
  omega

theorem off59 (k : Fin k0_t3_loop.trips) (j K : ℕ) (hj : j < 8) (hK : K < 2) :
    k0_off59 k (BitVec.ofNat 32 j) (BitVec.ofNat 32 (2080 * K)) = ![2080 * K + (255 - (8 * k.val + j)), 0] := by
  have hk : k.val < 32 := Nat.lt_of_lt_of_le k.isLt Gen.k0_t3_abs.2.1
  refine (Gen.k0_off59_eq k ⟨j, hj⟩ ⟨K, hK⟩).trans ?_
  congr 1
  show 2080 * K + 255 - (8 * k.val + j) = _
  omega

theorem off61 (k : Fin k0_t4_loop.trips) (j : ℕ) (hj : j < 8) : k0_off61 k (BitVec.ofNat 32 j) = ![8 * k.val + j, 0] :=
  Gen.k0_off61_eq k ⟨j, hj⟩

theorem off62 (k : Fin k0_t5_loop.trips) (j : ℕ) (hj : j < 8) : k0_off62 k (BitVec.ofNat 32 j) = ![8 * k.val + j, 0] :=
  Gen.k0_off62_eq k ⟨j, hj⟩

theorem off63 (k : Fin k0_t6_loop.trips) (j : ℕ) (hj : j < 8) : k0_off63 k (BitVec.ofNat 32 j) = ![63 - (8 * k.val + j), 0] :=
  Gen.k0_off63_eq k ⟨j, hj⟩

theorem off64 (k : Fin k0_t7_loop.trips) (j : ℕ) (hj : j < 8) : k0_off64 k (BitVec.ofNat 32 j) = ![63 - (8 * k.val + j), 0] :=
  Gen.k0_off64_eq k ⟨j, hj⟩

/-! ### Rows at known values, and what the backward pass carries -/

/-- The rows of a buffer that hold data, at the values `A`. -/
def RowsAt (v : View sig kd sp (Rows n) .f32) (P T : ℕ) (A : ℕ → ℕ → EReal) (g : v.ty.Contents (Elt Ideal)) : Prop :=
  ∀ (r : ℕ) (hr : r < n), r % P < T → ∀ l : Fin 128, (v.read (Elt Ideal) g (ix2 ⟨r, hr⟩ l) : EReal) = A r l.val

theorem RowsAt.readM (v : View sig kd sp (Rows 4160) .f32) (A : ℕ → ℕ → EReal) (g : v.ty.Contents (Elt Ideal))
    (h : RowsAt v 260 256 A g) (t K : ℕ) (ht : t < 256) (hK : K < 2) (off : Fin 2 → ℕ) (hoff : off = ![2080 * K + t, 0])
    (inb : ∀ a, S8x128.size a = 0 ∨ off a + (![260, 1] : Fin 2 → ℕ) a * (S8x128.size a - 1) < (Rows 4160).size a)
    (s : Fin 8) (l : Fin 128) :
    (v.readAt (Elt Ideal) (⟨off, S8x128.size, ![260, 1], inb⟩ : LoadRect (Rows 4160)) g (ix2 s l) : EReal) = A (2080 * K + t + 260 * s.val) l.val := by
  have hs := s.isLt
  have hm : (2080 * K + t + 260 * s.val) % 260 < 256 := by
    rw [show 2080 * K + t + 260 * s.val = t + 260 * (8 * K + s.val) by ring, Nat.add_mul_mod_self_left, Nat.mod_eq_of_lt (by omega)]
    omega
  rw [readAt_rows v g off 260 _ hoff inb s l (by omega)]
  exact h _ _ hm l

theorem RowsAt.readL (v : View sig kd sp (Rows 544) .f32) (A : ℕ → ℕ → EReal) (g : v.ty.Contents (Elt Ideal))
    (h : RowsAt v 68 64 A g) (t : ℕ) (ht : t < 64) (off : Fin 2 → ℕ) (hoff : off = ![t, 0])
    (inb : ∀ a, S8x128.size a = 0 ∨ off a + (![68, 1] : Fin 2 → ℕ) a * (S8x128.size a - 1) < (Rows 544).size a)
    (s : Fin 8) (l : Fin 128) :
    (v.readAt (Elt Ideal) (⟨off, S8x128.size, ![68, 1], inb⟩ : LoadRect (Rows 544)) g (ix2 s l) : EReal) = A (t + 68 * s.val) l.val := by
  have hs := s.isLt
  have hm : (t + 68 * s.val) % 68 < 64 := by
    rw [Nat.add_mul_mod_self_left, Nat.mod_eq_of_lt (by omega)]
    omega
  rw [readAt_rows v g off 68 _ hoff inb s l (by omega)]
  exact h _ _ hm l

/-- A finished sweep is the rows at the new values. -/
theorem Swept.done (v : View sig kd sp (Rows n) .f32) (P T : ℕ) (ord : ℕ → ℕ) (old new : ℕ → ℕ → EReal) (N : ℕ) (g : v.ty.Contents (Elt Ideal))
    (h : Swept v P T ord old new N g) (hN : ∀ r, r < n → r % P < T → ord r < N) : RowsAt v P T new g :=
  fun r hr hT l => (h r hr l hT).trans (if_pos (hN r hr hT))

theorem RowsAt.swept (v : View sig kd sp (Rows n) .f32) (P T : ℕ) (ord : ℕ → ℕ) (old new : ℕ → ℕ → EReal) (g : v.ty.Contents (Elt Ideal))
    (h : RowsAt v P T old g) : Swept v P T ord old new 0 g :=
  fun r hr l hT => (h r hr hT l).trans (if_neg (Nat.not_lt_zero _)).symm

/-- A read of left rows the sweep has not come to yet. -/
theorem readL (v : View sig kd sp (Rows 544) .f32) (old new : ℕ → ℕ → EReal) (N : ℕ) (g : v.ty.Contents (Elt Ideal))
    (h : Swept v 68 64 fwdL old new N g) (t : ℕ) (ht : t < 64) (hN : N ≤ t) (off : Fin 2 → ℕ) (hoff : off = ![t, 0])
    (inb : ∀ a, S8x128.size a = 0 ∨ off a + (![68, 1] : Fin 2 → ℕ) a * (S8x128.size a - 1) < (Rows 544).size a)
    (s : Fin 8) (l : Fin 128) (o : ℕ) (ho : o = t + 68 * s.val) :
    (v.readAt (Elt Ideal) (⟨off, S8x128.size, ![68, 1], inb⟩ : LoadRect (Rows 544)) g (ix2 s l) : EReal) = old o l.val := by
  subst ho
  have hs := s.isLt
  have hm : (t + 68 * s.val) % 68 = t := by
    rw [Nat.add_mul_mod_self_left, Nat.mod_eq_of_lt (by omega)]
  refine Swept.readAt v 68 64 fwdL old new N g h off _ hoff inb s l (by omega) (by omega) ?_
  unfold fwdL
  omega

/-- What the backward pass carries after `m` steps: each step adds the gradient and scales. -/
def uRec (a d : ℕ → EReal) (u : EReal) : ℕ → EReal
  | 0 => u
  | m + 1 => a m * (uRec a d u m + d m)

/-- The product of the first `m` scales. -/
def aProd (a : ℕ → EReal) : ℕ → EReal
  | 0 => 1
  | m + 1 => a m * aProd a m

theorem uRec_step (a d : ℕ → EReal) (u : EReal) (m : ℕ) (x y z : EReal) (hy : y = a m) (hz : z = d m) (hx : x = uRec a d u m) :
    y * (x + z) = uRec a d u (m + 1) := by
  subst hy hz hx
  rfl

theorem aProd_step (a : ℕ → EReal) (m : ℕ) (x y : EReal) (hy : y = a m) (hx : x = aProd a m) : y * x = aProd a (m + 1) := by
  subst hy hx
  rfl

/-- The main rows' carry, one element of one set. -/
def uM (A D : ℕ → ℕ → EReal) (K : ℕ) (s : Fin 8) (l : Fin 128) : ℕ → EReal :=
  uRec (fun m => A (2080 * K + (255 - m) + 260 * s.val) l.val) (fun m => D (2080 * K + (255 - m) + 260 * s.val) l.val) 0

/-- The left rows' carry, one element of one chunk. -/
def uL (A D : ℕ → ℕ → EReal) (u : EReal) (s : Fin 8) (l : Fin 128) : ℕ → EReal :=
  uRec (fun m => A (63 - m + 68 * s.val) l.val) (fun m => D (63 - m + 68 * s.val) l.val) u

/-! ### Rows filled block by block -/

/-- Of a buffer's rows (row mod `P` below `T`), the ones that come before `N` in the order of writing hold `new`. -/
def Filled (v : View sig kd sp (Rows n) .f32) (P T : ℕ) (ord : ℕ → ℕ) (new : ℕ → ℕ → EReal) (N : ℕ) (g : v.ty.Contents (Elt Ideal)) : Prop :=
  ∀ (r : ℕ) (hr : r < n) (l : Fin 128), r % P < T → ord r < N → (v.read (Elt Ideal) g (ix2 ⟨r, hr⟩ l) : EReal) = new r l.val

/-- A column buffer, its lanes all alike: row `t` at `z t`. -/
def ColAt (v : View sig kd sp S256x128 .f32) (z : ℕ → EReal) (g : v.ty.Contents (Elt Ideal)) : Prop :=
  ∀ (t : Fin 256) (l : Fin 128), (v.read (Elt Ideal) g (ix2 t l) : EReal) = z t.val

/-- One write of 32 rows from row `o`: the next in the order. -/
theorem Filled.step (v : View sig kd sp (Rows n) .f32) (P T : ℕ) (ord : ℕ → ℕ) (new : ℕ → ℕ → EReal) (N : ℕ) (f : v.ty.Contents (Elt Ideal))
    (L : List (View.Piece (Elt Ideal) (Rows n) .f32)) (off : Fin 2 → ℕ) (o : ℕ) (hoff : off = ![o, 0])
    (inb : ∀ a, off a + S32x128.size a ≤ (Rows n).size a) (w : S32x128.Idx → EReal)
    (hN : ∀ r, r < n → r % P < T → (ord r = N ↔ ∃ s : Fin 32, r = o + s.val))
    (hw : ∀ (s : Fin 32) (l : Fin 128), w (ix2 s l) = new (o + s.val) l.val)
    (h : Filled v P T ord new N (v.writes (Elt Ideal) f L)) :
    Filled v P T ord new (N + 1) (v.writes (Elt Ideal) f (⟨Rect.unit (s := Rows n) off S32x128.size inb, w⟩ :: L)) := by
  subst hoff
  intro r hr l hT ho1
  by_cases hs : ∃ s : Fin 32, r = o + s.val
  · have ho := (hN r hr hT).2 hs
    obtain ⟨s, rfl⟩ := hs
    rw [← hw s l]
    refine View.read_writes_cons_hit_of_coords v f (Rect.unit (s := Rows n) ![o, 0] S32x128.size inb) w L (ix2 s l : S32x128.Idx) _ fun a => ?_
    fin_cases a
    · show o + s.val = o + 1 * s.val
      omega
    · show l.val = 0 + 1 * l.val
      omega
  · have ho : ord r ≠ N := fun e => hs ((hN r hr hT).1 e)
    rw [View.read_writes_cons_miss v f _ L _ ?_, h r hr l hT (by omega)]
    intro hy
    rw [LoadRect.mem_set] at hy
    obtain ⟨s, hs32, e⟩ := hy 0
    refine hs ⟨⟨s, hs32⟩, ?_⟩
    have e' : r = o + 1 * s := e
    show r = o + s
    omega

/-- The unpacking's place of a main row: 32 times of all groups, then the next 32. -/
def ordM (r : ℕ) : ℕ := 16 * (r % 260 / 32) + r / 260

/-- The unpacking's place of a left row. -/
def ordL (r : ℕ) : ℕ := 2 * ((64 * (r / 68 % 4) + r % 68) / 32) + r / 272

/-- A left row's time. -/
def timeL (r : ℕ) : ℕ := 64 * (r / 68 % 4) + r % 68

/-- The first hidden index of a left row. -/
def hidL (r : ℕ) : ℕ := 128 * (16 + r / 272)

theorem ordM_iff (k g : ℕ) (hk : k < 8) (hg : g < 16) (r : ℕ) (hr : r < 4160) (hT : r % 260 < 256) :
    ordM r = 16 * k + g ↔ ∃ s : Fin 32, r = (260 * g + 32 * k) + s.val := by
  unfold ordM
  constructor
  · intro h
    have : r / 260 < 16 := by omega
    exact ⟨⟨r % 260 % 32, by omega⟩, by show r = 260 * g + 32 * k + r % 260 % 32; omega⟩
  · rintro ⟨s, rfl⟩
    have := s.isLt
    have h1 : (260 * g + 32 * k + s.val) / 260 = g := by
      rw [show 260 * g + 32 * k + s.val = (32 * k + s.val) + 260 * g by ring, Nat.add_mul_div_left _ _ (by norm_num), Nat.div_eq_of_lt (by omega), zero_add]
    omega

theorem ordL_iff (k q : ℕ) (hk : k < 8) (hq : q < 2) (r : ℕ) (hr : r < 544) (hT : r % 68 < 64) :
    ordL r = 2 * k + q ↔ ∃ s : Fin 32, r = (272 * q + 68 * (k / 2) + 32 * (k % 2)) + s.val := by
  unfold ordL
  have e : r / 272 = r / 68 / 4 := by rw [Nat.div_div_eq_div_mul]
  constructor
  · intro h
    refine ⟨⟨r % 68 % 32, by omega⟩, ?_⟩
    show r = 272 * q + 68 * (k / 2) + 32 * (k % 2) + r % 68 % 32
    interval_cases k <;> interval_cases q <;> omega
  · rintro ⟨s, h⟩
    have := s.isLt
    interval_cases k <;> interval_cases q <;> omega

/-- Thirty-two rows and 128 columns of an input block. -/
theorem read_block {m : ℕ} {φ : EltTy} (v : View sig kd sp ⟨3, ![1, 256, m]⟩ φ) (X : BufTy.Contents (Elt Ideal) v.ty) (F : ℕ → ℕ → Elt Ideal φ)
    (h : ∀ (t : Fin 256) (d : Fin m), v.read (Elt Ideal) X (ix3 (0 : Fin 1) t d) = F t.val d.val) (off : Fin 3 → ℕ) (o c : ℕ) (hoff : off = ![0, o, c])
    (inb : ∀ a, off a + S1x32x128.size a ≤ (⟨3, ![1, 256, m]⟩ : Shape).size a) (ho : o + 32 ≤ 256) (hc : c + 128 ≤ m) (s : Fin 32) (l : Fin 128) :
    v.readAt (Elt Ideal) (Rect.unit (s := ⟨3, ![1, 256, m]⟩) off S1x32x128.size inb).toLoadRect X (ix3 (0 : Fin 1) s l) = F (o + s.val) (c + l.val) := by
  subst hoff
  have hs := s.isLt
  have hl := l.isLt
  rw [View.readAt_apply, ← h ⟨o + s.val, by omega⟩ ⟨c + l.val, by omega⟩]
  refine congrArg _ (funext fun a => Fin.ext ?_)
  fin_cases a
  · rfl
  · show o + 1 * s.val = o + s.val
    omega
  · show c + 1 * l.val = c + l.val
    omega

/-- Thirty-two rows of a column buffer. -/
theorem ColAt.read (v : View sig kd sp S256x128 .f32) (z : ℕ → EReal) (g : v.ty.Contents (Elt Ideal)) (h : ColAt v z g) (off : Fin 2 → ℕ) (o : ℕ)
    (hoff : off = ![o, 0]) (inb : ∀ a, off a + S32x128.size a ≤ S256x128.size a) (ho : o + 32 ≤ 256) (s : Fin 32) (l : Fin 128) :
    (v.readAt (Elt Ideal) (Rect.unit (s := S256x128) off S32x128.size inb).toLoadRect g (ix2 s l) : EReal) = z (o + s.val) := by
  subst hoff
  have hs := s.isLt
  rw [View.readAt_apply, ← h ⟨o + s.val, by omega⟩ l]
  refine congrArg _ (funext fun a => Fin.ext ?_)
  fin_cases a
  · show o + 1 * s.val = o + s.val
    omega
  · show 0 + 1 * l.val = l.val
    omega

theorem newM (F : ℕ → ℕ → EReal) (z : ℕ → EReal) (k g : ℕ) (hk : k < 8) (s : Fin 32) (l : ℕ) :
    F ((260 * g + 32 * k + s.val) % 260) (128 * ((260 * g + 32 * k + s.val) / 260) + l) * z ((260 * g + 32 * k + s.val) % 260)
      = F (32 * k + s.val) (128 * g + l) * z (32 * k + s.val) := by
  have hs := s.isLt
  have h1 : (260 * g + 32 * k + s.val) / 260 = g := by
    rw [show 260 * g + 32 * k + s.val = (32 * k + s.val) + 260 * g by ring, Nat.add_mul_div_left _ _ (by norm_num), Nat.div_eq_of_lt (by omega), zero_add]
  have h2 : (260 * g + 32 * k + s.val) % 260 = 32 * k + s.val := by
    rw [show 260 * g + 32 * k + s.val = (32 * k + s.val) + 260 * g by ring, Nat.add_mul_mod_self_left, Nat.mod_eq_of_lt (by omega)]
  rw [h1, h2]

theorem newL (F : ℕ → ℕ → EReal) (z : ℕ → EReal) (k q : ℕ) (hk : k < 8) (hq : q < 2) (s : Fin 32) (l : ℕ) :
    F (timeL (272 * q + 68 * (k / 2) + 32 * (k % 2) + s.val)) (hidL (272 * q + 68 * (k / 2) + 32 * (k % 2) + s.val) + l) * z (timeL (272 * q + 68 * (k / 2) + 32 * (k % 2) + s.val))
      = F (32 * k + s.val) (128 * (16 + q) + l) * z (32 * k + s.val) := by
  have hs := s.isLt
  have h1 : timeL (272 * q + 68 * (k / 2) + 32 * (k % 2) + s.val) = 32 * k + s.val := by
    unfold timeL
    interval_cases k <;> interval_cases q <;> omega
  have h2 : hidL (272 * q + 68 * (k / 2) + 32 * (k % 2) + s.val) = 128 * (16 + q) := by
    unfold hidL
    interval_cases k <;> interval_cases q <;> omega
  rw [h1, h2]

theorem off3 (k : Fin k0_t1_loop.trips) (g : ℕ) (hg : g < 16) : k0_off3 k (BitVec.ofNat 32 (260 * g)) = ![260 * g + 32 * k.val, 0] :=
  Gen.k0_off3_eq k ⟨g, hg⟩

theorem off52 (k : Fin k0_t1_loop.trips) (q : ℕ) (hq : q < 2) :
    k0_off52 k (BitVec.ofNat 32 (4 * q)) = ![272 * q + 68 * (k.val / 2) + 32 * (k.val % 2), 0] := by
  have h : ∀ (k : Fin k0_t1_loop.trips) (q : Fin 2), k0_off52 k (BitVec.ofNat 32 (4 * q.val)) = ![272 * q.val + 68 * (k.val / 2) + 32 * (k.val % 2), 0] := by decide +kernel
  exact h k ⟨q, hq⟩

end Cert.KernelScanIdeal.Hand

end
-- ==== Proof.ScanV1.lean ====
/- The unpacking: each buffer's rows, block by block. -/
module

public import proofs.«01_k».proof.Proof.ScanKit

@[expose] public section

set_option maxRecDepth 8192
set_option maxHeartbeats 400000
set_option warn.classDefReducibility false

noncomputable section

namespace Cert.KernelScanIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelScanIdeal.Gen

/-- Before trip `k` the rows of the first `32 k` times are unpacked. -/
def valInv_t1 (pz dy : ℕ → ℕ → EReal) (z w : ℕ → EReal) (𝒱 : Variants) (c : Dev nD) (bd : Option 𝒱.V) (E : Set ℕ) (i : grid0.Coords) (arg1 : Memref sig .tc .vmem S1x256x2304 .fp8e5m2) (harg1 : arg1.IsWhole) (arg2 : Memref sig .tc .vmem S1x256x4608 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S6x2304 .f32) (harg5 : arg5.IsWhole) (arg6 : Memref sig .tc .vmem S1x256x4608 .fp8e5m2) (harg6 : arg6.IsWhole) (arg7 : Memref sig .tc .vmem S6x256 .f32) (harg7 : arg7.IsWhole) (arg8 : Memref sig .tc .vmem S6x2304 .f32) (harg8 : arg8.IsWhole) (arg9 : Memref sig .tc .vmem S4160x128 .f32) (harg9 : arg9.IsWhole) (arg10 : Memref sig .tc .vmem S4160x128 .f32) (harg10 : arg10.IsWhole) (arg11 : Memref sig .tc .vmem S4160x128 .f32) (harg11 : arg11.IsWhole) (arg12 : Memref sig .tc .vmem S4160x128 .f32) (harg12 : arg12.IsWhole) (arg13 : Memref sig .tc .vmem S544x128 .f32) (harg13 : arg13.IsWhole) (arg14 : Memref sig .tc .vmem S544x128 .f32) (harg14 : arg14.IsWhole) (arg15 : Memref sig .tc .vmem S544x128 .f32) (harg15 : arg15.IsWhole) (arg16 : Memref sig .tc .vmem S544x128 .f32) (harg16 : arg16.IsWhole) (arg17 : Memref sig .tc .vmem S544x128 .f32) (harg17 : arg17.IsWhole) (arg18 : Memref sig .tc .vmem S544x128 .f32) (harg18 : arg18.IsWhole) (arg19 : Memref sig .tc .vmem S24x128 .f32) (harg19 : arg19.IsWhole) (arg20 : Memref sig .tc .vmem S144x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S48x256 .f32) (harg25 : arg25.IsWhole) (arg0 : BitVec 32) (v222 : FVec Ideal S1x128 .f32) (X1 : BufTy.Contents (Elt Ideal) arg1.view.ty) (X2 : BufTy.Contents (Elt Ideal) arg2.view.ty) (h1 : ∀ (t : Fin 256) (d : Fin 2304), (arg1.view.read (Elt Ideal) X1 (ix3 (0 : Fin 1) t d) : EReal) = dy t.val d.val) (h2 : ∀ (t : Fin 256) (d : Fin 4608), (arg2.view.read (Elt Ideal) X2 (ix3 (0 : Fin 1) t d) : EReal) = pz t.val d.val) :
    Gen.LoopInvTy_k0_t1 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v222 where
  inv k _ := iprop((arg1.view.loc (c : Thread nD τ) ↦[arg1.view.set]{fullShare} X1) ∗ (arg2.view.loc (c : Thread nD τ) ↦[arg2.view.set]{fullShare} X2) ∗ (∃ f, ⌜Filled arg9.view 260 256 ordM (fun r l => pz (r % 260) (128 * (r / 260) + l) * z (r % 260)) (16 * k) f⌝ ∗ arg9.view.loc (c : Thread nD τ) ↦[arg9.view.set]{fullShare} f) ∗ (∃ f, arg10.view.loc (c : Thread nD τ) ↦[arg10.view.set]{fullShare} f) ∗ (∃ f, ⌜Filled arg12.view 260 256 ordM (fun r l => dy (r % 260) (128 * (r / 260) + l) * w (r % 260)) (16 * k) f⌝ ∗ arg12.view.loc (c : Thread nD τ) ↦[arg12.view.set]{fullShare} f) ∗ (∃ f, ⌜Filled arg13.view 68 64 ordL (fun r l => pz (timeL r) (hidL r + l) * z (timeL r)) (2 * k) f⌝ ∗ arg13.view.loc (c : Thread nD τ) ↦[arg13.view.set]{fullShare} f) ∗ (∃ f, arg14.view.loc (c : Thread nD τ) ↦[arg14.view.set]{fullShare} f) ∗ (∃ f, ⌜Filled arg16.view 68 64 ordL (fun r l => dy (timeL r) (hidL r + l) * w (timeL r)) (2 * k) f⌝ ∗ arg16.view.loc (c : Thread nD τ) ↦[arg16.view.set]{fullShare} f) ∗ (∃ f, ⌜ColAt arg21.view z f⌝ ∗ arg21.view.loc (c : Thread nD τ) ↦[arg21.view.set]{fullShare} f) ∗ (∃ f, arg22.view.loc (c : Thread nD τ) ↦[arg22.view.set]{fullShare} f) ∗ (∃ f, ⌜ColAt arg23.view w f⌝ ∗ arg23.view.loc (c : Thread nD τ) ↦[arg23.view.set]{fullShare} f))
  step k acc := by
    have hk : k.val < 8 := Nat.lt_of_lt_of_le k.isLt Gen.k0_t1_abs.2.1
    iintro ⟨H1, H2, ⟨%f9, %h9, H9⟩, ⟨%f10, H10⟩, ⟨%f12, %h12, H12⟩, ⟨%f13, %h13, H13⟩, ⟨%f14, H14⟩, ⟨%f16, %h16, H16⟩, ⟨%f21, %h21, H21⟩, ⟨%f22, H22⟩, ⟨%f23, %h23, H23⟩⟩
    unfold Gen.k0_t1_body
    sl_exec_parts
    sl_step
    isplitl [H1]; · iexact H1
    isplitl [H2]; · iexact H2
    isplitl [H9]
    · iexists _; isplitr; swap; · iexact H9
      ipureintro
      refine Filled.step _ 260 256 ordM _ (16 * k.val + 15) f9 _ _ _ (off3 k 15 (by decide)) _ _ (ordM_iff k.val 15 hk (by decide)) (fun s l => ?_) ?_
      · refine Eq.trans ?_ (newM pz z k.val 15 hk s l.val).symm
        delta valInv_t1.sl.r valInv_t1.sl.v801 valInv_t1.sl.v802 valInv_t1.sl.v803 valInv_t1.sl.v807
        pointwise []
        exact congrArg₂ (fun x y : EReal => x * y) (read_block _ X2 pz h2 _ (32 * k.val) (128 * 15) (Gen.k0_off48_eq k) _ (by omega) (by omega) s l) (ColAt.read _ z _ h21 _ (32 * k.val) (Gen.k0_off1_eq k) _ (by omega) s l)
      refine Filled.step _ 260 256 ordM _ (16 * k.val + 14) f9 _ _ _ (off3 k 14 (by decide)) _ _ (ordM_iff k.val 14 hk (by decide)) (fun s l => ?_) ?_
      · refine Eq.trans ?_ (newM pz z k.val 14 hk s l.val).symm
        delta valInv_t1.sl.r valInv_t1.sl.v772 valInv_t1.sl.v773 valInv_t1.sl.v774 valInv_t1.sl.v778
        pointwise []
        exact congrArg₂ (fun x y : EReal => x * y) (read_block _ X2 pz h2 _ (32 * k.val) (128 * 14) (Gen.k0_off45_eq k) _ (by omega) (by omega) s l) (ColAt.read _ z _ h21 _ (32 * k.val) (Gen.k0_off1_eq k) _ (by omega) s l)
      refine Filled.step _ 260 256 ordM _ (16 * k.val + 13) f9 _ _ _ (off3 k 13 (by decide)) _ _ (ordM_iff k.val 13 hk (by decide)) (fun s l => ?_) ?_
      · refine Eq.trans ?_ (newM pz z k.val 13 hk s l.val).symm
        delta valInv_t1.sl.r valInv_t1.sl.v743 valInv_t1.sl.v744 valInv_t1.sl.v745 valInv_t1.sl.v749
        pointwise []
        exact congrArg₂ (fun x y : EReal => x * y) (read_block _ X2 pz h2 _ (32 * k.val) (128 * 13) (Gen.k0_off42_eq k) _ (by omega) (by omega) s l) (ColAt.read _ z _ h21 _ (32 * k.val) (Gen.k0_off1_eq k) _ (by omega) s l)
      refine Filled.step _ 260 256 ordM _ (16 * k.val + 12) f9 _ _ _ (off3 k 12 (by decide)) _ _ (ordM_iff k.val 12 hk (by decide)) (fun s l => ?_) ?_
      · refine Eq.trans ?_ (newM pz z k.val 12 hk s l.val).symm
        delta valInv_t1.sl.r valInv_t1.sl.v714 valInv_t1.sl.v715 valInv_t1.sl.v716 valInv_t1.sl.v720
        pointwise []
        exact congrArg₂ (fun x y : EReal => x * y) (read_block _ X2 pz h2 _ (32 * k.val) (128 * 12) (Gen.k0_off39_eq k) _ (by omega) (by omega) s l) (ColAt.read _ z _ h21 _ (32 * k.val) (Gen.k0_off1_eq k) _ (by omega) s l)
      refine Filled.step _ 260 256 ordM _ (16 * k.val + 11) f9 _ _ _ (off3 k 11 (by decide)) _ _ (ordM_iff k.val 11 hk (by decide)) (fun s l => ?_) ?_
      · refine Eq.trans ?_ (newM pz z k.val 11 hk s l.val).symm
        delta valInv_t1.sl.r valInv_t1.sl.v685 valInv_t1.sl.v686 valInv_t1.sl.v687 valInv_t1.sl.v691
        pointwise []
        exact congrArg₂ (fun x y : EReal => x * y) (read_block _ X2 pz h2 _ (32 * k.val) (128 * 11) (Gen.k0_off36_eq k) _ (by omega) (by omega) s l) (ColAt.read _ z _ h21 _ (32 * k.val) (Gen.k0_off1_eq k) _ (by omega) s l)
      refine Filled.step _ 260 256 ordM _ (16 * k.val + 10) f9 _ _ _ (off3 k 10 (by decide)) _ _ (ordM_iff k.val 10 hk (by decide)) (fun s l => ?_) ?_
      · refine Eq.trans ?_ (newM pz z k.val 10 hk s l.val).symm
        delta valInv_t1.sl.r valInv_t1.sl.v656 valInv_t1.sl.v657 valInv_t1.sl.v658 valInv_t1.sl.v662
        pointwise []
        exact congrArg₂ (fun x y : EReal => x * y) (read_block _ X2 pz h2 _ (32 * k.val) (128 * 10) (Gen.k0_off33_eq k) _ (by omega) (by omega) s l) (ColAt.read _ z _ h21 _ (32 * k.val) (Gen.k0_off1_eq k) _ (by omega) s l)
      refine Filled.step _ 260 256 ordM _ (16 * k.val + 9) f9 _ _ _ (off3 k 9 (by decide)) _ _ (ordM_iff k.val 9 hk (by decide)) (fun s l => ?_) ?_
      · refine Eq.trans ?_ (newM pz z k.val 9 hk s l.val).symm
        delta valInv_t1.sl.r valInv_t1.sl.v627 valInv_t1.sl.v628 valInv_t1.sl.v629 valInv_t1.sl.v633
        pointwise []
        exact congrArg₂ (fun x y : EReal => x * y) (read_block _ X2 pz h2 _ (32 * k.val) (128 * 9) (Gen.k0_off30_eq k) _ (by omega) (by omega) s l) (ColAt.read _ z _ h21 _ (32 * k.val) (Gen.k0_off1_eq k) _ (by omega) s l)
      refine Filled.step _ 260 256 ordM _ (16 * k.val + 8) f9 _ _ _ (off3 k 8 (by decide)) _ _ (ordM_iff k.val 8 hk (by decide)) (fun s l => ?_) ?_
      · refine Eq.trans ?_ (newM pz z k.val 8 hk s l.val).symm
        delta valInv_t1.sl.r valInv_t1.sl.v598 valInv_t1.sl.v599 valInv_t1.sl.v600 valInv_t1.sl.v604
        pointwise []
        exact congrArg₂ (fun x y : EReal => x * y) (read_block _ X2 pz h2 _ (32 * k.val) (128 * 8) (Gen.k0_off27_eq k) _ (by omega) (by omega) s l) (ColAt.read _ z _ h21 _ (32 * k.val) (Gen.k0_off1_eq k) _ (by omega) s l)
      refine Filled.step _ 260 256 ordM _ (16 * k.val + 7) f9 _ _ _ (off3 k 7 (by decide)) _ _ (ordM_iff k.val 7 hk (by decide)) (fun s l => ?_) ?_
      · refine Eq.trans ?_ (newM pz z k.val 7 hk s l.val).symm
        delta valInv_t1.sl.r valInv_t1.sl.v569 valInv_t1.sl.v570 valInv_t1.sl.v571 valInv_t1.sl.v575
        pointwise []
        exact congrArg₂ (fun x y : EReal => x * y) (read_block _ X2 pz h2 _ (32 * k.val) (128 * 7) (Gen.k0_off24_eq k) _ (by omega) (by omega) s l) (ColAt.read _ z _ h21 _ (32 * k.val) (Gen.k0_off1_eq k) _ (by omega) s l)
      refine Filled.step _ 260 256 ordM _ (16 * k.val + 6) f9 _ _ _ (off3 k 6 (by decide)) _ _ (ordM_iff k.val 6 hk (by decide)) (fun s l => ?_) ?_
      · refine Eq.trans ?_ (newM pz z k.val 6 hk s l.val).symm
        delta valInv_t1.sl.r valInv_t1.sl.v540 valInv_t1.sl.v541 valInv_t1.sl.v542 valInv_t1.sl.v546
        pointwise []
        exact congrArg₂ (fun x y : EReal => x * y) (read_block _ X2 pz h2 _ (32 * k.val) (128 * 6) (Gen.k0_off21_eq k) _ (by omega) (by omega) s l) (ColAt.read _ z _ h21 _ (32 * k.val) (Gen.k0_off1_eq k) _ (by omega) s l)
      refine Filled.step _ 260 256 ordM _ (16 * k.val + 5) f9 _ _ _ (off3 k 5 (by decide)) _ _ (ordM_iff k.val 5 hk (by decide)) (fun s l => ?_) ?_
      · refine Eq.trans ?_ (newM pz z k.val 5 hk s l.val).symm
        delta valInv_t1.sl.r valInv_t1.sl.v511 valInv_t1.sl.v512 valInv_t1.sl.v513 valInv_t1.sl.v517
        pointwise []
        exact congrArg₂ (fun x y : EReal => x * y) (read_block _ X2 pz h2 _ (32 * k.val) (128 * 5) (Gen.k0_off18_eq k) _ (by omega) (by omega) s l) (ColAt.read _ z _ h21 _ (32 * k.val) (Gen.k0_off1_eq k) _ (by omega) s l)
      refine Filled.step _ 260 256 ordM _ (16 * k.val + 4) f9 _ _ _ (off3 k 4 (by decide)) _ _ (ordM_iff k.val 4 hk (by decide)) (fun s l => ?_) ?_
      · refine Eq.trans ?_ (newM pz z k.val 4 hk s l.val).symm
        delta valInv_t1.sl.r valInv_t1.sl.v482 valInv_t1.sl.v483 valInv_t1.sl.v484 valInv_t1.sl.v488
        pointwise []
        exact congrArg₂ (fun x y : EReal => x * y) (read_block _ X2 pz h2 _ (32 * k.val) (128 * 4) (Gen.k0_off15_eq k) _ (by omega) (by omega) s l) (ColAt.read _ z _ h21 _ (32 * k.val) (Gen.k0_off1_eq k) _ (by omega) s l)
      refine Filled.step _ 260 256 ordM _ (16 * k.val + 3) f9 _ _ _ (off3 k 3 (by decide)) _ _ (ordM_iff k.val 3 hk (by decide)) (fun s l => ?_) ?_
      · refine Eq.trans ?_ (newM pz z k.val 3 hk s l.val).symm
        delta valInv_t1.sl.r valInv_t1.sl.v453 valInv_t1.sl.v454 valInv_t1.sl.v455 valInv_t1.sl.v459
        pointwise []
        exact congrArg₂ (fun x y : EReal => x * y) (read_block _ X2 pz h2 _ (32 * k.val) (128 * 3) (Gen.k0_off12_eq k) _ (by omega) (by omega) s l) (ColAt.read _ z _ h21 _ (32 * k.val) (Gen.k0_off1_eq k) _ (by omega) s l)
      refine Filled.step _ 260 256 ordM _ (16 * k.val + 2) f9 _ _ _ (off3 k 2 (by decide)) _ _ (ordM_iff k.val 2 hk (by decide)) (fun s l => ?_) ?_
      · refine Eq.trans ?_ (newM pz z k.val 2 hk s l.val).symm
        delta valInv_t1.sl.r valInv_t1.sl.v424 valInv_t1.sl.v425 valInv_t1.sl.v426 valInv_t1.sl.v430
        pointwise []
        exact congrArg₂ (fun x y : EReal => x * y) (read_block _ X2 pz h2 _ (32 * k.val) (128 * 2) (Gen.k0_off9_eq k) _ (by omega) (by omega) s l) (ColAt.read _ z _ h21 _ (32 * k.val) (Gen.k0_off1_eq k) _ (by omega) s l)
      refine Filled.step _ 260 256 ordM _ (16 * k.val + 1) f9 _ _ _ (off3 k 1 (by decide)) _ _ (ordM_iff k.val 1 hk (by decide)) (fun s l => ?_) ?_
      · refine Eq.trans ?_ (newM pz z k.val 1 hk s l.val).symm
        delta valInv_t1.sl.r valInv_t1.sl.v395 valInv_t1.sl.v396 valInv_t1.sl.v397 valInv_t1.sl.v401
        pointwise []
        exact congrArg₂ (fun x y : EReal => x * y) (read_block _ X2 pz h2 _ (32 * k.val) (128 * 1) (Gen.k0_off6_eq k) _ (by omega) (by omega) s l) (ColAt.read _ z _ h21 _ (32 * k.val) (Gen.k0_off1_eq k) _ (by omega) s l)
      refine Filled.step _ 260 256 ordM _ (16 * k.val + 0) f9 _ _ _ (off3 k 0 (by decide)) _ _ (ordM_iff k.val 0 hk (by decide)) (fun s l => ?_) ?_
      · refine Eq.trans ?_ (newM pz z k.val 0 hk s l.val).symm
        delta valInv_t1.sl.v366 valInv_t1.sl.v367 valInv_t1.sl.v368 valInv_t1.sl.v372
        pointwise []
        exact congrArg₂ (fun x y : EReal => x * y) ((read_block _ X2 pz h2 _ (32 * k.val) (128 * 0) (Gen.k0_off2_eq k) _ (by omega) (by omega) s l).trans (congrArg (pz _) (Nat.zero_add _))) (ColAt.read _ z _ h21 _ (32 * k.val) (Gen.k0_off1_eq k) _ (by omega) s l)
      exact h9
    isplitl [H10]
    · iexists _; iexact H10
    isplitl [H12]
    · iexists _; isplitr; swap; · iexact H12
      ipureintro
      refine Filled.step _ 260 256 ordM _ (16 * k.val + 15) f12 _ _ _ (off3 k 15 (by decide)) _ _ (ordM_iff k.val 15 hk (by decide)) (fun s l => ?_) ?_
      · refine Eq.trans ?_ (newM dy w k.val 15 hk s l.val).symm
        delta valInv_t1.sl.r_2 valInv_t1.sl.v819 valInv_t1.sl.v820 valInv_t1.sl.v821 valInv_t1.sl.v825
        pointwise []
        exact congrArg₂ (fun x y : EReal => x * y) (read_block _ X1 dy h1 _ (32 * k.val) (128 * 15) (Gen.k0_off50_eq k) _ (by omega) (by omega) s l) (ColAt.read _ w _ h23 _ (32 * k.val) (Gen.k0_off1_eq k) _ (by omega) s l)
      refine Filled.step _ 260 256 ordM _ (16 * k.val + 14) f12 _ _ _ (off3 k 14 (by decide)) _ _ (ordM_iff k.val 14 hk (by decide)) (fun s l => ?_) ?_
      · refine Eq.trans ?_ (newM dy w k.val 14 hk s l.val).symm
        delta valInv_t1.sl.r_2 valInv_t1.sl.v790 valInv_t1.sl.v791 valInv_t1.sl.v792 valInv_t1.sl.v796
        pointwise []
        exact congrArg₂ (fun x y : EReal => x * y) (read_block _ X1 dy h1 _ (32 * k.val) (128 * 14) (Gen.k0_off47_eq k) _ (by omega) (by omega) s l) (ColAt.read _ w _ h23 _ (32 * k.val) (Gen.k0_off1_eq k) _ (by omega) s l)
      refine Filled.step _ 260 256 ordM _ (16 * k.val + 13) f12 _ _ _ (off3 k 13 (by decide)) _ _ (ordM_iff k.val 13 hk (by decide)) (fun s l => ?_) ?_
      · refine Eq.trans ?_ (newM dy w k.val 13 hk s l.val).symm
        delta valInv_t1.sl.r_2 valInv_t1.sl.v761 valInv_t1.sl.v762 valInv_t1.sl.v763 valInv_t1.sl.v767
        pointwise []
        exact congrArg₂ (fun x y : EReal => x * y) (read_block _ X1 dy h1 _ (32 * k.val) (128 * 13) (Gen.k0_off44_eq k) _ (by omega) (by omega) s l) (ColAt.read _ w _ h23 _ (32 * k.val) (Gen.k0_off1_eq k) _ (by omega) s l)
      refine Filled.step _ 260 256 ordM _ (16 * k.val + 12) f12 _ _ _ (off3 k 12 (by decide)) _ _ (ordM_iff k.val 12 hk (by decide)) (fun s l => ?_) ?_
      · refine Eq.trans ?_ (newM dy w k.val 12 hk s l.val).symm
        delta valInv_t1.sl.r_2 valInv_t1.sl.v732 valInv_t1.sl.v733 valInv_t1.sl.v734 valInv_t1.sl.v738
        pointwise []
        exact congrArg₂ (fun x y : EReal => x * y) (read_block _ X1 dy h1 _ (32 * k.val) (128 * 12) (Gen.k0_off41_eq k) _ (by omega) (by omega) s l) (ColAt.read _ w _ h23 _ (32 * k.val) (Gen.k0_off1_eq k) _ (by omega) s l)
      refine Filled.step _ 260 256 ordM _ (16 * k.val + 11) f12 _ _ _ (off3 k 11 (by decide)) _ _ (ordM_iff k.val 11 hk (by decide)) (fun s l => ?_) ?_
      · refine Eq.trans ?_ (newM dy w k.val 11 hk s l.val).symm
        delta valInv_t1.sl.r_2 valInv_t1.sl.v703 valInv_t1.sl.v704 valInv_t1.sl.v705 valInv_t1.sl.v709
        pointwise []
        exact congrArg₂ (fun x y : EReal => x * y) (read_block _ X1 dy h1 _ (32 * k.val) (128 * 11) (Gen.k0_off38_eq k) _ (by omega) (by omega) s l) (ColAt.read _ w _ h23 _ (32 * k.val) (Gen.k0_off1_eq k) _ (by omega) s l)
      refine Filled.step _ 260 256 ordM _ (16 * k.val + 10) f12 _ _ _ (off3 k 10 (by decide)) _ _ (ordM_iff k.val 10 hk (by decide)) (fun s l => ?_) ?_
      · refine Eq.trans ?_ (newM dy w k.val 10 hk s l.val).symm
        delta valInv_t1.sl.r_2 valInv_t1.sl.v674 valInv_t1.sl.v675 valInv_t1.sl.v676 valInv_t1.sl.v680
        pointwise []
        exact congrArg₂ (fun x y : EReal => x * y) (read_block _ X1 dy h1 _ (32 * k.val) (128 * 10) (Gen.k0_off35_eq k) _ (by omega) (by omega) s l) (ColAt.read _ w _ h23 _ (32 * k.val) (Gen.k0_off1_eq k) _ (by omega) s l)
      refine Filled.step _ 260 256 ordM _ (16 * k.val + 9) f12 _ _ _ (off3 k 9 (by decide)) _ _ (ordM_iff k.val 9 hk (by decide)) (fun s l => ?_) ?_
      · refine Eq.trans ?_ (newM dy w k.val 9 hk s l.val).symm
        delta valInv_t1.sl.r_2 valInv_t1.sl.v645 valInv_t1.sl.v646 valInv_t1.sl.v647 valInv_t1.sl.v651
        pointwise []
        exact congrArg₂ (fun x y : EReal => x * y) (read_block _ X1 dy h1 _ (32 * k.val) (128 * 9) (Gen.k0_off32_eq k) _ (by omega) (by omega) s l) (ColAt.read _ w _ h23 _ (32 * k.val) (Gen.k0_off1_eq k) _ (by omega) s l)
      refine Filled.step _ 260 256 ordM _ (16 * k.val + 8) f12 _ _ _ (off3 k 8 (by decide)) _ _ (ordM_iff k.val 8 hk (by decide)) (fun s l => ?_) ?_
      · refine Eq.trans ?_ (newM dy w k.val 8 hk s l.val).symm
        delta valInv_t1.sl.r_2 valInv_t1.sl.v616 valInv_t1.sl.v617 valInv_t1.sl.v618 valInv_t1.sl.v622
        pointwise []
        exact congrArg₂ (fun x y : EReal => x * y) (read_block _ X1 dy h1 _ (32 * k.val) (128 * 8) (Gen.k0_off29_eq k) _ (by omega) (by omega) s l) (ColAt.read _ w _ h23 _ (32 * k.val) (Gen.k0_off1_eq k) _ (by omega) s l)
      refine Filled.step _ 260 256 ordM _ (16 * k.val + 7) f12 _ _ _ (off3 k 7 (by decide)) _ _ (ordM_iff k.val 7 hk (by decide)) (fun s l => ?_) ?_
      · refine Eq.trans ?_ (newM dy w k.val 7 hk s l.val).symm
        delta valInv_t1.sl.r_2 valInv_t1.sl.v587 valInv_t1.sl.v588 valInv_t1.sl.v589 valInv_t1.sl.v593
        pointwise []
        exact congrArg₂ (fun x y : EReal => x * y) (read_block _ X1 dy h1 _ (32 * k.val) (128 * 7) (Gen.k0_off26_eq k) _ (by omega) (by omega) s l) (ColAt.read _ w _ h23 _ (32 * k.val) (Gen.k0_off1_eq k) _ (by omega) s l)
      refine Filled.step _ 260 256 ordM _ (16 * k.val + 6) f12 _ _ _ (off3 k 6 (by decide)) _ _ (ordM_iff k.val 6 hk (by decide)) (fun s l => ?_) ?_
      · refine Eq.trans ?_ (newM dy w k.val 6 hk s l.val).symm
        delta valInv_t1.sl.r_2 valInv_t1.sl.v558 valInv_t1.sl.v559 valInv_t1.sl.v560 valInv_t1.sl.v564
        pointwise []
        exact congrArg₂ (fun x y : EReal => x * y) (read_block _ X1 dy h1 _ (32 * k.val) (128 * 6) (Gen.k0_off23_eq k) _ (by omega) (by omega) s l) (ColAt.read _ w _ h23 _ (32 * k.val) (Gen.k0_off1_eq k) _ (by omega) s l)
      refine Filled.step _ 260 256 ordM _ (16 * k.val + 5) f12 _ _ _ (off3 k 5 (by decide)) _ _ (ordM_iff k.val 5 hk (by decide)) (fun s l => ?_) ?_
      · refine Eq.trans ?_ (newM dy w k.val 5 hk s l.val).symm
        delta valInv_t1.sl.r_2 valInv_t1.sl.v529 valInv_t1.sl.v530 valInv_t1.sl.v531 valInv_t1.sl.v535
        pointwise []
        exact congrArg₂ (fun x y : EReal => x * y) (read_block _ X1 dy h1 _ (32 * k.val) (128 * 5) (Gen.k0_off20_eq k) _ (by omega) (by omega) s l) (ColAt.read _ w _ h23 _ (32 * k.val) (Gen.k0_off1_eq k) _ (by omega) s l)
      refine Filled.step _ 260 256 ordM _ (16 * k.val + 4) f12 _ _ _ (off3 k 4 (by decide)) _ _ (ordM_iff k.val 4 hk (by decide)) (fun s l => ?_) ?_
      · refine Eq.trans ?_ (newM dy w k.val 4 hk s l.val).symm
        delta valInv_t1.sl.r_2 valInv_t1.sl.v500 valInv_t1.sl.v501 valInv_t1.sl.v502 valInv_t1.sl.v506
        pointwise []
        exact congrArg₂ (fun x y : EReal => x * y) (read_block _ X1 dy h1 _ (32 * k.val) (128 * 4) (Gen.k0_off17_eq k) _ (by omega) (by omega) s l) (ColAt.read _ w _ h23 _ (32 * k.val) (Gen.k0_off1_eq k) _ (by omega) s l)
      refine Filled.step _ 260 256 ordM _ (16 * k.val + 3) f12 _ _ _ (off3 k 3 (by decide)) _ _ (ordM_iff k.val 3 hk (by decide)) (fun s l => ?_) ?_
      · refine Eq.trans ?_ (newM dy w k.val 3 hk s l.val).symm
        delta valInv_t1.sl.r_2 valInv_t1.sl.v471 valInv_t1.sl.v472 valInv_t1.sl.v473 valInv_t1.sl.v477
        pointwise []
        exact congrArg₂ (fun x y : EReal => x * y) (read_block _ X1 dy h1 _ (32 * k.val) (128 * 3) (Gen.k0_off14_eq k) _ (by omega) (by omega) s l) (ColAt.read _ w _ h23 _ (32 * k.val) (Gen.k0_off1_eq k) _ (by omega) s l)
      refine Filled.step _ 260 256 ordM _ (16 * k.val + 2) f12 _ _ _ (off3 k 2 (by decide)) _ _ (ordM_iff k.val 2 hk (by decide)) (fun s l => ?_) ?_
      · refine Eq.trans ?_ (newM dy w k.val 2 hk s l.val).symm
        delta valInv_t1.sl.r_2 valInv_t1.sl.v442 valInv_t1.sl.v443 valInv_t1.sl.v444 valInv_t1.sl.v448
        pointwise []
        exact congrArg₂ (fun x y : EReal => x * y) (read_block _ X1 dy h1 _ (32 * k.val) (128 * 2) (Gen.k0_off11_eq k) _ (by omega) (by omega) s l) (ColAt.read _ w _ h23 _ (32 * k.val) (Gen.k0_off1_eq k) _ (by omega) s l)
      refine Filled.step _ 260 256 ordM _ (16 * k.val + 1) f12 _ _ _ (off3 k 1 (by decide)) _ _ (ordM_iff k.val 1 hk (by decide)) (fun s l => ?_) ?_
      · refine Eq.trans ?_ (newM dy w k.val 1 hk s l.val).symm
        delta valInv_t1.sl.r_2 valInv_t1.sl.v413 valInv_t1.sl.v414 valInv_t1.sl.v415 valInv_t1.sl.v419
        pointwise []
        exact congrArg₂ (fun x y : EReal => x * y) (read_block _ X1 dy h1 _ (32 * k.val) (128 * 1) (Gen.k0_off8_eq k) _ (by omega) (by omega) s l) (ColAt.read _ w _ h23 _ (32 * k.val) (Gen.k0_off1_eq k) _ (by omega) s l)
      refine Filled.step _ 260 256 ordM _ (16 * k.val + 0) f12 _ _ _ (off3 k 0 (by decide)) _ _ (ordM_iff k.val 0 hk (by decide)) (fun s l => ?_) ?_
      · refine Eq.trans ?_ (newM dy w k.val 0 hk s l.val).symm
        delta valInv_t1.sl.v384 valInv_t1.sl.v385 valInv_t1.sl.v386 valInv_t1.sl.v390
        pointwise []
        exact congrArg₂ (fun x y : EReal => x * y) ((read_block _ X1 dy h1 _ (32 * k.val) (128 * 0) (Gen.k0_off5_eq k) _ (by omega) (by omega) s l).trans (congrArg (dy _) (Nat.zero_add _))) (ColAt.read _ w _ h23 _ (32 * k.val) (Gen.k0_off1_eq k) _ (by omega) s l)
      exact h12
    isplitl [H13]
    · iexists _; isplitr; swap; · iexact H13
      ipureintro
      refine Filled.step _ 68 64 ordL _ (2 * k.val + 1) f13 _ _ _ (off52 k 1 (by decide)) _ _ (ordL_iff k.val 1 hk (by decide)) (fun s l => ?_) ?_
      · refine Eq.trans ?_ (newL pz z k.val 1 hk (by decide) s l.val).symm
        delta valInv_t1.sl.r valInv_t1.sl.v917 valInv_t1.sl.v918 valInv_t1.sl.v919
        pointwise [k0_pay501]
        exact congrArg₂ (fun x y : EReal => x * y) (read_block _ X2 pz h2 _ (32 * k.val) (128 * 17) (Gen.k0_off55_eq k) _ (by omega) (by omega) s l) (ColAt.read _ z _ h21 _ (32 * k.val) (Gen.k0_off1_eq k) _ (by omega) s l)
      refine Filled.step _ 68 64 ordL _ (2 * k.val + 0) f13 _ _ _ (off52 k 0 (by decide)) _ _ (ordL_iff k.val 0 hk (by decide)) (fun s l => ?_) ?_
      · refine Eq.trans ?_ (newL pz z k.val 0 hk (by decide) s l.val).symm
        delta valInv_t1.sl.r valInv_t1.sl.v859 valInv_t1.sl.v860 valInv_t1.sl.v861 valInv_t1.sl.v865
        pointwise []
        exact congrArg₂ (fun x y : EReal => x * y) (read_block _ X2 pz h2 _ (32 * k.val) (128 * 16) (Gen.k0_off51_eq k) _ (by omega) (by omega) s l) (ColAt.read _ z _ h21 _ (32 * k.val) (Gen.k0_off1_eq k) _ (by omega) s l)
      exact h13
    isplitl [H14]
    · iexists _; iexact H14
    isplitl [H16]
    · iexists _; isplitr; swap; · iexact H16
      ipureintro
      refine Filled.step _ 68 64 ordL _ (2 * k.val + 1) f16 _ _ _ (off52 k 1 (by decide)) _ _ (ordL_iff k.val 1 hk (by decide)) (fun s l => ?_) ?_
      · refine Eq.trans ?_ (newL dy w k.val 1 hk (by decide) s l.val).symm
        delta valInv_t1.sl.r_2
        pointwise [k0_pay503]
        exact congrArg₂ (fun x y : EReal => x * y) (read_block _ X1 dy h1 _ (32 * k.val) (128 * 17) (Gen.k0_off57_eq k) _ (by omega) (by omega) s l) (ColAt.read _ w _ h23 _ (32 * k.val) (Gen.k0_off1_eq k) _ (by omega) s l)
      refine Filled.step _ 68 64 ordL _ (2 * k.val + 0) f16 _ _ _ (off52 k 0 (by decide)) _ _ (ordL_iff k.val 0 hk (by decide)) (fun s l => ?_) ?_
      · refine Eq.trans ?_ (newL dy w k.val 0 hk (by decide) s l.val).symm
        delta valInv_t1.sl.r_2 valInv_t1.sl.v877 valInv_t1.sl.v878 valInv_t1.sl.v879 valInv_t1.sl.v883
        pointwise []
        exact congrArg₂ (fun x y : EReal => x * y) (read_block _ X1 dy h1 _ (32 * k.val) (128 * 16) (Gen.k0_off54_eq k) _ (by omega) (by omega) s l) (ColAt.read _ w _ h23 _ (32 * k.val) (Gen.k0_off1_eq k) _ (by omega) s l)
      exact h16
    isplitl [H21]
    · iexists _; isplitr; swap; · iexact H21
      ipureintro
      exact h21
    isplitl [H22]
    · iexists _; iexact H22
    iexists _; isplitr; swap; · iexact H23
    ipureintro
    exact h23

end Cert.KernelScanIdeal.Hand

end
-- ==== Proof.ScanV2.lean ====
/- The forward pass over the main rows: what it leaves in the rows' scale. -/
module

public import proofs.«01_k».proof.Proof.ScanKit

@[expose] public section

set_option maxRecDepth 8192
set_option maxHeartbeats 400000
set_option warn.classDefReducibility false

noncomputable section

namespace Cert.KernelScanIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelScanIdeal.Gen

/-- Before trip `k` the rows of the first `8 k` times hold the state's scale. -/
def valInv_t2 (X : ℕ → ℕ → EReal) (𝒱 : Variants) (c : Dev nD) (bd : Option 𝒱.V) (E : Set ℕ) (i : grid0.Coords) (arg1 : Memref sig .tc .vmem S1x256x2304 .fp8e5m2) (harg1 : arg1.IsWhole) (arg2 : Memref sig .tc .vmem S1x256x4608 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S6x2304 .f32) (harg5 : arg5.IsWhole) (arg6 : Memref sig .tc .vmem S1x256x4608 .fp8e5m2) (harg6 : arg6.IsWhole) (arg7 : Memref sig .tc .vmem S6x256 .f32) (harg7 : arg7.IsWhole) (arg8 : Memref sig .tc .vmem S6x2304 .f32) (harg8 : arg8.IsWhole) (arg9 : Memref sig .tc .vmem S4160x128 .f32) (harg9 : arg9.IsWhole) (arg10 : Memref sig .tc .vmem S4160x128 .f32) (harg10 : arg10.IsWhole) (arg11 : Memref sig .tc .vmem S4160x128 .f32) (harg11 : arg11.IsWhole) (arg12 : Memref sig .tc .vmem S4160x128 .f32) (harg12 : arg12.IsWhole) (arg13 : Memref sig .tc .vmem S544x128 .f32) (harg13 : arg13.IsWhole) (arg14 : Memref sig .tc .vmem S544x128 .f32) (harg14 : arg14.IsWhole) (arg15 : Memref sig .tc .vmem S544x128 .f32) (harg15 : arg15.IsWhole) (arg16 : Memref sig .tc .vmem S544x128 .f32) (harg16 : arg16.IsWhole) (arg17 : Memref sig .tc .vmem S544x128 .f32) (harg17 : arg17.IsWhole) (arg18 : Memref sig .tc .vmem S544x128 .f32) (harg18 : arg18.IsWhole) (arg19 : Memref sig .tc .vmem S24x128 .f32) (harg19 : arg19.IsWhole) (arg20 : Memref sig .tc .vmem S144x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S48x256 .f32) (harg25 : arg25.IsWhole) (arg0 : BitVec 32) (v222 : FVec Ideal S1x128 .f32) (init : Vec Ideal S8x128 .f32 × Vec Ideal S8x128 .f32) :
    Gen.LoopInvTy_k0_t2 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v222 init where
  inv k _ := iprop((∃ f, ⌜Swept arg9.view 260 256 fwdM X (fun r l => gA (X r l)) (16 * k) f⌝ ∗ arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f))
  step k acc := by
    have hk : k.val < 32 := Nat.lt_of_lt_of_le k.isLt Gen.k0_t2_abs.2.1
    iintro ⟨⟨%f9, %h9, H9⟩, ⟨%f10, H10⟩, ⟨%f11, H11⟩⟩
    unfold Gen.k0_t2_body
    sl_exec_parts
    sl_step
    isplitl [H9]
    · iexists _; isplitr; swap; · iexact H9
      ipureintro
      show Swept _ 260 256 fwdM _ _ (16 * k.val + 16) _
      refine Swept.step' _ 260 256 fwdM _ _ (16 * k.val + 15) f9 _ _ _ (off58 k 7 1 (by decide) (by decide)) _ _ _ (fwdM_at k.val 7 1 _ hk (by decide) (by decide) rfl) (fun h s l => ?_) ?_
      · delta valInv_t2.sl.r_71
        pointwise [k0_pay212, k0_pay214, k0_pay215, k0_pay216, k0_pay504]
        exact congrArg gA (readM _ _ _ _ _ h k.val 7 1 hk (by decide) (by decide) le_rfl _ (off58 k 7 1 (by decide) (by decide)) _ s l _ (by omega))
      refine Swept.step' _ 260 256 fwdM _ _ (16 * k.val + 14) f9 _ _ _ (off58 k 7 0 (by decide) (by decide)) _ _ _ (fwdM_at k.val 7 0 _ hk (by decide) (by decide) rfl) (fun h s l => ?_) ?_
      · pointwise [k0_pay204, k0_pay205, k0_pay210]
        exact congrArg gA (readM _ _ _ _ _ h k.val 7 0 hk (by decide) (by decide) le_rfl _ (off58 k 7 0 (by decide) (by decide)) _ s l _ (by omega))
      refine Swept.step' _ 260 256 fwdM _ _ (16 * k.val + 13) f9 _ _ _ (off58 k 6 1 (by decide) (by decide)) _ _ _ (fwdM_at k.val 6 1 _ hk (by decide) (by decide) rfl) (fun h s l => ?_) ?_
      · pointwise [k0_pay194, k0_pay195, k0_pay199]
        exact congrArg gA (readM _ _ _ _ _ h k.val 6 1 hk (by decide) (by decide) le_rfl _ (off58 k 6 1 (by decide) (by decide)) _ s l _ (by omega))
      refine Swept.step' _ 260 256 fwdM _ _ (16 * k.val + 12) f9 _ _ _ (off58 k 6 0 (by decide) (by decide)) _ _ _ (fwdM_at k.val 6 0 _ hk (by decide) (by decide) rfl) (fun h s l => ?_) ?_
      · delta valInv_t2.sl.r_57
        pointwise [k0_pay185, k0_pay186, k0_pay190]
        exact congrArg gA (readM _ _ _ _ _ h k.val 6 0 hk (by decide) (by decide) le_rfl _ (off58 k 6 0 (by decide) (by decide)) _ s l _ (by omega))
      refine Swept.step' _ 260 256 fwdM _ _ (16 * k.val + 11) f9 _ _ _ (off58 k 5 1 (by decide) (by decide)) _ _ _ (fwdM_at k.val 5 1 _ hk (by decide) (by decide) rfl) (fun h s l => ?_) ?_
      · delta valInv_t2.sl.cst_233 valInv_t2.sl.v900 valInv_t2.sl.v902 valInv_t2.sl.v904 valInv_t2.sl.v906
        pointwise [k0_pay181]
        exact congrArg gA (readM _ _ _ _ _ h k.val 5 1 hk (by decide) (by decide) le_rfl _ (off58 k 5 1 (by decide) (by decide)) _ s l _ (by omega))
      refine Swept.step' _ 260 256 fwdM _ _ (16 * k.val + 10) f9 _ _ _ (off58 k 5 0 (by decide) (by decide)) _ _ _ (fwdM_at k.val 5 0 _ hk (by decide) (by decide) rfl) (fun h s l => ?_) ?_
      · delta valInv_t2.sl.r_53 valInv_t2.sl.v879
        pointwise [k0_pay166, k0_pay167]
        exact congrArg gA (readM _ _ _ _ _ h k.val 5 0 hk (by decide) (by decide) le_rfl _ (off58 k 5 0 (by decide) (by decide)) _ s l _ (by omega))
      refine Swept.step' _ 260 256 fwdM _ _ (16 * k.val + 9) f9 _ _ _ (off58 k 4 1 (by decide) (by decide)) _ _ _ (fwdM_at k.val 4 1 _ hk (by decide) (by decide) rfl) (fun h s l => ?_) ?_
      · delta valInv_t2.sl.r_46
        pointwise [k0_pay157, k0_pay158, k0_pay162]
        exact congrArg gA (readM _ _ _ _ _ h k.val 4 1 hk (by decide) (by decide) le_rfl _ (off58 k 4 1 (by decide) (by decide)) _ s l _ (by omega))
      refine Swept.step' _ 260 256 fwdM _ _ (16 * k.val + 8) f9 _ _ _ (off58 k 4 0 (by decide) (by decide)) _ _ _ (fwdM_at k.val 4 0 _ hk (by decide) (by decide) rfl) (fun h s l => ?_) ?_
      · delta valInv_t2.sl.r_41
        pointwise [k0_pay147, k0_pay148, k0_pay153]
        exact congrArg gA (readM _ _ _ _ _ h k.val 4 0 hk (by decide) (by decide) le_rfl _ (off58 k 4 0 (by decide) (by decide)) _ s l _ (by omega))
      refine Swept.step' _ 260 256 fwdM _ _ (16 * k.val + 7) f9 _ _ _ (off58 k 3 1 (by decide) (by decide)) _ _ _ (fwdM_at k.val 3 1 _ hk (by decide) (by decide) rfl) (fun h s l => ?_) ?_
      · pointwise [k0_pay136, k0_pay137, k0_pay142]
        exact congrArg gA (readM _ _ _ _ _ h k.val 3 1 hk (by decide) (by decide) le_rfl _ (off58 k 3 1 (by decide) (by decide)) _ s l _ (by omega))
      refine Swept.step' _ 260 256 fwdM _ _ (16 * k.val + 6) f9 _ _ _ (off58 k 3 0 (by decide) (by decide)) _ _ _ (fwdM_at k.val 3 0 _ hk (by decide) (by decide) rfl) (fun h s l => ?_) ?_
      · pointwise [k0_pay126, k0_pay127, k0_pay131]
        exact congrArg gA (readM _ _ _ _ _ h k.val 3 0 hk (by decide) (by decide) le_rfl _ (off58 k 3 0 (by decide) (by decide)) _ s l _ (by omega))
      refine Swept.step' _ 260 256 fwdM _ _ (16 * k.val + 5) f9 _ _ _ (off58 k 2 1 (by decide) (by decide)) _ _ _ (fwdM_at k.val 2 1 _ hk (by decide) (by decide) rfl) (fun h s l => ?_) ?_
      · delta valInv_t2.sl.cst_233 valInv_t2.sl.v606 valInv_t2.sl.v608
        pointwise [k0_pay117, k0_pay118, k0_pay122]
        exact congrArg gA (readM _ _ _ _ _ h k.val 2 1 hk (by decide) (by decide) le_rfl _ (off58 k 2 1 (by decide) (by decide)) _ s l _ (by omega))
      refine Swept.step' _ 260 256 fwdM _ _ (16 * k.val + 4) f9 _ _ _ (off58 k 2 0 (by decide) (by decide)) _ _ _ (fwdM_at k.val 2 0 _ hk (by decide) (by decide) rfl) (fun h s l => ?_) ?_
      · delta valInv_t2.sl.r_24 valInv_t2.sl.v585
        pointwise [k0_pay107, k0_pay108]
        exact congrArg gA (readM _ _ _ _ _ h k.val 2 0 hk (by decide) (by decide) le_rfl _ (off58 k 2 0 (by decide) (by decide)) _ s l _ (by omega))
      refine Swept.step' _ 260 256 fwdM _ _ (16 * k.val + 3) f9 _ _ _ (off58 k 1 1 (by decide) (by decide)) _ _ _ (fwdM_at k.val 1 1 _ hk (by decide) (by decide) rfl) (fun h s l => ?_) ?_
      · delta valInv_t2.sl.r_19
        pointwise [k0_pay97, k0_pay98, k0_pay103]
        exact congrArg gA (readM _ _ _ _ _ h k.val 1 1 hk (by decide) (by decide) le_rfl _ (off58 k 1 1 (by decide) (by decide)) _ s l _ (by omega))
      refine Swept.step' _ 260 256 fwdM _ _ (16 * k.val + 2) f9 _ _ _ (off58 k 1 0 (by decide) (by decide)) _ _ _ (fwdM_at k.val 1 0 _ hk (by decide) (by decide) rfl) (fun h s l => ?_) ?_
      · delta valInv_t2.sl.r_12
        pointwise [k0_pay87, k0_pay88, k0_pay93]
        exact congrArg gA (readM _ _ _ _ _ h k.val 1 0 hk (by decide) (by decide) le_rfl _ (off58 k 1 0 (by decide) (by decide)) _ s l _ (by omega))
      refine Swept.step' _ 260 256 fwdM _ _ (16 * k.val + 1) f9 _ _ _ (off58 k 0 1 (by decide) (by decide)) _ _ _ (fwdM_at k.val 0 1 _ hk (by decide) (by decide) rfl) (fun h s l => ?_) ?_
      · delta valInv_t2.sl.v407
        pointwise [k0_pay77, k0_pay78, k0_pay83]
        exact congrArg gA (readM _ _ _ _ _ h9 k.val 0 1 hk (by decide) (by decide) (by omega) _ (off58 k 0 1 (by decide) (by decide)) _ s l _ (by omega))
      refine Swept.step' _ 260 256 fwdM _ _ (16 * k.val + 0) f9 _ _ _ (off58 k 0 0 (by decide) (by decide)) _ _ _ (fwdM_at k.val 0 0 _ hk (by decide) (by decide) rfl) (fun h s l => ?_) ?_
      · pointwise [k0_pay66, k0_pay67, k0_pay72]
        exact congrArg gA (readM _ _ _ _ _ h9 k.val 0 0 hk (by decide) (by decide) (by omega) _ (off58 k 0 0 (by decide) (by decide)) _ s l _ (by omega))
      exact h9
    isplitl [H10]; · iexists _; iexact H10
    iexists _; iexact H11

end Cert.KernelScanIdeal.Hand

end
-- ==== Proof.ScanV3.lean ====
/- The backward pass over the main rows: what it carries. -/
module

public import proofs.«01_k».proof.Proof.ScanKit

@[expose] public section

set_option maxRecDepth 8192
set_option maxHeartbeats 400000
set_option warn.classDefReducibility false

noncomputable section

namespace Cert.KernelScanIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelScanIdeal.Gen

/-- Before trip `k` the two carries hold what the backward pass carries after `8 k` steps; the scales and the gradients stay. -/
def valInv_t3 (A D : ℕ → ℕ → EReal) (𝒱 : Variants) (c : Dev nD) (bd : Option 𝒱.V) (E : Set ℕ) (i : grid0.Coords) (arg1 : Memref sig .tc .vmem S1x256x2304 .fp8e5m2) (harg1 : arg1.IsWhole) (arg2 : Memref sig .tc .vmem S1x256x4608 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S6x2304 .f32) (harg5 : arg5.IsWhole) (arg6 : Memref sig .tc .vmem S1x256x4608 .fp8e5m2) (harg6 : arg6.IsWhole) (arg7 : Memref sig .tc .vmem S6x256 .f32) (harg7 : arg7.IsWhole) (arg8 : Memref sig .tc .vmem S6x2304 .f32) (harg8 : arg8.IsWhole) (arg9 : Memref sig .tc .vmem S4160x128 .f32) (harg9 : arg9.IsWhole) (arg10 : Memref sig .tc .vmem S4160x128 .f32) (harg10 : arg10.IsWhole) (arg11 : Memref sig .tc .vmem S4160x128 .f32) (harg11 : arg11.IsWhole) (arg12 : Memref sig .tc .vmem S4160x128 .f32) (harg12 : arg12.IsWhole) (arg13 : Memref sig .tc .vmem S544x128 .f32) (harg13 : arg13.IsWhole) (arg14 : Memref sig .tc .vmem S544x128 .f32) (harg14 : arg14.IsWhole) (arg15 : Memref sig .tc .vmem S544x128 .f32) (harg15 : arg15.IsWhole) (arg16 : Memref sig .tc .vmem S544x128 .f32) (harg16 : arg16.IsWhole) (arg17 : Memref sig .tc .vmem S544x128 .f32) (harg17 : arg17.IsWhole) (arg18 : Memref sig .tc .vmem S544x128 .f32) (harg18 : arg18.IsWhole) (arg19 : Memref sig .tc .vmem S24x128 .f32) (harg19 : arg19.IsWhole) (arg20 : Memref sig .tc .vmem S144x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S48x256 .f32) (harg25 : arg25.IsWhole) (arg0 : BitVec 32) (v222 : FVec Ideal S1x128 .f32) (init : FVec Ideal S8x128 .f32 × FVec Ideal S8x128 .f32) :
    Gen.LoopInvTy_k0_t3 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v222 init where
  inv k acc := iprop(⌜∀ (s : Fin 8) (l : Fin 128), (acc.1 (ix2 s l) : EReal) = uM A D 0 s l (8 * k) ∧ (acc.2 (ix2 s l) : EReal) = uM A D 1 s l (8 * k)⌝ ∗ (∃ f, ⌜RowsAt arg9.view 260 256 A f⌝ ∗ arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, ⌜RowsAt arg12.view 260 256 D f⌝ ∗ arg12.view.loc (c : Thread nD τ) ↦[arg12.view.set]{fullShare} f))
  step k acc := by
    have hk : k.val < 32 := Nat.lt_of_lt_of_le k.isLt Gen.k0_t3_abs.2.1
    iintro ⟨%hacc, ⟨%f9, %h9, H9⟩, ⟨%f10, H10⟩, ⟨%f11, H11⟩, ⟨%f12, %h12, H12⟩⟩
    unfold Gen.k0_t3_body
    sl_exec_parts
    sl_step
    isplitr
    · ipureintro
      intro s l
      refine ⟨?_, ?_⟩
      · show _ = uM A D 0 s l (8 * k.val + 7 + 1)
        have hs := s.isLt
        delta valInv_t3.sl.r_2 valInv_t3.sl.v361 valInv_t3.sl.v378 valInv_t3.sl.v406 valInv_t3.sl.v423 valInv_t3.sl.v451 valInv_t3.sl.v468 valInv_t3.sl.v496 valInv_t3.sl.v513 valInv_t3.sl.v541 valInv_t3.sl.v558 valInv_t3.sl.v586 valInv_t3.sl.v603 valInv_t3.sl.v631 valInv_t3.sl.v648 valInv_t3.sl.v676
        pointwise [k0_pay511]
        refine uRec_step _ _ _ (8 * k.val + 7) _ _ _ (RowsAt.readM _ A _ h9 (255 - (8 * k.val + 7)) 0 (by omega) (by decide) _ (off59 k 7 0 (by decide) (by decide)) _ s l) (RowsAt.readM _ D _ h12 (255 - (8 * k.val + 7)) 0 (by omega) (by decide) _ (off59 k 7 0 (by decide) (by decide)) _ s l) ?_
        refine uRec_step _ _ _ (8 * k.val + 6) _ _ _ (RowsAt.readM _ A _ h9 (255 - (8 * k.val + 6)) 0 (by omega) (by decide) _ (off59 k 6 0 (by decide) (by decide)) _ s l) (RowsAt.readM _ D _ h12 (255 - (8 * k.val + 6)) 0 (by omega) (by decide) _ (off59 k 6 0 (by decide) (by decide)) _ s l) ?_
        refine uRec_step _ _ _ (8 * k.val + 5) _ _ _ (RowsAt.readM _ A _ h9 (255 - (8 * k.val + 5)) 0 (by omega) (by decide) _ (off59 k 5 0 (by decide) (by decide)) _ s l) (RowsAt.readM _ D _ h12 (255 - (8 * k.val + 5)) 0 (by omega) (by decide) _ (off59 k 5 0 (by decide) (by decide)) _ s l) ?_
        refine uRec_step _ _ _ (8 * k.val + 4) _ _ _ (RowsAt.readM _ A _ h9 (255 - (8 * k.val + 4)) 0 (by omega) (by decide) _ (off59 k 4 0 (by decide) (by decide)) _ s l) (RowsAt.readM _ D _ h12 (255 - (8 * k.val + 4)) 0 (by omega) (by decide) _ (off59 k 4 0 (by decide) (by decide)) _ s l) ?_
        refine uRec_step _ _ _ (8 * k.val + 3) _ _ _ (RowsAt.readM _ A _ h9 (255 - (8 * k.val + 3)) 0 (by omega) (by decide) _ (off59 k 3 0 (by decide) (by decide)) _ s l) (RowsAt.readM _ D _ h12 (255 - (8 * k.val + 3)) 0 (by omega) (by decide) _ (off59 k 3 0 (by decide) (by decide)) _ s l) ?_
        refine uRec_step _ _ _ (8 * k.val + 2) _ _ _ (RowsAt.readM _ A _ h9 (255 - (8 * k.val + 2)) 0 (by omega) (by decide) _ (off59 k 2 0 (by decide) (by decide)) _ s l) (RowsAt.readM _ D _ h12 (255 - (8 * k.val + 2)) 0 (by omega) (by decide) _ (off59 k 2 0 (by decide) (by decide)) _ s l) ?_
        refine uRec_step _ _ _ (8 * k.val + 1) _ _ _ (RowsAt.readM _ A _ h9 (255 - (8 * k.val + 1)) 0 (by omega) (by decide) _ (off59 k 1 0 (by decide) (by decide)) _ s l) (RowsAt.readM _ D _ h12 (255 - (8 * k.val + 1)) 0 (by omega) (by decide) _ (off59 k 1 0 (by decide) (by decide)) _ s l) ?_
        refine uRec_step _ _ _ (8 * k.val + 0) _ _ _ (RowsAt.readM _ A _ h9 (255 - (8 * k.val + 0)) 0 (by omega) (by decide) _ (off59 k 0 0 (by decide) (by decide)) _ s l) (RowsAt.readM _ D _ h12 (255 - (8 * k.val + 0)) 0 (by omega) (by decide) _ (off59 k 0 0 (by decide) (by decide)) _ s l) ?_
        exact (hacc s l).1
      · show _ = uM A D 1 s l (8 * k.val + 7 + 1)
        have hs := s.isLt
        delta valInv_t3.sl.r_1 valInv_t3.sl.v382 valInv_t3.sl.v399 valInv_t3.sl.v427 valInv_t3.sl.v444 valInv_t3.sl.v472 valInv_t3.sl.v489 valInv_t3.sl.v517 valInv_t3.sl.v534 valInv_t3.sl.v562 valInv_t3.sl.v579 valInv_t3.sl.v607 valInv_t3.sl.v624 valInv_t3.sl.v652 valInv_t3.sl.v669
        pointwise [k0_pay512, k0_pay515]
        refine uRec_step _ _ _ (8 * k.val + 7) _ _ _ (RowsAt.readM _ A _ h9 (255 - (8 * k.val + 7)) 1 (by omega) (by decide) _ (off59 k 7 1 (by decide) (by decide)) _ s l) (RowsAt.readM _ D _ h12 (255 - (8 * k.val + 7)) 1 (by omega) (by decide) _ (off59 k 7 1 (by decide) (by decide)) _ s l) ?_
        refine uRec_step _ _ _ (8 * k.val + 6) _ _ _ (RowsAt.readM _ A _ h9 (255 - (8 * k.val + 6)) 1 (by omega) (by decide) _ (off59 k 6 1 (by decide) (by decide)) _ s l) (RowsAt.readM _ D _ h12 (255 - (8 * k.val + 6)) 1 (by omega) (by decide) _ (off59 k 6 1 (by decide) (by decide)) _ s l) ?_
        refine uRec_step _ _ _ (8 * k.val + 5) _ _ _ (RowsAt.readM _ A _ h9 (255 - (8 * k.val + 5)) 1 (by omega) (by decide) _ (off59 k 5 1 (by decide) (by decide)) _ s l) (RowsAt.readM _ D _ h12 (255 - (8 * k.val + 5)) 1 (by omega) (by decide) _ (off59 k 5 1 (by decide) (by decide)) _ s l) ?_
        refine uRec_step _ _ _ (8 * k.val + 4) _ _ _ (RowsAt.readM _ A _ h9 (255 - (8 * k.val + 4)) 1 (by omega) (by decide) _ (off59 k 4 1 (by decide) (by decide)) _ s l) (RowsAt.readM _ D _ h12 (255 - (8 * k.val + 4)) 1 (by omega) (by decide) _ (off59 k 4 1 (by decide) (by decide)) _ s l) ?_
        refine uRec_step _ _ _ (8 * k.val + 3) _ _ _ (RowsAt.readM _ A _ h9 (255 - (8 * k.val + 3)) 1 (by omega) (by decide) _ (off59 k 3 1 (by decide) (by decide)) _ s l) (RowsAt.readM _ D _ h12 (255 - (8 * k.val + 3)) 1 (by omega) (by decide) _ (off59 k 3 1 (by decide) (by decide)) _ s l) ?_
        refine uRec_step _ _ _ (8 * k.val + 2) _ _ _ (RowsAt.readM _ A _ h9 (255 - (8 * k.val + 2)) 1 (by omega) (by decide) _ (off59 k 2 1 (by decide) (by decide)) _ s l) (RowsAt.readM _ D _ h12 (255 - (8 * k.val + 2)) 1 (by omega) (by decide) _ (off59 k 2 1 (by decide) (by decide)) _ s l) ?_
        refine uRec_step _ _ _ (8 * k.val + 1) _ _ _ (RowsAt.readM _ A _ h9 (255 - (8 * k.val + 1)) 1 (by omega) (by decide) _ (off59 k 1 1 (by decide) (by decide)) _ s l) (RowsAt.readM _ D _ h12 (255 - (8 * k.val + 1)) 1 (by omega) (by decide) _ (off59 k 1 1 (by decide) (by decide)) _ s l) ?_
        refine uRec_step _ _ _ (8 * k.val + 0) _ _ _ (RowsAt.readM _ A _ h9 (255 - (8 * k.val + 0)) 1 (by omega) (by decide) _ (off59 k 0 1 (by decide) (by decide)) _ s l) (RowsAt.readM _ D _ h12 (255 - (8 * k.val + 0)) 1 (by omega) (by decide) _ (off59 k 0 1 (by decide) (by decide)) _ s l) ?_
        exact (hacc s l).2
    isplitl [H9]
    · iexists _; isplitr; swap; · iexact H9
      ipureintro
      exact h9
    isplitl [H10]
    · iexists _; iexact H10
    isplitl [H11]
    · iexists _; iexact H11
    iexists _; isplitr; swap; · iexact H12
    ipureintro
    exact h12

end Cert.KernelScanIdeal.Hand

end
-- ==== Proof.ScanV4.lean ====
/- The first forward pass over the left rows: what it leaves in the rows' scale, and the product it carries. -/
module

public import proofs.«01_k».proof.Proof.ScanKit

@[expose] public section

set_option maxRecDepth 8192
set_option maxHeartbeats 400000
set_option warn.classDefReducibility false

noncomputable section

namespace Cert.KernelScanIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelScanIdeal.Gen

/-- Before trip `k` the rows of the first `8 k` steps of each chunk hold the state's scale, and the first carry the product of the scales so far. -/
def valInv_t4 (X : ℕ → ℕ → EReal) (𝒱 : Variants) (c : Dev nD) (bd : Option 𝒱.V) (E : Set ℕ) (i : grid0.Coords) (arg1 : Memref sig .tc .vmem S1x256x2304 .fp8e5m2) (harg1 : arg1.IsWhole) (arg2 : Memref sig .tc .vmem S1x256x4608 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S6x2304 .f32) (harg5 : arg5.IsWhole) (arg6 : Memref sig .tc .vmem S1x256x4608 .fp8e5m2) (harg6 : arg6.IsWhole) (arg7 : Memref sig .tc .vmem S6x256 .f32) (harg7 : arg7.IsWhole) (arg8 : Memref sig .tc .vmem S6x2304 .f32) (harg8 : arg8.IsWhole) (arg9 : Memref sig .tc .vmem S4160x128 .f32) (harg9 : arg9.IsWhole) (arg10 : Memref sig .tc .vmem S4160x128 .f32) (harg10 : arg10.IsWhole) (arg11 : Memref sig .tc .vmem S4160x128 .f32) (harg11 : arg11.IsWhole) (arg12 : Memref sig .tc .vmem S4160x128 .f32) (harg12 : arg12.IsWhole) (arg13 : Memref sig .tc .vmem S544x128 .f32) (harg13 : arg13.IsWhole) (arg14 : Memref sig .tc .vmem S544x128 .f32) (harg14 : arg14.IsWhole) (arg15 : Memref sig .tc .vmem S544x128 .f32) (harg15 : arg15.IsWhole) (arg16 : Memref sig .tc .vmem S544x128 .f32) (harg16 : arg16.IsWhole) (arg17 : Memref sig .tc .vmem S544x128 .f32) (harg17 : arg17.IsWhole) (arg18 : Memref sig .tc .vmem S544x128 .f32) (harg18 : arg18.IsWhole) (arg19 : Memref sig .tc .vmem S24x128 .f32) (harg19 : arg19.IsWhole) (arg20 : Memref sig .tc .vmem S144x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S48x256 .f32) (harg25 : arg25.IsWhole) (v239 : FVec Ideal S8x128 .f32) (v254 : IVec S8x128 32) (v272 : IVec S8x128 1) (v290 : IVec S8x128 1) (v292 : FVec Ideal S8x128 .f32) (c0_i32_118 : BitVec 32) (init : FVec Ideal S8x128 .f32 × FVec Ideal S8x128 .f32) :
    Gen.LoopInvTy_k0_t4 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v239 v254 v272 v290 v292 c0_i32_118 init where
  inv k acc := iprop(⌜∀ (s : Fin 8) (l : Fin 128), (acc.1 (ix2 s l) : EReal) = aProd (fun i => gA (X (i + 68 * s.val) l.val)) (8 * k)⌝ ∗ (∃ f, ⌜Swept arg13.view 68 64 fwdL X (fun r l => gA (X r l)) (8 * k) f⌝ ∗ arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg17.view.loc (c : Thread nD τ) ↦[arg17.view.set]{fullShare} f) ∗ (∃ f, arg18.view.loc (c : Thread nD τ) ↦[arg18.view.set]{fullShare} f))
  step k acc := by
    have hk : k.val < 8 := Nat.lt_of_lt_of_le k.isLt Gen.k0_t4_abs.2.1
    iintro ⟨%hacc, ⟨%f13, %h13, H13⟩, ⟨%f14, H14⟩, ⟨%f15, H15⟩, ⟨%f17, H17⟩, ⟨%f18, H18⟩⟩
    unfold Gen.k0_t4_body
    sl_exec_parts
    sl_step
    have s1 : Swept arg13.view 68 64 fwdL X (fun r l => gA (X r l)) (8 * k.val + 1) (arg13.view.writes (Elt Ideal) f13 (valInv_t4.sl.H13_1 arg13 k f13)) := by
      refine Swept.step' _ 68 64 fwdL _ _ (8 * k.val + 0) f13 _ _ _ (off61 k 0 (by decide)) _ _ _ (fwdL_iff (8 * k.val + 0) (by omega)) (fun h s l => ?_) h13
      pointwise [k0_pay277, k0_pay278, k0_pay283]
      exact congrArg gA (readL _ _ _ _ _ h13 (8 * k.val + 0) (by omega) (by omega) _ (off61 k 0 (by decide)) _ s l _ (by omega))
    have s2 : Swept arg13.view 68 64 fwdL X (fun r l => gA (X r l)) (8 * k.val + 2) (arg13.view.writes (Elt Ideal) f13 (valInv_t4.sl.H13_2 arg13 k f13)) := by
      refine Swept.step' _ 68 64 fwdL _ _ (8 * k.val + 1) f13 _ _ _ (off61 k 1 (by decide)) _ _ _ (fwdL_iff (8 * k.val + 1) (by omega)) (fun h s l => ?_) s1
      delta valInv_t4.sl.r_7 valInv_t4.sl.v445
      pointwise [k0_pay291, k0_pay292]
      exact congrArg gA (readL _ _ _ _ _ s1 (8 * k.val + 1) (by omega) (by omega) _ (off61 k 1 (by decide)) _ s l _ (by omega))
    have s3 : Swept arg13.view 68 64 fwdL X (fun r l => gA (X r l)) (8 * k.val + 3) (arg13.view.writes (Elt Ideal) f13 (valInv_t4.sl.H13_3 arg13 k f13)) := by
      refine Swept.step' _ 68 64 fwdL _ _ (8 * k.val + 2) f13 _ _ _ (off61 k 2 (by decide)) _ _ _ (fwdL_iff (8 * k.val + 2) (by omega)) (fun h s l => ?_) s2
      delta valInv_t4.sl.cst_190 valInv_t4.sl.v473 valInv_t4.sl.v475 valInv_t4.sl.v477
      pointwise [k0_pay307, k0_pay312]
      exact congrArg gA (readL _ _ _ _ _ s2 (8 * k.val + 2) (by omega) (by omega) _ (off61 k 2 (by decide)) _ s l _ (by omega))
    have s4 : Swept arg13.view 68 64 fwdL X (fun r l => gA (X r l)) (8 * k.val + 4) (arg13.view.writes (Elt Ideal) f13 (valInv_t4.sl.H13_4 arg13 k f13)) := by
      refine Swept.step' _ 68 64 fwdL _ _ (8 * k.val + 3) f13 _ _ _ (off61 k 3 (by decide)) _ _ _ (fwdL_iff (8 * k.val + 3) (by omega)) (fun h s l => ?_) s3
      pointwise [k0_pay320, k0_pay321, k0_pay326]
      exact congrArg gA (readL _ _ _ _ _ s3 (8 * k.val + 3) (by omega) (by omega) _ (off61 k 3 (by decide)) _ s l _ (by omega))
    have s5 : Swept arg13.view 68 64 fwdL X (fun r l => gA (X r l)) (8 * k.val + 5) (arg13.view.writes (Elt Ideal) f13 (valInv_t4.sl.H13_5 arg13 k f13)) := by
      refine Swept.step' _ 68 64 fwdL _ _ (8 * k.val + 4) f13 _ _ _ (off61 k 4 (by decide)) _ _ _ (fwdL_iff (8 * k.val + 4) (by omega)) (fun h s l => ?_) s4
      delta valInv_t4.sl.r_23 valInv_t4.sl.v613
      pointwise [k0_pay334, k0_pay335]
      exact congrArg gA (readL _ _ _ _ _ s4 (8 * k.val + 4) (by omega) (by omega) _ (off61 k 4 (by decide)) _ s l _ (by omega))
    have s6 : Swept arg13.view 68 64 fwdL X (fun r l => gA (X r l)) (8 * k.val + 6) (arg13.view.writes (Elt Ideal) f13 (valInv_t4.sl.H13_6 arg13 k f13)) := by
      refine Swept.step' _ 68 64 fwdL _ _ (8 * k.val + 5) f13 _ _ _ (off61 k 5 (by decide)) _ _ _ (fwdL_iff (8 * k.val + 5) (by omega)) (fun h s l => ?_) s5
      delta valInv_t4.sl.cst_190 valInv_t4.sl.v641 valInv_t4.sl.v643 valInv_t4.sl.v645
      pointwise [k0_pay350, k0_pay355]
      exact congrArg gA (readL _ _ _ _ _ s5 (8 * k.val + 5) (by omega) (by omega) _ (off61 k 5 (by decide)) _ s l _ (by omega))
    have s7 : Swept arg13.view 68 64 fwdL X (fun r l => gA (X r l)) (8 * k.val + 7) (arg13.view.writes (Elt Ideal) f13 (valInv_t4.sl.H13_7 arg13 k f13)) := by
      refine Swept.step' _ 68 64 fwdL _ _ (8 * k.val + 6) f13 _ _ _ (off61 k 6 (by decide)) _ _ _ (fwdL_iff (8 * k.val + 6) (by omega)) (fun h s l => ?_) s6
      pointwise [k0_pay363, k0_pay364, k0_pay369]
      exact congrArg gA (readL _ _ _ _ _ s6 (8 * k.val + 6) (by omega) (by omega) _ (off61 k 6 (by decide)) _ s l _ (by omega))
    isplitr
    · ipureintro
      intro s l
      show _ = aProd (fun i => gA (X (i + 68 * s.val) l.val)) (8 * k.val + 7 + 1)
      delta valInv_t4.sl.cst_190 valInv_t4.sl.r_1 valInv_t4.sl.r_13 valInv_t4.sl.r_17 valInv_t4.sl.r_20 valInv_t4.sl.r_23 valInv_t4.sl.r_29 valInv_t4.sl.r_33 valInv_t4.sl.r_36 valInv_t4.sl.r_39 valInv_t4.sl.r_4 valInv_t4.sl.r_7 valInv_t4.sl.v464 valInv_t4.sl.v473 valInv_t4.sl.v475 valInv_t4.sl.v477 valInv_t4.sl.v632 valInv_t4.sl.v641 valInv_t4.sl.v643 valInv_t4.sl.v645
      pointwise [k0_pay277, k0_pay278, k0_pay289, k0_pay291, k0_pay292, k0_pay307, k0_pay317, k0_pay320, k0_pay321, k0_pay332, k0_pay334, k0_pay335, k0_pay350, k0_pay360, k0_pay363, k0_pay364, k0_pay375, k0_pay377, k0_pay378, k0_pay527]
      refine aProd_step _ (8 * k.val + 7) _ _ (congrArg gA (readL _ _ _ _ _ s7 (8 * k.val + 7) (by omega) (by omega) _ (off61 k 7 (by decide)) _ s l _ (by omega))) ?_
      refine aProd_step _ (8 * k.val + 6) _ _ (congrArg gA (readL _ _ _ _ _ s6 (8 * k.val + 6) (by omega) (by omega) _ (off61 k 6 (by decide)) _ s l _ (by omega))) ?_
      refine aProd_step _ (8 * k.val + 5) _ _ (congrArg gA (readL _ _ _ _ _ s5 (8 * k.val + 5) (by omega) (by omega) _ (off61 k 5 (by decide)) _ s l _ (by omega))) ?_
      refine aProd_step _ (8 * k.val + 4) _ _ (congrArg gA (readL _ _ _ _ _ s4 (8 * k.val + 4) (by omega) (by omega) _ (off61 k 4 (by decide)) _ s l _ (by omega))) ?_
      refine aProd_step _ (8 * k.val + 3) _ _ (congrArg gA (readL _ _ _ _ _ s3 (8 * k.val + 3) (by omega) (by omega) _ (off61 k 3 (by decide)) _ s l _ (by omega))) ?_
      refine aProd_step _ (8 * k.val + 2) _ _ (congrArg gA (readL _ _ _ _ _ s2 (8 * k.val + 2) (by omega) (by omega) _ (off61 k 2 (by decide)) _ s l _ (by omega))) ?_
      refine aProd_step _ (8 * k.val + 1) _ _ (congrArg gA (readL _ _ _ _ _ s1 (8 * k.val + 1) (by omega) (by omega) _ (off61 k 1 (by decide)) _ s l _ (by omega))) ?_
      refine aProd_step _ (8 * k.val + 0) _ _ (congrArg gA (readL _ _ _ _ _ h13 (8 * k.val + 0) (by omega) (by omega) _ (off61 k 0 (by decide)) _ s l _ (by omega))) ?_
      exact hacc s l
    isplitl [H13]
    · iexists _; isplitr; swap; · iexact H13
      ipureintro
      show Swept _ 68 64 fwdL _ _ (8 * k.val + 8) _
      refine Swept.step' _ 68 64 fwdL _ _ (8 * k.val + 7) f13 _ _ _ (off61 k 7 (by decide)) _ _ _ (fwdL_iff (8 * k.val + 7) (by omega)) (fun h s l => ?_) s7
      delta valInv_t4.sl.r_39
      pointwise [k0_pay377, k0_pay378, k0_pay522]
      exact congrArg gA (readL _ _ _ _ _ s7 (8 * k.val + 7) (by omega) (by omega) _ (off61 k 7 (by decide)) _ s l _ (by omega))
    isplitl [H14]
    · iexists _; iexact H14
    isplitl [H15]
    · iexists _; iexact H15
    isplitl [H17]
    · iexists _; iexact H17
    iexists _; iexact H18

end Cert.KernelScanIdeal.Hand

end
-- ==== Proof.ScanV6.lean ====
/- The backward pass over the chunks of the left rows, each from zero: what it carries; and the quantising loop, at any contents. -/
module

public import proofs.«01_k».proof.Proof.ScanKit

@[expose] public section

set_option maxRecDepth 8192
set_option maxHeartbeats 400000
set_option warn.classDefReducibility false

noncomputable section

namespace Cert.KernelScanIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelScanIdeal.Gen

/-- Before trip `k` the carry holds what the backward pass over the chunks, each from zero, carries after `8 k` steps. -/
def valInv_t6 (A D : ℕ → ℕ → EReal) (𝒱 : Variants) (c : Dev nD) (bd : Option 𝒱.V) (E : Set ℕ) (i : grid0.Coords) (arg1 : Memref sig .tc .vmem S1x256x2304 .fp8e5m2) (harg1 : arg1.IsWhole) (arg2 : Memref sig .tc .vmem S1x256x4608 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S6x2304 .f32) (harg5 : arg5.IsWhole) (arg6 : Memref sig .tc .vmem S1x256x4608 .fp8e5m2) (harg6 : arg6.IsWhole) (arg7 : Memref sig .tc .vmem S6x256 .f32) (harg7 : arg7.IsWhole) (arg8 : Memref sig .tc .vmem S6x2304 .f32) (harg8 : arg8.IsWhole) (arg9 : Memref sig .tc .vmem S4160x128 .f32) (harg9 : arg9.IsWhole) (arg10 : Memref sig .tc .vmem S4160x128 .f32) (harg10 : arg10.IsWhole) (arg11 : Memref sig .tc .vmem S4160x128 .f32) (harg11 : arg11.IsWhole) (arg12 : Memref sig .tc .vmem S4160x128 .f32) (harg12 : arg12.IsWhole) (arg13 : Memref sig .tc .vmem S544x128 .f32) (harg13 : arg13.IsWhole) (arg14 : Memref sig .tc .vmem S544x128 .f32) (harg14 : arg14.IsWhole) (arg15 : Memref sig .tc .vmem S544x128 .f32) (harg15 : arg15.IsWhole) (arg16 : Memref sig .tc .vmem S544x128 .f32) (harg16 : arg16.IsWhole) (arg17 : Memref sig .tc .vmem S544x128 .f32) (harg17 : arg17.IsWhole) (arg18 : Memref sig .tc .vmem S544x128 .f32) (harg18 : arg18.IsWhole) (arg19 : Memref sig .tc .vmem S24x128 .f32) (harg19 : arg19.IsWhole) (arg20 : Memref sig .tc .vmem S144x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S48x256 .f32) (harg25 : arg25.IsWhole) (v239 : FVec Ideal S8x128 .f32) (v254 : IVec S8x128 32) (v272 : IVec S8x128 1) (v290 : IVec S8x128 1) (v292 : FVec Ideal S8x128 .f32) (c0_i32_118 : BitVec 32) (init : FVec Ideal S8x128 .f32)  :
    Gen.LoopInvTy_k0_t6 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v239 v254 v272 v290 v292 c0_i32_118 init where
  inv k acc := iprop(⌜∀ (s : Fin 8) (l : Fin 128), (acc (ix2 s l) : EReal) = uL A D 0 s l (8 * k)⌝ ∗ (∃ f, ⌜RowsAt arg13.view 68 64 A f⌝ ∗ arg13.view.loc (c : Thread nD τ) ↦[arg13.view.set]{fullShare} f) ∗ (∃ f, ⌜RowsAt arg16.view 68 64 D f⌝ ∗ arg16.view.loc (c : Thread nD τ) ↦[arg16.view.set]{fullShare} f))
  step k acc := by
    have hk : k.val < 8 := Nat.lt_of_lt_of_le k.isLt Gen.k0_t6_abs.2.1
    iintro ⟨%hacc, ⟨%f13, %h13, H13⟩, ⟨%f16, %h16, H16⟩⟩
    unfold Gen.k0_t6_body
    sl_exec_parts
    sl_step
    isplitr
    · ipureintro
      intro s l
      show _ = uL A D 0 s l (8 * k.val + 7 + 1)
      delta valInv_t6.sl.v362 valInv_t6.sl.v363 valInv_t6.sl.v371 valInv_t6.sl.v372 valInv_t6.sl.v380 valInv_t6.sl.v381 valInv_t6.sl.v389 valInv_t6.sl.v390
      pointwise [k0_pay533]
      refine uRec_step _ _ _ (8 * k.val + 7) _ _ _ (RowsAt.readL _ A _ h13 (63 - (8 * k.val + 7)) (by omega) _ (off63 k 7 (by decide)) _ s l) (RowsAt.readL _ D _ h16 (63 - (8 * k.val + 7)) (by omega) _ (off63 k 7 (by decide)) _ s l) ?_
      refine uRec_step _ _ _ (8 * k.val + 6) _ _ _ (RowsAt.readL _ A _ h13 (63 - (8 * k.val + 6)) (by omega) _ (off63 k 6 (by decide)) _ s l) (RowsAt.readL _ D _ h16 (63 - (8 * k.val + 6)) (by omega) _ (off63 k 6 (by decide)) _ s l) ?_
      refine uRec_step _ _ _ (8 * k.val + 5) _ _ _ (RowsAt.readL _ A _ h13 (63 - (8 * k.val + 5)) (by omega) _ (off63 k 5 (by decide)) _ s l) (RowsAt.readL _ D _ h16 (63 - (8 * k.val + 5)) (by omega) _ (off63 k 5 (by decide)) _ s l) ?_
      refine uRec_step _ _ _ (8 * k.val + 4) _ _ _ (RowsAt.readL _ A _ h13 (63 - (8 * k.val + 4)) (by omega) _ (off63 k 4 (by decide)) _ s l) (RowsAt.readL _ D _ h16 (63 - (8 * k.val + 4)) (by omega) _ (off63 k 4 (by decide)) _ s l) ?_
      refine uRec_step _ _ _ (8 * k.val + 3) _ _ _ (RowsAt.readL _ A _ h13 (63 - (8 * k.val + 3)) (by omega) _ (off63 k 3 (by decide)) _ s l) (RowsAt.readL _ D _ h16 (63 - (8 * k.val + 3)) (by omega) _ (off63 k 3 (by decide)) _ s l) ?_
      refine uRec_step _ _ _ (8 * k.val + 2) _ _ _ (RowsAt.readL _ A _ h13 (63 - (8 * k.val + 2)) (by omega) _ (off63 k 2 (by decide)) _ s l) (RowsAt.readL _ D _ h16 (63 - (8 * k.val + 2)) (by omega) _ (off63 k 2 (by decide)) _ s l) ?_
      refine uRec_step _ _ _ (8 * k.val + 1) _ _ _ (RowsAt.readL _ A _ h13 (63 - (8 * k.val + 1)) (by omega) _ (off63 k 1 (by decide)) _ s l) (RowsAt.readL _ D _ h16 (63 - (8 * k.val + 1)) (by omega) _ (off63 k 1 (by decide)) _ s l) ?_
      refine uRec_step _ _ _ (8 * k.val + 0) _ _ _ (RowsAt.readL _ A _ h13 (63 - (8 * k.val + 0)) (by omega) _ (off63 k 0 (by decide)) _ s l) (RowsAt.readL _ D _ h16 (63 - (8 * k.val + 0)) (by omega) _ (off63 k 0 (by decide)) _ s l) ?_
      exact hacc s l
    isplitl [H13]
    · iexists _; isplitr; swap; · iexact H13
      ipureintro
      exact h13
    iexists _; isplitr; swap; · iexact H16
    ipureintro
    exact h16

/-- The quantising loop keeps the buffers it touches, at any contents. -/
def valInv_t8  (𝒱 : Variants) (c : Dev nD) (bd : Option 𝒱.V) (E : Set ℕ) (i : grid0.Coords) (arg1 : Memref sig .tc .vmem S1x256x2304 .fp8e5m2) (harg1 : arg1.IsWhole) (arg2 : Memref sig .tc .vmem S1x256x4608 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S6x2304 .f32) (harg5 : arg5.IsWhole) (arg6 : Memref sig .tc .vmem S1x256x4608 .fp8e5m2) (harg6 : arg6.IsWhole) (arg7 : Memref sig .tc .vmem S6x256 .f32) (harg7 : arg7.IsWhole) (arg8 : Memref sig .tc .vmem S6x2304 .f32) (harg8 : arg8.IsWhole) (arg9 : Memref sig .tc .vmem S4160x128 .f32) (harg9 : arg9.IsWhole) (arg10 : Memref sig .tc .vmem S4160x128 .f32) (harg10 : arg10.IsWhole) (arg11 : Memref sig .tc .vmem S4160x128 .f32) (harg11 : arg11.IsWhole) (arg12 : Memref sig .tc .vmem S4160x128 .f32) (harg12 : arg12.IsWhole) (arg13 : Memref sig .tc .vmem S544x128 .f32) (harg13 : arg13.IsWhole) (arg14 : Memref sig .tc .vmem S544x128 .f32) (harg14 : arg14.IsWhole) (arg15 : Memref sig .tc .vmem S544x128 .f32) (harg15 : arg15.IsWhole) (arg16 : Memref sig .tc .vmem S544x128 .f32) (harg16 : arg16.IsWhole) (arg17 : Memref sig .tc .vmem S544x128 .f32) (harg17 : arg17.IsWhole) (arg18 : Memref sig .tc .vmem S544x128 .f32) (harg18 : arg18.IsWhole) (arg19 : Memref sig .tc .vmem S24x128 .f32) (harg19 : arg19.IsWhole) (arg20 : Memref sig .tc .vmem S144x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S48x256 .f32) (harg25 : arg25.IsWhole)  :
    Gen.LoopInvTy_k0_t8 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 where
  inv k _ := iprop((∃ f, arg10.view.loc (c : Thread nD τ) ↦[arg10.view.set]{fullShare} f) ∗ (∃ f, arg11.view.loc (c : Thread nD τ) ↦[arg11.view.set]{fullShare} f) ∗ (∃ f, arg14.view.loc (c : Thread nD τ) ↦[arg14.view.set]{fullShare} f) ∗ (∃ f, arg15.view.loc (c : Thread nD τ) ↦[arg15.view.set]{fullShare} f) ∗ (∃ f, arg24.view.loc (c : Thread nD τ) ↦[arg24.view.set]{fullShare} f) ∗ (∃ f, arg6.view.loc (c : Thread nD τ) ↦[arg6.view.set]{fullShare} f))
  step k acc := by
    have hk : k.val < 8 := Nat.lt_of_lt_of_le k.isLt Gen.k0_t8_abs.2.1
    iintro ⟨⟨%f10, H10⟩, ⟨%f11, H11⟩, ⟨%f14, H14⟩, ⟨%f15, H15⟩, ⟨%f24, H24⟩, ⟨%f6, H6⟩⟩
    unfold Gen.k0_t8_body
    sl_exec_parts
    sl_step
    isplitl [H10]
    · iexists _; iexact H10
    isplitl [H11]
    · iexists _; iexact H11
    isplitl [H14]
    · iexists _; iexact H14
    isplitl [H15]
    · iexists _; iexact H15
    isplitl [H24]
    · iexists _; iexact H24
    iexists _; iexact H6

end Cert.KernelScanIdeal.Hand

end
-- ==== Proof.ScanV7.lean ====
/- The backward pass over the left rows: what it carries; and the second forward pass, which keeps the scales. -/
module

public import proofs.«01_k».proof.Proof.ScanKit

@[expose] public section

set_option maxRecDepth 8192
set_option maxHeartbeats 400000
set_option warn.classDefReducibility false

noncomputable section

namespace Cert.KernelScanIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelScanIdeal.Gen

/-- The scales stay. -/
def valInv_t5 (A : ℕ → ℕ → EReal) (𝒱 : Variants) (c : Dev nD) (bd : Option 𝒱.V) (E : Set ℕ) (i : grid0.Coords) (arg1 : Memref sig .tc .vmem S1x256x2304 .fp8e5m2) (harg1 : arg1.IsWhole) (arg2 : Memref sig .tc .vmem S1x256x4608 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S6x2304 .f32) (harg5 : arg5.IsWhole) (arg6 : Memref sig .tc .vmem S1x256x4608 .fp8e5m2) (harg6 : arg6.IsWhole) (arg7 : Memref sig .tc .vmem S6x256 .f32) (harg7 : arg7.IsWhole) (arg8 : Memref sig .tc .vmem S6x2304 .f32) (harg8 : arg8.IsWhole) (arg9 : Memref sig .tc .vmem S4160x128 .f32) (harg9 : arg9.IsWhole) (arg10 : Memref sig .tc .vmem S4160x128 .f32) (harg10 : arg10.IsWhole) (arg11 : Memref sig .tc .vmem S4160x128 .f32) (harg11 : arg11.IsWhole) (arg12 : Memref sig .tc .vmem S4160x128 .f32) (harg12 : arg12.IsWhole) (arg13 : Memref sig .tc .vmem S544x128 .f32) (harg13 : arg13.IsWhole) (arg14 : Memref sig .tc .vmem S544x128 .f32) (harg14 : arg14.IsWhole) (arg15 : Memref sig .tc .vmem S544x128 .f32) (harg15 : arg15.IsWhole) (arg16 : Memref sig .tc .vmem S544x128 .f32) (harg16 : arg16.IsWhole) (arg17 : Memref sig .tc .vmem S544x128 .f32) (harg17 : arg17.IsWhole) (arg18 : Memref sig .tc .vmem S544x128 .f32) (harg18 : arg18.IsWhole) (arg19 : Memref sig .tc .vmem S24x128 .f32) (harg19 : arg19.IsWhole) (arg20 : Memref sig .tc .vmem S144x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S48x256 .f32) (harg25 : arg25.IsWhole) (v239 : FVec Ideal S8x128 .f32) (v254 : IVec S8x128 32) (v272 : IVec S8x128 1) (v290 : IVec S8x128 1) (v292 : FVec Ideal S8x128 .f32) (c0_i32_118 : BitVec 32) (init : FVec Ideal S8x128 .f32) :
    Gen.LoopInvTy_k0_t5 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v239 v254 v272 v290 v292 c0_i32_118 init where
  inv k _ := iprop((∃ f, ⌜RowsAt arg13.view 68 64 A f⌝ ∗ arg13.view.loc (c : Thread nD τ) ↦[arg13.view.set]{fullShare} f) ∗ (∃ f, arg14.view.loc (c : Thread nD τ) ↦[arg14.view.set]{fullShare} f) ∗ (∃ f, arg17.view.loc (c : Thread nD τ) ↦[arg17.view.set]{fullShare} f) ∗ (∃ f, arg18.view.loc (c : Thread nD τ) ↦[arg18.view.set]{fullShare} f))
  step k acc := by
    have hk : k.val < 8 := Nat.lt_of_lt_of_le k.isLt Gen.k0_t5_abs.2.1
    iintro ⟨⟨%f13, %h13, H13⟩, ⟨%f14, H14⟩, ⟨%f17, H17⟩, ⟨%f18, H18⟩⟩
    unfold Gen.k0_t5_body
    sl_exec_parts
    sl_step
    isplitl [H13]
    · iexists _; isplitr; swap; · iexact H13
      ipureintro
      exact h13
    isplitl [H14]
    · iexists _; iexact H14
    isplitl [H17]
    · iexists _; iexact H17
    iexists _; iexact H18

/-- Before trip `k` the carry holds what the backward pass over the chunks carries after `8 k` steps; the scales and the gradients stay. -/
def valInv_t7 (A D : ℕ → ℕ → EReal) (u0 : Fin 8 → Fin 128 → EReal) (𝒱 : Variants) (c : Dev nD) (bd : Option 𝒱.V) (E : Set ℕ) (i : grid0.Coords) (arg1 : Memref sig .tc .vmem S1x256x2304 .fp8e5m2) (harg1 : arg1.IsWhole) (arg2 : Memref sig .tc .vmem S1x256x4608 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S6x2304 .f32) (harg5 : arg5.IsWhole) (arg6 : Memref sig .tc .vmem S1x256x4608 .fp8e5m2) (harg6 : arg6.IsWhole) (arg7 : Memref sig .tc .vmem S6x256 .f32) (harg7 : arg7.IsWhole) (arg8 : Memref sig .tc .vmem S6x2304 .f32) (harg8 : arg8.IsWhole) (arg9 : Memref sig .tc .vmem S4160x128 .f32) (harg9 : arg9.IsWhole) (arg10 : Memref sig .tc .vmem S4160x128 .f32) (harg10 : arg10.IsWhole) (arg11 : Memref sig .tc .vmem S4160x128 .f32) (harg11 : arg11.IsWhole) (arg12 : Memref sig .tc .vmem S4160x128 .f32) (harg12 : arg12.IsWhole) (arg13 : Memref sig .tc .vmem S544x128 .f32) (harg13 : arg13.IsWhole) (arg14 : Memref sig .tc .vmem S544x128 .f32) (harg14 : arg14.IsWhole) (arg15 : Memref sig .tc .vmem S544x128 .f32) (harg15 : arg15.IsWhole) (arg16 : Memref sig .tc .vmem S544x128 .f32) (harg16 : arg16.IsWhole) (arg17 : Memref sig .tc .vmem S544x128 .f32) (harg17 : arg17.IsWhole) (arg18 : Memref sig .tc .vmem S544x128 .f32) (harg18 : arg18.IsWhole) (arg19 : Memref sig .tc .vmem S24x128 .f32) (harg19 : arg19.IsWhole) (arg20 : Memref sig .tc .vmem S144x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S48x256 .f32) (harg25 : arg25.IsWhole) (init : FVec Ideal S8x128 .f32) :
    Gen.LoopInvTy_k0_t7 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 init where
  inv k acc := iprop(⌜∀ (s : Fin 8) (l : Fin 128), (acc (ix2 s l) : EReal) = uL A D (u0 s l) s l (8 * k)⌝ ∗ (∃ f, ⌜RowsAt arg13.view 68 64 A f⌝ ∗ arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, ⌜RowsAt arg16.view 68 64 D f⌝ ∗ arg16.view.loc (c : Thread nD τ) ↦[arg16.view.set]{fullShare} f))
  step k acc := by
    have hk : k.val < 8 := Nat.lt_of_lt_of_le k.isLt Gen.k0_t7_abs.2.1
    iintro ⟨%hacc, ⟨%f13, %h13, H13⟩, ⟨%f14, H14⟩, ⟨%f15, H15⟩, ⟨%f16, %h16, H16⟩⟩
    unfold Gen.k0_t7_body
    sl_exec_parts
    sl_step
    isplitr
    · ipureintro
      intro s l
      show _ = uL A D (u0 s l) s l (8 * k.val + 7 + 1)
      delta valInv_t7.sl.r_1 valInv_t7.sl.v360 valInv_t7.sl.v377 valInv_t7.sl.v383 valInv_t7.sl.v400 valInv_t7.sl.v406 valInv_t7.sl.v423 valInv_t7.sl.v429 valInv_t7.sl.v446 valInv_t7.sl.v452 valInv_t7.sl.v469 valInv_t7.sl.v475 valInv_t7.sl.v492 valInv_t7.sl.v498 valInv_t7.sl.v515
      pointwise [k0_pay2, k0_pay5]
      refine uRec_step _ _ _ (8 * k.val + 7) _ _ _ (RowsAt.readL _ A _ h13 (63 - (8 * k.val + 7)) (by omega) _ (off64 k 7 (by decide)) _ s l) (RowsAt.readL _ D _ h16 (63 - (8 * k.val + 7)) (by omega) _ (off64 k 7 (by decide)) _ s l) ?_
      refine uRec_step _ _ _ (8 * k.val + 6) _ _ _ (RowsAt.readL _ A _ h13 (63 - (8 * k.val + 6)) (by omega) _ (off64 k 6 (by decide)) _ s l) (RowsAt.readL _ D _ h16 (63 - (8 * k.val + 6)) (by omega) _ (off64 k 6 (by decide)) _ s l) ?_
      refine uRec_step _ _ _ (8 * k.val + 5) _ _ _ (RowsAt.readL _ A _ h13 (63 - (8 * k.val + 5)) (by omega) _ (off64 k 5 (by decide)) _ s l) (RowsAt.readL _ D _ h16 (63 - (8 * k.val + 5)) (by omega) _ (off64 k 5 (by decide)) _ s l) ?_
      refine uRec_step _ _ _ (8 * k.val + 4) _ _ _ (RowsAt.readL _ A _ h13 (63 - (8 * k.val + 4)) (by omega) _ (off64 k 4 (by decide)) _ s l) (RowsAt.readL _ D _ h16 (63 - (8 * k.val + 4)) (by omega) _ (off64 k 4 (by decide)) _ s l) ?_
      refine uRec_step _ _ _ (8 * k.val + 3) _ _ _ (RowsAt.readL _ A _ h13 (63 - (8 * k.val + 3)) (by omega) _ (off64 k 3 (by decide)) _ s l) (RowsAt.readL _ D _ h16 (63 - (8 * k.val + 3)) (by omega) _ (off64 k 3 (by decide)) _ s l) ?_
      refine uRec_step _ _ _ (8 * k.val + 2) _ _ _ (RowsAt.readL _ A _ h13 (63 - (8 * k.val + 2)) (by omega) _ (off64 k 2 (by decide)) _ s l) (RowsAt.readL _ D _ h16 (63 - (8 * k.val + 2)) (by omega) _ (off64 k 2 (by decide)) _ s l) ?_
      refine uRec_step _ _ _ (8 * k.val + 1) _ _ _ (RowsAt.readL _ A _ h13 (63 - (8 * k.val + 1)) (by omega) _ (off64 k 1 (by decide)) _ s l) (RowsAt.readL _ D _ h16 (63 - (8 * k.val + 1)) (by omega) _ (off64 k 1 (by decide)) _ s l) ?_
      refine uRec_step _ _ _ (8 * k.val + 0) _ _ _ (RowsAt.readL _ A _ h13 (63 - (8 * k.val + 0)) (by omega) _ (off64 k 0 (by decide)) _ s l) (RowsAt.readL _ D _ h16 (63 - (8 * k.val + 0)) (by omega) _ (off64 k 0 (by decide)) _ s l) ?_
      exact hacc s l
    isplitl [H13]
    · iexists _; isplitr; swap; · iexact H13
      ipureintro
      exact h13
    isplitl [H14]
    · iexists _; iexact H14
    isplitl [H15]
    · iexists _; iexact H15
    iexists _; isplitr; swap; · iexact H16
    ipureintro
    exact h16

end Cert.KernelScanIdeal.Hand

end
-- ==== Proof.ScanPay.lean ====
/- What the scan's body computes between its loops, element by element. -/
module

public import proofs.«01_k».proof.Proof.ScanKit
public import proofs.«01_k».proof.Proof.Gen.KernelScanIdeal.Loops
public import Idealize.ShloMosaic.Lib.VecWindow
public import Idealize.ShloMosaic.Lib.WritesUnit

@[expose] public section

set_option maxRecDepth 16384
set_option maxHeartbeats 400000

noncomputable section

namespace Cert.KernelScanIdeal.Hand

open Idealize.ShloMosaic Idealize.ShloMosaic.TcCoe Idealize.ShloMosaic.Tactic
open Cert.KernelScanIdeal.Gen

/-- The gate's codes, by time and hidden index. -/
def pzOf (x2 : Vec Ideal S1x256x4608 .fp8e4m3) (t d : ℕ) : EReal :=
  if h : t < 256 ∧ d < 4608 then x2 (ix3 (0 : Fin 1) ⟨t, h.1⟩ ⟨d, h.2⟩) else 0

/-- The output gradient's codes, by time and hidden index. -/
def dyOf (x1 : Vec Ideal S1x256x2304 .fp8e5m2) (t d : ℕ) : EReal :=
  if h : t < 256 ∧ d < 2304 then x1 (ix3 (0 : Fin 1) ⟨t, h.1⟩ ⟨d, h.2⟩) else 0

/-- A row of scales, by time. -/
def scOf (x : Vec Ideal S6x256 .f32) (b t : ℕ) : EReal :=
  if h : b < 6 ∧ t < 256 then x (ix2 ⟨b, h.1⟩ ⟨t, h.2⟩) else 0

theorem pick_row (v : Vec Ideal S6x256 .f32) (b : ℕ) (hb : b < 6) (t : Fin 256) :
    (∑ x : Fin 6, Scalar.select (IntOp.cmpi CmpIPredicate.eq (BitVec.ofNat 32 x.val) (BitVec.ofNat 32 b)) (v (ix2 x t) : EReal) 0) = scOf v b t.val := by
  unfold scOf
  rw [dif_pos ⟨hb, t.isLt⟩, Fin.sum_univ_six]
  interval_cases b
  · show (v (ix2 0 t) : EReal) + 0 + 0 + 0 + 0 + 0 = v (ix2 0 t)
    simp only [add_zero]
  · show (0 : EReal) + v (ix2 1 t) + 0 + 0 + 0 + 0 = v (ix2 1 t)
    simp only [add_zero, zero_add]
  · show (0 : EReal) + 0 + v (ix2 2 t) + 0 + 0 + 0 = v (ix2 2 t)
    simp only [add_zero, zero_add]
  · show (0 : EReal) + 0 + 0 + v (ix2 3 t) + 0 + 0 = v (ix2 3 t)
    simp only [add_zero, zero_add]
  · show (0 : EReal) + 0 + 0 + 0 + v (ix2 4 t) + 0 = v (ix2 4 t)
    simp only [add_zero, zero_add]
  · show (0 : EReal) + 0 + 0 + 0 + 0 + v (ix2 5 t) = v (ix2 5 t)
    simp only [zero_add]

theorem coord_lt (i : grid0.Coords) : (i 0).val < 6 := (i 0).isLt

/-- The column of output-gradient scales. -/
theorem pay478_at (i : grid0.Coords) (v : Vec Ideal S6x256 .f32) (t : Fin 256) (l : Fin 128) :
    (k0_pay478 (F := Ideal) i v (ix2 t l) : EReal) = scOf v (i 0).val t.val := by
  pointwise [k0_pay478]
  exact pick_row v _ (coord_lt i) t

/-- The column of gate scales, in base two and negated. -/
theorem pay476_at (i : grid0.Coords) (v : Vec Ideal S6x256 .f32) (t : Fin 256) (l : Fin 128) :
    (k0_pay476 (F := Ideal) i v (ix2 t l) : EReal) = scOf v (i 0).val t.val * negLog2e := by
  pointwise [k0_pay476, k0_pay475]
  exact congrArg (· * negLog2e) (pick_row v _ (coord_lt i) t)

theorem pay508_at (s : Fin 8) (l : Fin 128) : (k0_pay508 (F := Ideal) (ix2 s l) : EReal) = 0 := by
  pointwise [k0_pay508]

theorem pay516_at (v : FVec Ideal S8x128 .f32) (s : Fin 8) (l : Fin 128) : k0_pay516 v (ix2 s l) = v (ix2 s l) := by
  pointwise [k0_pay516]

theorem pay517_at (v : FVec Ideal S8x128 .f32) (s : Fin 8) (l : Fin 128) : k0_pay517 v (ix2 s l) = v (ix2 s l) := by
  pointwise [k0_pay517]

theorem pay6_at (v : FVec Ideal S8x128 .f32) (s : Fin 8) (l : Fin 128) : k0_pay6 v (ix2 s l) = v (ix2 s l) := by
  pointwise [k0_pay6]

theorem pay520_at (s : Fin 8) (l : Fin 128) : (k0_pay520 (F := Ideal) k0_pay508 (ix2 s l) : EReal) = 1 := by
  pointwise [k0_pay520, k0_pay508]

theorem pay519_at (s : Fin 8) (l : Fin 128) : k0_pay519 (ix2 s l) = if s.val % 4 = 3 then 1#1 else 0#1 := by
  pointwise [k0_pay519]
  revert s
  decide

/-- What `n` rounds of handing the carry from each chunk to the one before it bring to chunk `s`; a group's last chunk starts from zero. -/
def chunkIn (A U : ℕ → EReal) : ℕ → ℕ → EReal
  | 0, _ => 0
  | n + 1, s => if s % 4 = 3 then 0 else A (s + 1) * chunkIn A U n (s + 1) + U (s + 1)

/-- One round. -/
theorem round_at (A U : ℕ → EReal) (n : ℕ) (Av Uv v : FVec Ideal S8x128 .f32) (l : Fin 128)
    (hA : ∀ s : Fin 8, (Av (ix2 s l) : EReal) = A s.val) (hU : ∀ s : Fin 8, (Uv (ix2 s l) : EReal) = U s.val)
    (hv : ∀ s : Fin 8, (v (ix2 s l) : EReal) = chunkIn A U n s.val) (s : Fin 8) :
    (select k0_pay519 (broadcast S8x128 (Scalar.ofBits (F := Ideal) .f32 0x00000000#32)) (dynamicRotate 0 7#32 none (addf (mulf Av v) Uv) rotates_S8x128_d0) (ix2 s l) : EReal)
      = chunkIn A U (n + 1) s.val := by
  pointwise
  rw [pay519_at]
  show _ = if s.val % 4 = 3 then 0 else _
  by_cases h : s.val % 4 = 3
  · rw [if_pos h, if_pos h]; rfl
  · rw [if_neg h, if_neg h]
    have e : (⟨(s.val + 8 - 7) % 8, Nat.mod_lt _ (by decide)⟩ : Fin 8).val = s.val + 1 := by
      show (s.val + 8 - 7) % 8 = s.val + 1
      omega
    rw [← e, ← hA, ← hU, ← hv]
    rfl

/-- The carry every chunk of the left rows starts from. -/
theorem pay1_at (A U : ℕ → EReal) (Av Uv : FVec Ideal S8x128 .f32) (l : Fin 128)
    (hA : ∀ s : Fin 8, (Av (ix2 s l) : EReal) = A s.val) (hU : ∀ s : Fin 8, (Uv (ix2 s l) : EReal) = U s.val) (s : Fin 8) :
    (k0_pay1 k0_pay519 Av Uv (k0_pay534 k0_pay508 k0_pay519 Av Uv) (ix2 s l) : EReal) = chunkIn A U 3 s.val :=
  round_at A U 2 Av Uv _ l hA hU (fun s => round_at A U 1 Av Uv _ l hA hU (fun s => round_at A U 0 Av Uv _ l hA hU (fun s => pay508_at s l) s) s) s

/-- A gate's scale by time, in base two and negated. -/
def zB (x4 : Vec Ideal S6x256 .f32) (b t : ℕ) : EReal := scOf x4 b t * negLog2e

/-- The main rows' exponents. -/
def XM (x2 : Vec Ideal S1x256x4608 .fp8e4m3) (x4 : Vec Ideal S6x256 .f32) (b r l : ℕ) : EReal :=
  pzOf x2 (r % 260) (128 * (r / 260) + l) * zB x4 b (r % 260)

/-- The main rows' output gradients. -/
def DM (x1 : Vec Ideal S1x256x2304 .fp8e5m2) (x3 : Vec Ideal S6x256 .f32) (b r l : ℕ) : EReal :=
  dyOf x1 (r % 260) (128 * (r / 260) + l) * scOf x3 b (r % 260)

/-- The left rows' exponents. -/
def XL (x2 : Vec Ideal S1x256x4608 .fp8e4m3) (x4 : Vec Ideal S6x256 .f32) (b r l : ℕ) : EReal :=
  pzOf x2 (timeL r) (hidL r + l) * zB x4 b (timeL r)

/-- The left rows' output gradients. -/
def DL (x1 : Vec Ideal S1x256x2304 .fp8e5m2) (x3 : Vec Ideal S6x256 .f32) (b r l : ℕ) : EReal :=
  dyOf x1 (timeL r) (hidL r + l) * scOf x3 b (timeL r)

/-- What scales the carry, by main row. -/
def AM (x2 : Vec Ideal S1x256x4608 .fp8e4m3) (x4 : Vec Ideal S6x256 .f32) (b r l : ℕ) : EReal := gA (XM x2 x4 b r l)

/-- What scales the carry, by left row. -/
def AL (x2 : Vec Ideal S1x256x4608 .fp8e4m3) (x4 : Vec Ideal S6x256 .f32) (b r l : ℕ) : EReal := gA (XL x2 x4 b r l)

/-- A whole read of a buffer holding `x` is `x`. -/
theorem readAt_full2 {κ : Kind} {sp : Space} {n m : ℕ} {φ : EltTy} (a : Memref sig κ sp ⟨2, ![n, m]⟩ φ) (ha : a.IsWhole) (x : Vec Ideal ⟨2, ![n, m]⟩ φ)
    (inb : ∀ k, (![0, 0] : Fin 2 → ℕ) k + (⟨2, ![n, m]⟩ : Shape).size k ≤ (⟨2, ![n, m]⟩ : Shape).size k) :
    a.view.readAt (Elt Ideal) (Rect.unit (s := ⟨2, ![n, m]⟩) ![0, 0] (⟨2, ![n, m]⟩ : Shape).size inb).toLoadRect (ha.unread x) = x := by
  funext y
  rw [View.readAt_apply, ha.read_unread]
  refine congrArg x (funext fun k => Fin.ext ?_)
  fin_cases k
  · show 0 + 1 * (y 0).val = (y 0).val
    omega
  · show 0 + 1 * (y 1).val = (y 1).val
    omega

theorem col21 (v : View sig .tc .vmem S256x128 .f32) (f : v.ty.Contents (Elt Ideal)) (i : grid0.Coords) (a : Memref sig .tc .vmem S6x256 .f32) (ha : a.IsWhole) (x : Vec Ideal S6x256 .f32) :
    ColAt v (zB x (i 0).val) (v.writes (Elt Ideal) f [⟨Rect.unit ![0, 0] S256x128.size inb_S256x128_S256x128_0_0,
      k0_pay476 i (a.view.readAt (Elt Ideal) (Rect.unit ![0, 0] S6x256.size inb_S6x256_S6x256_0_0).toLoadRect (ha.unread x))⟩]) := by
  intro t l
  rw [View.read_writes_full, readAt_full2 a ha x]
  exact pay476_at i x t l

theorem col23 (v : View sig .tc .vmem S256x128 .f32) (f : v.ty.Contents (Elt Ideal)) (i : grid0.Coords) (a : Memref sig .tc .vmem S6x256 .f32) (ha : a.IsWhole) (x : Vec Ideal S6x256 .f32) :
    ColAt v (scOf x (i 0).val) (v.writes (Elt Ideal) f [⟨Rect.unit ![0, 0] S256x128.size inb_S256x128_S256x128_0_0,
      k0_pay478 i (a.view.readAt (Elt Ideal) (Rect.unit ![0, 0] S6x256.size inb_S6x256_S6x256_0_0).toLoadRect (ha.unread x))⟩]) := by
  intro t l
  rw [View.read_writes_full, readAt_full2 a ha x]
  exact pay478_at i x t l

theorem Filled.doneM (v : View sig .tc .vmem (Rows 4160) .f32) (new : ℕ → ℕ → EReal) (g : v.ty.Contents (Elt Ideal))
    (h : Filled v 260 256 ordM new (16 * 8) g) : RowsAt v 260 256 new g := fun r hr hT l =>
  h r hr l hT (by unfold ordM; omega)

theorem Filled.doneL (v : View sig .tc .vmem (Rows 544) .f32) (new : ℕ → ℕ → EReal) (g : v.ty.Contents (Elt Ideal))
    (h : Filled v 68 64 ordL new (2 * 8) g) : RowsAt v 68 64 new g := fun r hr hT l =>
  h r hr l hT (by unfold ordL; omega)

theorem Swept.doneM (v : View sig .tc .vmem (Rows 4160) .f32) (old new : ℕ → ℕ → EReal) (g : v.ty.Contents (Elt Ideal))
    (h : Swept v 260 256 fwdM old new (16 * 32) g) : RowsAt v 260 256 new g :=
  h.done _ _ _ _ _ _ _ _ (fun r hr hT => by unfold fwdM; omega)

theorem Swept.doneL (v : View sig .tc .vmem (Rows 544) .f32) (old new : ℕ → ℕ → EReal) (g : v.ty.Contents (Elt Ideal))
    (h : Swept v 68 64 fwdL old new (8 * 8) g) : RowsAt v 68 64 new g :=
  h.done _ _ _ _ _ _ _ _ (fun r hr hT => by unfold fwdL; omega)

/-- The first `N` rows of the carry buffer. -/
def Us (v : View sig .tc .vmem S144x128 .f32) (S : ℕ → ℕ → EReal) (N : ℕ) (g : v.ty.Contents (Elt Ideal)) : Prop :=
  ∀ (r : ℕ) (hr : r < 144) (l : Fin 128), r < N → (v.read (Elt Ideal) g (ix2 ⟨r, hr⟩ l) : EReal) = S r l.val

/-- Eight more rows. -/
theorem Us.step (v : View sig .tc .vmem S144x128 .f32) (S : ℕ → ℕ → EReal) (N : ℕ) (f : v.ty.Contents (Elt Ideal))
    (L : List (View.Piece (Elt Ideal) S144x128 .f32)) (off : Fin 2 → ℕ) (hoff : off = ![N, 0])
    (inb : ∀ a, off a + S8x128.size a ≤ S144x128.size a) (w : S8x128.Idx → EReal)
    (hw : ∀ (s : Fin 8) (l : Fin 128), w (ix2 s l) = S (N + s.val) l.val)
    (h : Us v S N (v.writes (Elt Ideal) f L)) :
    Us v S (N + 8) (v.writes (Elt Ideal) f (⟨Rect.unit (s := S144x128) off S8x128.size inb, w⟩ :: L)) := by
  subst hoff
  intro r hr l hN
  by_cases hr' : r < N
  · rw [← h r hr l hr', View.read_writes_cons_rows_of_not_mem (W := 8) v f inb w L _ rfl rfl (Or.inl hr')]
  · have hs : r - N < 8 := by omega
    have e : r = N + (⟨r - N, hs⟩ : Fin 8).val := by show r = N + (r - N); omega
    have k := hw ⟨r - N, hs⟩ l
    rw [← e] at k
    rw [← k]
    exact View.read_writes_cons_rows_of_mem v f inb w L _ (ix2 ⟨r - N, hs⟩ l) rfl (by show r = N + (r - N); omega) rfl

theorem off60 (i : grid0.Coords) (j : ℕ) (hj : j < 3) : k0_off60 i (BitVec.ofNat 32 (8 * j)) = ![24 * (i 0).val + 8 * j, 0] :=
  Gen.k0_off60_eq i ⟨j, hj⟩

/-- The row of the carry buffer that holds a block of 128 hidden indices. -/
def usRow (i g : ℕ) : ℕ := i * 24 + (if g < 16 then g else 16 + (g - 16) * 4)

/-- The first `N` blocks of the state's gradient, row by row. -/
def Dh (v : View sig .tc .vmem S6x2304 .f32) (S : ℕ → ℕ → EReal) (N : ℕ) (g : v.ty.Contents (Elt Ideal)) : Prop :=
  ∀ (i : Fin 6) (d : Fin 2304), 18 * i.val + d.val / 128 < N → (v.read (Elt Ideal) g (ix2 i d) : EReal) = S (usRow i.val (d.val / 128)) (d.val % 128)

/-- One more block. -/
theorem Dh.step (v : View sig .tc .vmem S6x2304 .f32) (S : ℕ → ℕ → EReal) (i g : ℕ) (f : v.ty.Contents (Elt Ideal))
    (L : List (View.Piece (Elt Ideal) S6x2304 .f32)) (hg : g < 18)
    (inb : ∀ a, (![i, 128 * g] : Fin 2 → ℕ) a + S1x128.size a ≤ S6x2304.size a) (w : S1x128.Idx → EReal)
    (hw : ∀ (l : Fin 128), w (ix2 (0 : Fin 1) l) = S (usRow i g) l.val)
    (h : Dh v S (18 * i + g) (v.writes (Elt Ideal) f L)) :
    Dh v S (18 * i + g + 1) (v.writes (Elt Ideal) f (⟨Rect.unit (s := S6x2304) ![i, 128 * g] S1x128.size inb, w⟩ :: L)) := by
  intro j d hN
  have hd := d.isLt
  by_cases hN' : 18 * j.val + d.val / 128 < 18 * i + g
  · rw [← h j d hN']
    by_cases hj : j.val = i
    · exact View.read_writes_cons_unit_of_not_mem v f inb w L _ rfl 1 (Or.inl (show d.val < 128 * g by omega))
    · exact View.read_writes_cons_unit_of_not_mem v f inb w L _ rfl 0 (Or.inl (show j.val < i by omega))
  · have hji : j.val = i := by omega
    have hdg : d.val / 128 = g := by omega
    rw [hji, hdg]
    have hl : d.val % 128 < 128 := Nat.mod_lt _ (by decide)
    rw [← hw ⟨d.val % 128, hl⟩]
    refine View.read_writes_cons_unit_of_mem v f inb w L _ (ix2 (0 : Fin 1) ⟨d.val % 128, hl⟩) rfl fun a => ?_
    fin_cases a
    · show j.val = i + 0
      omega
    · show d.val = 128 * g + d.val % 128
      omega

/-- One row of the carry buffer, read back. -/
theorem Us.row (v : View sig .tc .vmem S144x128 .f32) (S : ℕ → ℕ → EReal) (g : v.ty.Contents (Elt Ideal)) (h : Us v S 144 g) (r : ℕ)
    (inb : ∀ a, (![r, 0] : Fin 2 → ℕ) a + S1x128.size a ≤ S144x128.size a) (l : Fin 128) :
    (v.readAt (Elt Ideal) (Rect.unit (s := S144x128) ![r, 0] S1x128.size inb).toLoadRect g (ix2 (0 : Fin 1) l) : EReal) = S r l.val := by
  have hr : r < 144 := inb 0
  rw [View.readAt_apply, ← h r hr l hr]
  refine congrArg _ (funext fun a => Fin.ext ?_)
  fin_cases a
  · rfl
  · show 0 + 1 * l.val = l.val
    omega

/-- The product of a chunk's scales. -/
def chP (x2 : Vec Ideal S1x256x4608 .fp8e4m3) (x4 : Vec Ideal S6x256 .f32) (b l s : ℕ) : EReal :=
  aProd (fun m => AL x2 x4 b (m + 68 * s) l) 64

/-- A chunk's carry from zero. -/
def chU (x1 : Vec Ideal S1x256x2304 .fp8e5m2) (x2 : Vec Ideal S1x256x4608 .fp8e4m3) (x3 x4 : Vec Ideal S6x256 .f32) (b l s : ℕ) : EReal :=
  uRec (fun m => AL x2 x4 b (63 - m + 68 * s) l) (fun m => DL x1 x3 b (63 - m + 68 * s) l) 0 64

/-- The carry a chunk starts from. -/
def chIn (x1 : Vec Ideal S1x256x2304 .fp8e5m2) (x2 : Vec Ideal S1x256x4608 .fp8e4m3) (x3 x4 : Vec Ideal S6x256 .f32) (b l s : ℕ) : EReal :=
  chunkIn (chP x2 x4 b l) (chU x1 x2 x3 x4 b l) 3 s

/-- What a grid point leaves in its row `r` of the carry buffer. -/
def usVal (x1 : Vec Ideal S1x256x2304 .fp8e5m2) (x2 : Vec Ideal S1x256x4608 .fp8e4m3) (x3 x4 : Vec Ideal S6x256 .f32) (b r l : ℕ) : EReal :=
  if r < 16 then uRec (fun m => AM x2 x4 b (2080 * (r / 8) + (255 - m) + 260 * (r % 8)) l) (fun m => DM x1 x3 b (2080 * (r / 8) + (255 - m) + 260 * (r % 8)) l) 0 256
  else uRec (fun m => AL x2 x4 b (63 - m + 68 * (r - 16)) l) (fun m => DL x1 x3 b (63 - m + 68 * (r - 16)) l) (chIn x1 x2 x3 x4 b l (r - 16)) 64

theorem usVal0 (x1 : Vec Ideal S1x256x2304 .fp8e5m2) (x2 : Vec Ideal S1x256x4608 .fp8e4m3) (x3 x4 : Vec Ideal S6x256 .f32) (b : ℕ) (s : Fin 8) (l : Fin 128) :
    usVal x1 x2 x3 x4 b (0 + s.val) l.val = uM (AM x2 x4 b) (DM x1 x3 b) 0 s l 256 := by
  have hs := s.isLt
  unfold usVal uM
  rw [if_pos (by omega), show (0 + s.val) / 8 = 0 by omega, show (0 + s.val) % 8 = s.val by omega]

theorem usVal1 (x1 : Vec Ideal S1x256x2304 .fp8e5m2) (x2 : Vec Ideal S1x256x4608 .fp8e4m3) (x3 x4 : Vec Ideal S6x256 .f32) (b : ℕ) (s : Fin 8) (l : Fin 128) :
    usVal x1 x2 x3 x4 b (8 + s.val) l.val = uM (AM x2 x4 b) (DM x1 x3 b) 1 s l 256 := by
  have hs := s.isLt
  unfold usVal uM
  rw [if_pos (by omega), show (8 + s.val) / 8 = 1 by omega, show (8 + s.val) % 8 = s.val by omega]

theorem usVal2 (x1 : Vec Ideal S1x256x2304 .fp8e5m2) (x2 : Vec Ideal S1x256x4608 .fp8e4m3) (x3 x4 : Vec Ideal S6x256 .f32) (b : ℕ) (s : Fin 8) (l : Fin 128) :
    usVal x1 x2 x3 x4 b (16 + s.val) l.val = uL (AL x2 x4 b) (DL x1 x3 b) (chIn x1 x2 x3 x4 b l.val s.val) s l 64 := by
  unfold usVal uL
  rw [if_neg (by omega), show 16 + s.val - 16 = s.val by omega]

/-- The first `N` rows of the carry buffer's contents. -/
def UsD (S : ℕ → ℕ → EReal) (N : ℕ) (d : Vec Ideal S144x128 .f32) : Prop :=
  ∀ (r : ℕ) (hr : r < 144) (l : Fin 128), r < N → (d (ix2 ⟨r, hr⟩ l) : EReal) = S r l.val

/-- The first `N` blocks of the gradient's contents. -/
def DhD (S : ℕ → ℕ → EReal) (N : ℕ) (d : Vec Ideal S6x2304 .f32) : Prop :=
  ∀ (i : Fin 6) (j : Fin 2304), 18 * i.val + j.val / 128 < N → (d (ix2 i j) : EReal) = S (usRow i.val (j.val / 128)) (j.val % 128)

/-- The last grid point is the fifth. -/
theorem cond1_iff (i : grid0.Coords) : k0_cond1 i = 1#1 ↔ (i 0).val = 5 := by
  have h := coord_lt i
  unfold k0_cond1
  generalize (i 0).val = n at h
  interval_cases n <;> decide

/-- One more block, the row read back from the carry buffer. -/
theorem Dh.piece (v : View sig .tc .vmem S6x2304 .f32) (v20 : View sig .tc .vmem S144x128 .f32) (S : ℕ → ℕ → EReal) (g20 : v20.ty.Contents (Elt Ideal)) (hU : Us v20 S 144 g20)
    (i g r : ℕ) (hg : g < 18) (hr : usRow i g = r) (f : v.ty.Contents (Elt Ideal)) (L : List (View.Piece (Elt Ideal) S6x2304 .f32))
    (inb : ∀ a, (![i, 128 * g] : Fin 2 → ℕ) a + S1x128.size a ≤ S6x2304.size a) (inb20 : ∀ a, (![r, 0] : Fin 2 → ℕ) a + S1x128.size a ≤ S144x128.size a)
    (h : Dh v S (18 * i + g) (v.writes (Elt Ideal) f L)) :
    Dh v S (18 * i + g + 1) (v.writes (Elt Ideal) f (⟨Rect.unit (s := S6x2304) ![i, 128 * g] S1x128.size inb,
      v20.readAt (Elt Ideal) (Rect.unit (s := S144x128) ![r, 0] S1x128.size inb20).toLoadRect g20⟩ :: L)) :=
  Dh.step v S i g f L hg inb _ (fun l => by rw [hr]; exact Us.row v20 S g20 hU r inb20 l) h

/-- The carry buffer after a grid point's three stores. -/
theorem us_three (v : View sig .tc .vmem S144x128 .f32) (S : ℕ → ℕ → EReal) (i : grid0.Coords) (f : v.ty.Contents (Elt Ideal)) (w0 w1 w2 : S8x128.Idx → EReal)
    (h : Us v S (24 * (i 0).val) f)
    (h0 : ∀ (s : Fin 8) (l : Fin 128), w0 (ix2 s l) = S (24 * (i 0).val + (0 + s.val)) l.val)
    (h1 : ∀ (s : Fin 8) (l : Fin 128), w1 (ix2 s l) = S (24 * (i 0).val + (8 + s.val)) l.val)
    (h2 : ∀ (s : Fin 8) (l : Fin 128), w2 (ix2 s l) = S (24 * (i 0).val + (16 + s.val)) l.val)
    (b0 : ∀ a, k0_off60 i 0#32 a + S8x128.size a ≤ S144x128.size a) (b1 : ∀ a, k0_off60 i 8#32 a + S8x128.size a ≤ S144x128.size a)
    (b2 : ∀ a, k0_off60 i 16#32 a + S8x128.size a ≤ S144x128.size a) :
    Us v S (24 * (i 0).val + 24) (v.writes (Elt Ideal) f [⟨Rect.unit (s := S144x128) (k0_off60 i 16#32) S8x128.size b2, w2⟩,
      ⟨Rect.unit (s := S144x128) (k0_off60 i 8#32) S8x128.size b1, w1⟩, ⟨Rect.unit (s := S144x128) (k0_off60 i 0#32) S8x128.size b0, w0⟩]) := by
  have s0 := Us.step v S (24 * (i 0).val) f [] (k0_off60 i 0#32) (off60 i 0 (by decide)) b0 w0 (fun s l => by rw [h0, Nat.zero_add]) h
  have s1 := Us.step v S (24 * (i 0).val + 8) f _ (k0_off60 i 8#32) (off60 i 1 (by decide)) b1 w1 (fun s l => by rw [h1, Nat.add_assoc]) s0
  exact Us.step v S (24 * (i 0).val + 16) f _ (k0_off60 i 16#32) (off60 i 2 (by decide)) b2 w2 (fun s l => by rw [h2, Nat.add_assoc]) s1

end Cert.KernelScanIdeal.Hand

end
-- ==== Proof.ScanVal.lean ====
/- The scan's body run once, followed through its eight loops: the inputs' buffers come back as they were, the carry buffer
   gains this point's 24 rows, and at the last point the state's gradient is written out of it. -/
module

public import proofs.«01_k».proof.Proof.ScanV1
public import proofs.«01_k».proof.Proof.ScanV2
public import proofs.«01_k».proof.Proof.ScanV3
public import proofs.«01_k».proof.Proof.ScanV4
public import proofs.«01_k».proof.Proof.ScanV6
public import proofs.«01_k».proof.Proof.ScanV7
public import proofs.«01_k».proof.Proof.ScanPay
public import proofs.«01_k».proof.Proof.Gen.KernelScanIdeal.Frame
public import Idealize.ShloMosaic.Lib.Claim

@[expose] public section

set_option maxRecDepth 16384
set_option maxHeartbeats 8000000

noncomputable section

namespace Cert.KernelScanIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)
open Cert.KernelScanIdeal.Gen

local notation "𝕄" => MT nD τ sig Unit (Elt Ideal) ℕ (UR sig nD τ) ℕ

/-- The body at any grid point, whether or not it is the last: it keeps its inputs, adds the point's rows to the carry
    buffer, and at the last point leaves the state's gradient in its output's buffer. -/
theorem body_val (c : Dev nD) (i : grid0.Coords) (arg1 : Memref sig .tc .vmem S1x256x2304 .fp8e5m2) (harg1 : arg1.IsWhole) (arg2 : Memref sig .tc .vmem S1x256x4608 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S6x2304 .f32) (harg5 : arg5.IsWhole) (arg6 : Memref sig .tc .vmem S1x256x4608 .fp8e5m2) (harg6 : arg6.IsWhole) (arg7 : Memref sig .tc .vmem S6x256 .f32) (harg7 : arg7.IsWhole) (arg8 : Memref sig .tc .vmem S6x2304 .f32) (harg8 : arg8.IsWhole) (arg9 : Memref sig .tc .vmem S4160x128 .f32) (harg9 : arg9.IsWhole) (arg10 : Memref sig .tc .vmem S4160x128 .f32) (harg10 : arg10.IsWhole) (arg11 : Memref sig .tc .vmem S4160x128 .f32) (harg11 : arg11.IsWhole) (arg12 : Memref sig .tc .vmem S4160x128 .f32) (harg12 : arg12.IsWhole) (arg13 : Memref sig .tc .vmem S544x128 .f32) (harg13 : arg13.IsWhole) (arg14 : Memref sig .tc .vmem S544x128 .f32) (harg14 : arg14.IsWhole) (arg15 : Memref sig .tc .vmem S544x128 .f32) (harg15 : arg15.IsWhole) (arg16 : Memref sig .tc .vmem S544x128 .f32) (harg16 : arg16.IsWhole) (arg17 : Memref sig .tc .vmem S544x128 .f32) (harg17 : arg17.IsWhole) (arg18 : Memref sig .tc .vmem S544x128 .f32) (harg18 : arg18.IsWhole) (arg19 : Memref sig .tc .vmem S24x128 .f32) (harg19 : arg19.IsWhole) (arg20 : Memref sig .tc .vmem S144x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S48x256 .f32) (harg25 : arg25.IsWhole)
    (S : ℕ → ℕ → EReal) (x1 : Vec Ideal S1x256x2304 .fp8e5m2) (x2 : Vec Ideal S1x256x4608 .fp8e4m3) (x3 : Vec Ideal S6x256 .f32) (x4 : Vec Ideal S6x256 .f32) (x5 : Vec Ideal S6x2304 .f32) (hS : ∀ r : ℕ, r < 24 → ∀ l : Fin 128, S (24 * (i 0).val + r) l.val = usVal x1 x2 x3 x4 (i 0).val r l.val) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, ⌜UsD S (24 * (i 0).val) d⌝ ∗ owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, ⌜(i 0).val = 5 → DhD S 108 d⌝ ∗ owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, ⌜UsD S (24 * (i 0).val + 24) d⌝ ∗ owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
      ⊢ wp frame (wpE (defs₀ (F := Ideal)) Variants.none c none) E (cc0_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_scan_eq_skeleton]; unfold cc0_scan_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %hs20, %f20, %hf20, H20⟩, ⟨%d21, %f21, -, H21⟩, ⟨%d22, %f22, -, H22⟩, ⟨%d23, %f23, -, H23⟩, ⟨%d24, %f24, -, H24⟩, ⟨%d25, %f25, -, H25⟩, Hk⟩
  obtain rfl := harg1.eq_unread hf1
  obtain rfl := harg2.eq_unread hf2
  obtain rfl := harg3.eq_unread hf3
  obtain rfl := harg4.eq_unread hf4
  obtain rfl := harg5.eq_unread hf5
  have h1 : ∀ (t : Fin 256) (d : Fin 2304), (arg1.view.read (Elt Ideal) (harg1.unread x1) (ix3 (0 : Fin 1) t d) : EReal) = dyOf x1 t.val d.val := by
    intro t d
    rw [harg1.read_unread]
    unfold dyOf
    rw [dif_pos ⟨t.isLt, d.isLt⟩]
  have h2 : ∀ (t : Fin 256) (d : Fin 4608), (arg2.view.read (Elt Ideal) (harg2.unread x2) (ix3 (0 : Fin 1) t d) : EReal) = pzOf x2 t.val d.val := by
    intro t d
    rw [harg2.read_unread]
    unfold pzOf
    rw [dif_pos ⟨t.isLt, d.isLt⟩]
  set_option sl_exec.stopBefore "k0_part98" in sl_exec_parts
  set_option sl_exec.maxSteps 5 in sl_exec_parts
  sl_for (fun (k : ℕ) _ => (iprop((arg1.view.loc (c : Thread nD τ) ↦[arg1.view.set]{fullShare} (harg1.unread x1)) ∗ (arg2.view.loc (c : Thread nD τ) ↦[arg2.view.set]{fullShare} (harg2.unread x2)) ∗ (∃ f, ⌜Filled arg9.view 260 256 ordM (fun r l => (pzOf x2) (r % 260) (128 * (r / 260) + l) * (zB x4 (i 0).val) (r % 260)) (16 * k) f⌝ ∗ arg9.view.loc (c : Thread nD τ) ↦[arg9.view.set]{fullShare} f) ∗ (∃ f, arg10.view.loc (c : Thread nD τ) ↦[arg10.view.set]{fullShare} f) ∗ (∃ f, ⌜Filled arg12.view 260 256 ordM (fun r l => (dyOf x1) (r % 260) (128 * (r / 260) + l) * (scOf x3 (i 0).val) (r % 260)) (16 * k) f⌝ ∗ arg12.view.loc (c : Thread nD τ) ↦[arg12.view.set]{fullShare} f) ∗ (∃ f, ⌜Filled arg13.view 68 64 ordL (fun r l => (pzOf x2) (timeL r) (hidL r + l) * (zB x4 (i 0).val) (timeL r)) (2 * k) f⌝ ∗ arg13.view.loc (c : Thread nD τ) ↦[arg13.view.set]{fullShare} f) ∗ (∃ f, arg14.view.loc (c : Thread nD τ) ↦[arg14.view.set]{fullShare} f) ∗ (∃ f, ⌜Filled arg16.view 68 64 ordL (fun r l => (dyOf x1) (timeL r) (hidL r + l) * (scOf x3 (i 0).val) (timeL r)) (2 * k) f⌝ ∗ arg16.view.loc (c : Thread nD τ) ↦[arg16.view.set]{fullShare} f) ∗ (∃ f, ⌜ColAt arg21.view (zB x4 (i 0).val) f⌝ ∗ arg21.view.loc (c : Thread nD τ) ↦[arg21.view.set]{fullShare} f) ∗ (∃ f, arg22.view.loc (c : Thread nD τ) ↦[arg22.view.set]{fullShare} f) ∗ (∃ f, ⌜ColAt arg23.view (scOf x3 (i 0).val) f⌝ ∗ arg23.view.loc (c : Thread nD τ) ↦[arg23.view.set]{fullShare} f)) : sProp 𝕄)) $$ [H1 H2 H9 H10 H12 H13 H14 H16 H21 H22 H23]
  case region =>
    intro k a
    exact (valInv_t1 (pzOf x2) (dyOf x1) (zB x4 (i 0).val) (scOf x3 (i 0).val) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (BitVec.ofNat 32 (i 0).val) (body_val.sl.v222 c i arg5 harg5 x5) (harg1.unread x1) (harg2.unread x2) h1 h2).step k a
  · skip
    isplitl [H1]
    · iexact H1
    isplitl [H2]
    · iexact H2
    isplitl [H9]
    · iexists _; isplitr; swap; iexact H9
      ipureintro; exact fun r hr l hT h => absurd h (Nat.not_lt_zero _)
    isplitl [H10]
    · iexists _; iexact H10
    isplitl [H12]
    · iexists _; isplitr; swap; iexact H12
      ipureintro; exact fun r hr l hT h => absurd h (Nat.not_lt_zero _)
    isplitl [H13]
    · iexists _; isplitr; swap; iexact H13
      ipureintro; exact fun r hr l hT h => absurd h (Nat.not_lt_zero _)
    isplitl [H14]
    · iexists _; iexact H14
    isplitl [H16]
    · iexists _; isplitr; swap; iexact H16
      ipureintro; exact fun r hr l hT h => absurd h (Nat.not_lt_zero _)
    isplitl [H21]
    · iexists _; isplitr; swap; iexact H21
      ipureintro; exact col21 _ _ i arg4 harg4 x4
    isplitl [H22]
    · iexists _; iexact H22
    iexists _; isplitr; swap; iexact H23
    ipureintro; exact col23 _ _ i arg3 harg3 x3
  iintro %a ⟨H1, H2, ⟨%g9, %hg9, H9⟩, ⟨%g10, H10⟩, ⟨%g12, %hg12, H12⟩, ⟨%g13, %hg13, H13⟩, ⟨%g14, H14⟩, ⟨%g16, %hg16, H16⟩, ⟨%g21, -, H21⟩, ⟨%g22, H22⟩, ⟨%g23, -, H23⟩⟩
  have hX9 : RowsAt arg9.view 260 256 (XM x2 x4 (i 0).val) g9 := Filled.doneM _ _ _ hg9
  have hD12 : RowsAt arg12.view 260 256 (DM x1 x3 (i 0).val) g12 := Filled.doneM _ _ _ hg12
  have hX13 : RowsAt arg13.view 68 64 (XL x2 x4 (i 0).val) g13 := Filled.doneL _ _ _ hg13
  have hD16 : RowsAt arg16.view 68 64 (DL x1 x3 (i 0).val) g16 := Filled.doneL _ _ _ hg16
  clear hg9 hg12 hg13 hg16
  sl_exec_parts
  sl_for (fun (k : ℕ) _ => (iprop((∃ f, ⌜Swept arg9.view 260 256 fwdM (XM x2 x4 (i 0).val) (fun r l => gA ((XM x2 x4 (i 0).val) r l)) (16 * k) f⌝ ∗ arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f)) : sProp 𝕄)) $$ [H9 H10 H11]
  case region =>
    intro k a
    exact (valInv_t2 (XM x2 x4 (i 0).val) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (BitVec.ofNat 32 (i 0).val) (body_val.sl.v222 c i arg5 harg5 x5) (body_val.sl.v235 c i arg5 harg5 arg19 x5, body_val.sl.v236 c i arg5 harg5 arg19 x5)).step k a
  · skip
    isplitl [H9]
    · iexists _; isplitr; swap; iexact H9
      ipureintro; exact hX9.swept _ _ _ _ _ _ _
    isplitl [H10]
    · iexists _; iexact H10
    iexists _; iexact H11
  iintro %a ⟨⟨%g9b, %hg9, H9⟩, ⟨%g10b, H10⟩, ⟨%g11, H11⟩⟩
  have hA9 : RowsAt arg9.view 260 256 (AM x2 x4 (i 0).val) g9b := Swept.doneM _ _ _ _ hg9
  clear hg9 hX9
  obtain ⟨a1, a2⟩ := a
  sl_exec_parts
  sl_for (fun (k : ℕ) acc => (iprop(⌜∀ (s : Fin 8) (l : Fin 128), (acc.1 (ix2 s l) : EReal) = uM (AM x2 x4 (i 0).val) (DM x1 x3 (i 0).val) 0 s l (8 * k) ∧ (acc.2 (ix2 s l) : EReal) = uM (AM x2 x4 (i 0).val) (DM x1 x3 (i 0).val) 1 s l (8 * k)⌝ ∗ (∃ f, ⌜RowsAt arg9.view 260 256 (AM x2 x4 (i 0).val) f⌝ ∗ arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, ⌜RowsAt arg12.view 260 256 (DM x1 x3 (i 0).val) f⌝ ∗ arg12.view.loc (c : Thread nD τ) ↦[arg12.view.set]{fullShare} f)) : sProp 𝕄)) $$ [H9 H10 H11 H12]
  case region =>
    intro k a
    exact (valInv_t3 (AM x2 x4 (i 0).val) (DM x1 x3 (i 0).val) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (BitVec.ofNat 32 (i 0).val) (body_val.sl.v222 c i arg5 harg5 x5) (k0_pay508, k0_pay508)).step k a
  · skip
    isplitr
    · ipureintro; exact fun s l => ⟨pay508_at s l, pay508_at s l⟩
    isplitl [H9]
    · iexists _; isplitr; swap; iexact H9
      ipureintro; exact hA9
    isplitl [H10]
    · iexists _; iexact H10
    isplitl [H11]
    · iexists _; iexact H11
    iexists _; isplitr; swap; iexact H12
    ipureintro; exact hD12
  iintro %a ⟨%hu, ⟨%g9c, -, H9⟩, ⟨%g10c, H10⟩, ⟨%g11b, H11⟩, ⟨%g12b, -, H12⟩⟩
  obtain ⟨u1, u2⟩ := a
  sl_exec_parts
  sl_for (fun (k : ℕ) acc => (iprop(⌜∀ (s : Fin 8) (l : Fin 128), (acc.1 (ix2 s l) : EReal) = aProd (fun m => gA ((XL x2 x4 (i 0).val) (m + 68 * s.val) l.val)) (8 * k)⌝ ∗ (∃ f, ⌜Swept arg13.view 68 64 fwdL (XL x2 x4 (i 0).val) (fun r l => gA ((XL x2 x4 (i 0).val) r l)) (8 * k) f⌝ ∗ arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg17.view.loc (c : Thread nD τ) ↦[arg17.view.set]{fullShare} f) ∗ (∃ f, arg18.view.loc (c : Thread nD τ) ↦[arg18.view.set]{fullShare} f)) : sProp 𝕄)) $$ [H13 H14 H15 H17 H18]
  case region =>
    intro k a
    exact (valInv_t4 (XL x2 x4 (i 0).val) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_pay508 body_val.sl.v254 (cmpi CmpIPredicate.eq body_val.sl.v270 body_val.sl.v259) (cmpi CmpIPredicate.eq body_val.sl.v270 body_val.sl.v289) body_val.sl.v292 0#32 (body_val.sl.v292, k0_pay508)).step k a
  · skip
    isplitr
    · ipureintro; exact fun s l => pay520_at s l
    isplitl [H13]
    · iexists _; isplitr; swap; iexact H13
      ipureintro; exact hX13.swept _ _ _ _ _ _ _
    isplitl [H14]
    · iexists _; iexact H14
    isplitl [H15]
    · iexists _; iexact H15
    isplitl [H17]
    · iexists _; iexact H17
    iexists _; iexact H18
  iintro %a ⟨%hp, ⟨%g13b, %hg13, H13⟩, ⟨%g14b, H14⟩, ⟨%g15, H15⟩, ⟨%g17, H17⟩, ⟨%g18, H18⟩⟩
  have hA13 : RowsAt arg13.view 68 64 (AL x2 x4 (i 0).val) g13b := Swept.doneL _ _ _ _ hg13
  clear hg13 hX13
  obtain ⟨p1, p2⟩ := a
  sl_exec_parts
  sl_for (fun (k : ℕ) _ => (iprop((∃ f, ⌜RowsAt arg13.view 68 64 (AL x2 x4 (i 0).val) f⌝ ∗ arg13.view.loc (c : Thread nD τ) ↦[arg13.view.set]{fullShare} f) ∗ (∃ f, arg14.view.loc (c : Thread nD τ) ↦[arg14.view.set]{fullShare} f) ∗ (∃ f, arg17.view.loc (c : Thread nD τ) ↦[arg17.view.set]{fullShare} f) ∗ (∃ f, arg18.view.loc (c : Thread nD τ) ↦[arg18.view.set]{fullShare} f)) : sProp 𝕄)) $$ [H13 H14 H17 H18]
  case region =>
    intro k a
    exact (valInv_t5 (AL x2 x4 (i 0).val) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_pay508 body_val.sl.v254 (cmpi CmpIPredicate.eq body_val.sl.v270 body_val.sl.v259) (cmpi CmpIPredicate.eq body_val.sl.v270 body_val.sl.v289) body_val.sl.v292 0#32 (k0_pay529 body_val.sl.v254 (cmpi CmpIPredicate.eq body_val.sl.v270 body_val.sl.v259) p1 p2 (body_val.sl.v297 c i arg5 harg5 arg19 x5) (body_val.sl.v298 c i arg5 harg5 arg19 x5))).step k a
  · skip
    isplitl [H13]
    · iexists _; isplitr; swap; iexact H13
      ipureintro; exact hA13
    isplitl [H14]
    · iexists _; iexact H14
    isplitl [H17]
    · iexists _; iexact H17
    iexists _; iexact H18
  iintro %a ⟨⟨%g13c, %hA13c, H13⟩, ⟨%g14c, H14⟩, ⟨%g17b, H17⟩, ⟨%g18b, H18⟩⟩
  sl_for (fun (k : ℕ) acc => (iprop(⌜∀ (s : Fin 8) (l : Fin 128), (acc (ix2 s l) : EReal) = uL (AL x2 x4 (i 0).val) (DL x1 x3 (i 0).val) 0 s l (8 * k)⌝ ∗ (∃ f, ⌜RowsAt arg13.view 68 64 (AL x2 x4 (i 0).val) f⌝ ∗ arg13.view.loc (c : Thread nD τ) ↦[arg13.view.set]{fullShare} f) ∗ (∃ f, ⌜RowsAt arg16.view 68 64 (DL x1 x3 (i 0).val) f⌝ ∗ arg16.view.loc (c : Thread nD τ) ↦[arg16.view.set]{fullShare} f)) : sProp 𝕄)) $$ [H13 H16]
  case region =>
    intro k a
    exact (valInv_t6 (AL x2 x4 (i 0).val) (DL x1 x3 (i 0).val) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_pay508 body_val.sl.v254 (cmpi CmpIPredicate.eq body_val.sl.v270 body_val.sl.v259) (cmpi CmpIPredicate.eq body_val.sl.v270 body_val.sl.v289) body_val.sl.v292 0#32 k0_pay508).step k a
  · skip
    isplitr
    · ipureintro; exact fun s l => pay508_at s l
    isplitl [H13]
    · iexists _; isplitr; swap; iexact H13
      ipureintro; exact hA13c
    iexists _; isplitr; swap; iexact H16
    ipureintro; exact hD16
  iintro %v319 ⟨%hU, ⟨%g13d, %hA13d, H13⟩, ⟨%g16b, %hD16b, H16⟩⟩
  have hm : (cmpi CmpIPredicate.eq body_val.sl.v270 body_val.sl.v289) = k0_pay519 := rfl
  sl_exec_parts
  sl_for (fun (k : ℕ) acc => (iprop(⌜∀ (s : Fin 8) (l : Fin 128), (acc (ix2 s l) : EReal) = uL (AL x2 x4 (i 0).val) (DL x1 x3 (i 0).val) ((fun s l => chIn x1 x2 x3 x4 (i 0).val l.val s.val) s l) s l (8 * k)⌝ ∗ (∃ f, ⌜RowsAt arg13.view 68 64 (AL x2 x4 (i 0).val) f⌝ ∗ arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, ⌜RowsAt arg16.view 68 64 (DL x1 x3 (i 0).val) f⌝ ∗ arg16.view.loc (c : Thread nD τ) ↦[arg16.view.set]{fullShare} f)) : sProp 𝕄)) $$ [H13 H14 H15 H16]
  case region =>
    intro k a
    exact (valInv_t7 (AL x2 x4 (i 0).val) (DL x1 x3 (i 0).val) (fun s l => chIn x1 x2 x3 x4 (i 0).val l.val s.val) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (k0_pay1 (cmpi CmpIPredicate.eq body_val.sl.v270 body_val.sl.v289) p1 v319 (k0_pay534 k0_pay508 (cmpi CmpIPredicate.eq body_val.sl.v270 body_val.sl.v289) p1 v319))).step k a
  · skip
    isplitr
    · ipureintro; intro s l
      rw [hm]
      exact pay1_at _ _ p1 v319 l (fun s => hp s l) (fun s => hU s l) s
    isplitl [H13]
    · iexists _; isplitr; swap; iexact H13
      ipureintro; exact hA13d
    isplitl [H14]
    · iexists _; iexact H14
    isplitl [H15]
    · iexists _; iexact H15
    iexists _; isplitr; swap; iexact H16
    ipureintro; exact hD16b
  iintro %v336 ⟨%hV, ⟨%g13e, -, H13⟩, ⟨%g14d, H14⟩, ⟨%g15b, H15⟩, ⟨%g16c, -, H16⟩⟩
  sl_exec_parts
  sl_for (fun (k : ℕ) _ => (iprop((∃ f, arg10.view.loc (c : Thread nD τ) ↦[arg10.view.set]{fullShare} f) ∗ (∃ f, arg11.view.loc (c : Thread nD τ) ↦[arg11.view.set]{fullShare} f) ∗ (∃ f, arg14.view.loc (c : Thread nD τ) ↦[arg14.view.set]{fullShare} f) ∗ (∃ f, arg15.view.loc (c : Thread nD τ) ↦[arg15.view.set]{fullShare} f) ∗ (∃ f, arg24.view.loc (c : Thread nD τ) ↦[arg24.view.set]{fullShare} f) ∗ (∃ f, arg6.view.loc (c : Thread nD τ) ↦[arg6.view.set]{fullShare} f)) : sProp 𝕄)) $$ [H10 H11 H14 H15 H24 H6]
  case region =>
    intro k a
    exact (valInv_t8  Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 ).step k a
  · skip
    isplitl [H10]
    · iexists _; iexact H10
    isplitl [H11]
    · iexists _; iexact H11
    isplitl [H14]
    · iexists _; iexact H14
    isplitl [H15]
    · iexists _; iexact H15
    isplitl [H24]
    · iexists _; iexact H24
    iexists _; iexact H6
  iintro %a ⟨⟨%g10d, H10⟩, ⟨%g11d, H11⟩, ⟨%g14e, H14⟩, ⟨%g15c, H15⟩, ⟨%g24, H24⟩, ⟨%g6, H6⟩⟩
  subst hf20
  have hb : (i 0).val < 6 := coord_lt i
  have hUs := us_three arg20.view S i f20 (k0_pay516 u1) (body_val.sl.v253 u2) (k0_pay6 v336) hs20
    (fun s l => by rw [pay516_at, hS _ (by omega) l, usVal0]; exact (hu s l).1)
    (fun s l => by rw [show body_val.sl.v253 u2 = k0_pay517 u2 from rfl, pay517_at, hS _ (by omega) l, usVal1]; exact (hu s l).2)
    (fun s l => by rw [pay6_at, hS _ (by omega) l, usVal2]; exact hV s l)
  by_cases hc : k0_cond1 i = 1#1
  · sl_exec_parts (disch := first | sl_exact hc)
    sl_step
    iapply Hk
    have h5 := (cond1_iff i).1 hc
    have hV3 : ∀ g : arg20.view.ty.Contents (Elt Ideal), Us arg20.view S (24 * (i 0).val + 24) g → Us arg20.view S 144 g := by
      rw [h5]; exact fun _ h => h
    replace hV3 := hV3 _ (hUs (k0_off60_inb i 0) (k0_off60_inb i 1) (k0_off60_inb i 2))
    have hfin : ∀ g : arg8.view.ty.Contents (Elt Ideal), Dh arg8.view S 108 g → DhD S 108 (arg8.view.read (Elt Ideal) g) := fun _ h => h
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexists _; isplitr; swap; · iexact H6
      ipureintro; exact rfl
    isplitl [H7]
    · iexists _; iexists _; isplitr; swap; · iexact H7
      ipureintro; exact rfl
    isplitl [H8]
    · iexists _; isplitr; swap
      · iexists _; isplitr; swap; · iexact H8
        ipureintro; exact rfl
      ipureintro; intro _
      refine hfin _ ?_
      refine Dh.piece arg8.view arg20.view S _ hV3 5 17 140 (by decide) (by decide) f8 _ _ _ ?_
      refine Dh.piece arg8.view arg20.view S _ hV3 5 16 136 (by decide) (by decide) f8 _ _ _ ?_
      refine Dh.piece arg8.view arg20.view S _ hV3 5 15 135 (by decide) (by decide) f8 _ _ _ ?_
      refine Dh.piece arg8.view arg20.view S _ hV3 5 14 134 (by decide) (by decide) f8 _ _ _ ?_
      refine Dh.piece arg8.view arg20.view S _ hV3 5 13 133 (by decide) (by decide) f8 _ _ _ ?_
      refine Dh.piece arg8.view arg20.view S _ hV3 5 12 132 (by decide) (by decide) f8 _ _ _ ?_
      refine Dh.piece arg8.view arg20.view S _ hV3 5 11 131 (by decide) (by decide) f8 _ _ _ ?_
      refine Dh.piece arg8.view arg20.view S _ hV3 5 10 130 (by decide) (by decide) f8 _ _ _ ?_
      refine Dh.piece arg8.view arg20.view S _ hV3 5 9 129 (by decide) (by decide) f8 _ _ _ ?_
      refine Dh.piece arg8.view arg20.view S _ hV3 5 8 128 (by decide) (by decide) f8 _ _ _ ?_
      refine Dh.piece arg8.view arg20.view S _ hV3 5 7 127 (by decide) (by decide) f8 _ _ _ ?_
      refine Dh.piece arg8.view arg20.view S _ hV3 5 6 126 (by decide) (by decide) f8 _ _ _ ?_
      refine Dh.piece arg8.view arg20.view S _ hV3 5 5 125 (by decide) (by decide) f8 _ _ _ ?_
      refine Dh.piece arg8.view arg20.view S _ hV3 5 4 124 (by decide) (by decide) f8 _ _ _ ?_
      refine Dh.piece arg8.view arg20.view S _ hV3 5 3 123 (by decide) (by decide) f8 _ _ _ ?_
      refine Dh.piece arg8.view arg20.view S _ hV3 5 2 122 (by decide) (by decide) f8 _ _ _ ?_
      refine Dh.piece arg8.view arg20.view S _ hV3 5 1 121 (by decide) (by decide) f8 _ _ _ ?_
      refine Dh.piece arg8.view arg20.view S _ hV3 5 0 120 (by decide) (by decide) f8 _ _ _ ?_
      refine Dh.piece arg8.view arg20.view S _ hV3 4 17 116 (by decide) (by decide) f8 _ _ _ ?_
      refine Dh.piece arg8.view arg20.view S _ hV3 4 16 112 (by decide) (by decide) f8 _ _ _ ?_
      refine Dh.piece arg8.view arg20.view S _ hV3 4 15 111 (by decide) (by decide) f8 _ _ _ ?_
      refine Dh.piece arg8.view arg20.view S _ hV3 4 14 110 (by decide) (by decide) f8 _ _ _ ?_
      refine Dh.piece arg8.view arg20.view S _ hV3 4 13 109 (by decide) (by decide) f8 _ _ _ ?_
      refine Dh.piece arg8.view arg20.view S _ hV3 4 12 108 (by decide) (by decide) f8 _ _ _ ?_
      refine Dh.piece arg8.view arg20.view S _ hV3 4 11 107 (by decide) (by decide) f8 _ _ _ ?_
      refine Dh.piece arg8.view arg20.view S _ hV3 4 10 106 (by decide) (by decide) f8 _ _ _ ?_
      refine Dh.piece arg8.view arg20.view S _ hV3 4 9 105 (by decide) (by decide) f8 _ _ _ ?_
      refine Dh.piece arg8.view arg20.view S _ hV3 4 8 104 (by decide) (by decide) f8 _ _ _ ?_
      refine Dh.piece arg8.view arg20.view S _ hV3 4 7 103 (by decide) (by decide) f8 _ _ _ ?_
      refine Dh.piece arg8.view arg20.view S _ hV3 4 6 102 (by decide) (by decide) f8 _ _ _ ?_
      refine Dh.piece arg8.view arg20.view S _ hV3 4 5 101 (by decide) (by decide) f8 _ _ _ ?_
      refine Dh.piece arg8.view arg20.view S _ hV3 4 4 100 (by decide) (by decide) f8 _ _ _ ?_
      refine Dh.piece arg8.view arg20.view S _ hV3 4 3 99 (by decide) (by decide) f8 _ _ _ ?_
      refine Dh.piece arg8.view arg20.view S _ hV3 4 2 98 (by decide) (by decide) f8 _ _ _ ?_
      refine Dh.piece arg8.view arg20.view S _ hV3 4 1 97 (by decide) (by decide) f8 _ _ _ ?_
      refine Dh.piece arg8.view arg20.view S _ hV3 4 0 96 (by decide) (by decide) f8 _ _ _ ?_
      refine Dh.piece arg8.view arg20.view S _ hV3 3 17 92 (by decide) (by decide) f8 _ _ _ ?_
      refine Dh.piece arg8.view arg20.view S _ hV3 3 16 88 (by decide) (by decide) f8 _ _ _ ?_
      refine Dh.piece arg8.view arg20.view S _ hV3 3 15 87 (by decide) (by decide) f8 _ _ _ ?_
      refine Dh.piece arg8.view arg20.view S _ hV3 3 14 86 (by decide) (by decide) f8 _ _ _ ?_
      refine Dh.piece arg8.view arg20.view S _ hV3 3 13 85 (by decide) (by decide) f8 _ _ _ ?_
      refine Dh.piece arg8.view arg20.view S _ hV3 3 12 84 (by decide) (by decide) f8 _ _ _ ?_
      refine Dh.piece arg8.view arg20.view S _ hV3 3 11 83 (by decide) (by decide) f8 _ _ _ ?_
      refine Dh.piece arg8.view arg20.view S _ hV3 3 10 82 (by decide) (by decide) f8 _ _ _ ?_
      refine Dh.piece arg8.view arg20.view S _ hV3 3 9 81 (by decide) (by decide) f8 _ _ _ ?_
      refine Dh.piece arg8.view arg20.view S _ hV3 3 8 80 (by decide) (by decide) f8 _ _ _ ?_
      refine Dh.piece arg8.view arg20.view S _ hV3 3 7 79 (by decide) (by decide) f8 _ _ _ ?_
      refine Dh.piece arg8.view arg20.view S _ hV3 3 6 78 (by decide) (by decide) f8 _ _ _ ?_
      refine Dh.piece arg8.view arg20.view S _ hV3 3 5 77 (by decide) (by decide) f8 _ _ _ ?_
      refine Dh.piece arg8.view arg20.view S _ hV3 3 4 76 (by decide) (by decide) f8 _ _ _ ?_
      refine Dh.piece arg8.view arg20.view S _ hV3 3 3 75 (by decide) (by decide) f8 _ _ _ ?_
      refine Dh.piece arg8.view arg20.view S _ hV3 3 2 74 (by decide) (by decide) f8 _ _ _ ?_
      refine Dh.piece arg8.view arg20.view S _ hV3 3 1 73 (by decide) (by decide) f8 _ _ _ ?_
      refine Dh.piece arg8.view arg20.view S _ hV3 3 0 72 (by decide) (by decide) f8 _ _ _ ?_
      refine Dh.piece arg8.view arg20.view S _ hV3 2 17 68 (by decide) (by decide) f8 _ _ _ ?_
      refine Dh.piece arg8.view arg20.view S _ hV3 2 16 64 (by decide) (by decide) f8 _ _ _ ?_
      refine Dh.piece arg8.view arg20.view S _ hV3 2 15 63 (by decide) (by decide) f8 _ _ _ ?_
      refine Dh.piece arg8.view arg20.view S _ hV3 2 14 62 (by decide) (by decide) f8 _ _ _ ?_
      refine Dh.piece arg8.view arg20.view S _ hV3 2 13 61 (by decide) (by decide) f8 _ _ _ ?_
      refine Dh.piece arg8.view arg20.view S _ hV3 2 12 60 (by decide) (by decide) f8 _ _ _ ?_
      refine Dh.piece arg8.view arg20.view S _ hV3 2 11 59 (by decide) (by decide) f8 _ _ _ ?_
      refine Dh.piece arg8.view arg20.view S _ hV3 2 10 58 (by decide) (by decide) f8 _ _ _ ?_
      refine Dh.piece arg8.view arg20.view S _ hV3 2 9 57 (by decide) (by decide) f8 _ _ _ ?_
      refine Dh.piece arg8.view arg20.view S _ hV3 2 8 56 (by decide) (by decide) f8 _ _ _ ?_
      refine Dh.piece arg8.view arg20.view S _ hV3 2 7 55 (by decide) (by decide) f8 _ _ _ ?_
      refine Dh.piece arg8.view arg20.view S _ hV3 2 6 54 (by decide) (by decide) f8 _ _ _ ?_
      refine Dh.piece arg8.view arg20.view S _ hV3 2 5 53 (by decide) (by decide) f8 _ _ _ ?_
      refine Dh.piece arg8.view arg20.view S _ hV3 2 4 52 (by decide) (by decide) f8 _ _ _ ?_
      refine Dh.piece arg8.view arg20.view S _ hV3 2 3 51 (by decide) (by decide) f8 _ _ _ ?_
      refine Dh.piece arg8.view arg20.view S _ hV3 2 2 50 (by decide) (by decide) f8 _ _ _ ?_
      refine Dh.piece arg8.view arg20.view S _ hV3 2 1 49 (by decide) (by decide) f8 _ _ _ ?_
      refine Dh.piece arg8.view arg20.view S _ hV3 2 0 48 (by decide) (by decide) f8 _ _ _ ?_
      refine Dh.piece arg8.view arg20.view S _ hV3 1 17 44 (by decide) (by decide) f8 _ _ _ ?_
      refine Dh.piece arg8.view arg20.view S _ hV3 1 16 40 (by decide) (by decide) f8 _ _ _ ?_
      refine Dh.piece arg8.view arg20.view S _ hV3 1 15 39 (by decide) (by decide) f8 _ _ _ ?_
      refine Dh.piece arg8.view arg20.view S _ hV3 1 14 38 (by decide) (by decide) f8 _ _ _ ?_
      refine Dh.piece arg8.view arg20.view S _ hV3 1 13 37 (by decide) (by decide) f8 _ _ _ ?_
      refine Dh.piece arg8.view arg20.view S _ hV3 1 12 36 (by decide) (by decide) f8 _ _ _ ?_
      refine Dh.piece arg8.view arg20.view S _ hV3 1 11 35 (by decide) (by decide) f8 _ _ _ ?_
      refine Dh.piece arg8.view arg20.view S _ hV3 1 10 34 (by decide) (by decide) f8 _ _ _ ?_
      refine Dh.piece arg8.view arg20.view S _ hV3 1 9 33 (by decide) (by decide) f8 _ _ _ ?_
      refine Dh.piece arg8.view arg20.view S _ hV3 1 8 32 (by decide) (by decide) f8 _ _ _ ?_
      refine Dh.piece arg8.view arg20.view S _ hV3 1 7 31 (by decide) (by decide) f8 _ _ _ ?_
      refine Dh.piece arg8.view arg20.view S _ hV3 1 6 30 (by decide) (by decide) f8 _ _ _ ?_
      refine Dh.piece arg8.view arg20.view S _ hV3 1 5 29 (by decide) (by decide) f8 _ _ _ ?_
      refine Dh.piece arg8.view arg20.view S _ hV3 1 4 28 (by decide) (by decide) f8 _ _ _ ?_
      refine Dh.piece arg8.view arg20.view S _ hV3 1 3 27 (by decide) (by decide) f8 _ _ _ ?_
      refine Dh.piece arg8.view arg20.view S _ hV3 1 2 26 (by decide) (by decide) f8 _ _ _ ?_
      refine Dh.piece arg8.view arg20.view S _ hV3 1 1 25 (by decide) (by decide) f8 _ _ _ ?_
      refine Dh.piece arg8.view arg20.view S _ hV3 1 0 24 (by decide) (by decide) f8 _ _ _ ?_
      refine Dh.piece arg8.view arg20.view S _ hV3 0 17 20 (by decide) (by decide) f8 _ _ _ ?_
      refine Dh.piece arg8.view arg20.view S _ hV3 0 16 16 (by decide) (by decide) f8 _ _ _ ?_
      refine Dh.piece arg8.view arg20.view S _ hV3 0 15 15 (by decide) (by decide) f8 _ _ _ ?_
      refine Dh.piece arg8.view arg20.view S _ hV3 0 14 14 (by decide) (by decide) f8 _ _ _ ?_
      refine Dh.piece arg8.view arg20.view S _ hV3 0 13 13 (by decide) (by decide) f8 _ _ _ ?_
      refine Dh.piece arg8.view arg20.view S _ hV3 0 12 12 (by decide) (by decide) f8 _ _ _ ?_
      refine Dh.piece arg8.view arg20.view S _ hV3 0 11 11 (by decide) (by decide) f8 _ _ _ ?_
      refine Dh.piece arg8.view arg20.view S _ hV3 0 10 10 (by decide) (by decide) f8 _ _ _ ?_
      refine Dh.piece arg8.view arg20.view S _ hV3 0 9 9 (by decide) (by decide) f8 _ _ _ ?_
      refine Dh.piece arg8.view arg20.view S _ hV3 0 8 8 (by decide) (by decide) f8 _ _ _ ?_
      refine Dh.piece arg8.view arg20.view S _ hV3 0 7 7 (by decide) (by decide) f8 _ _ _ ?_
      refine Dh.piece arg8.view arg20.view S _ hV3 0 6 6 (by decide) (by decide) f8 _ _ _ ?_
      refine Dh.piece arg8.view arg20.view S _ hV3 0 5 5 (by decide) (by decide) f8 _ _ _ ?_
      refine Dh.piece arg8.view arg20.view S _ hV3 0 4 4 (by decide) (by decide) f8 _ _ _ ?_
      refine Dh.piece arg8.view arg20.view S _ hV3 0 3 3 (by decide) (by decide) f8 _ _ _ ?_
      refine Dh.piece arg8.view arg20.view S _ hV3 0 2 2 (by decide) (by decide) f8 _ _ _ ?_
      refine Dh.piece arg8.view arg20.view S _ hV3 0 1 1 (by decide) (by decide) f8 _ _ _ ?_
      refine Dh.piece arg8.view arg20.view S _ hV3 0 0 0 (by decide) (by decide) f8 _ _ _ ?_
      exact fun _ _ h => absurd h (Nat.not_lt_zero _)
    isplitl [H9]
    · iexists _; iexists _; isplitr; swap; · iexact H9
      ipureintro; exact rfl
    isplitl [H10]
    · iexists _; iexists _; isplitr; swap; · iexact H10
      ipureintro; exact rfl
    isplitl [H11]
    · iexists _; iexists _; isplitr; swap; · iexact H11
      ipureintro; exact rfl
    isplitl [H12]
    · iexists _; iexists _; isplitr; swap; · iexact H12
      ipureintro; exact rfl
    isplitl [H13]
    · iexists _; iexists _; isplitr; swap; · iexact H13
      ipureintro; exact rfl
    isplitl [H14]
    · iexists _; iexists _; isplitr; swap; · iexact H14
      ipureintro; exact rfl
    isplitl [H15]
    · iexists _; iexists _; isplitr; swap; · iexact H15
      ipureintro; exact rfl
    isplitl [H16]
    · iexists _; iexists _; isplitr; swap; · iexact H16
      ipureintro; exact rfl
    isplitl [H17]
    · iexists _; iexists _; isplitr; swap; · iexact H17
      ipureintro; exact rfl
    isplitl [H18]
    · iexists _; iexists _; isplitr; swap; · iexact H18
      ipureintro; exact rfl
    isplitl [H19]
    · iexists _; iexists _; isplitr; swap; · iexact H19
      ipureintro; exact rfl
    isplitl [H20]
    · iexists _; isplitr; swap
      · iexists _; isplitr; swap; · iexact H20
        ipureintro; exact rfl
      ipureintro; exact hUs _ _ _
    isplitl [H21]
    · iexists _; iexists _; isplitr; swap; · iexact H21
      ipureintro; exact rfl
    isplitl [H22]
    · iexists _; iexists _; isplitr; swap; · iexact H22
      ipureintro; exact rfl
    isplitl [H23]
    · iexists _; iexists _; isplitr; swap; · iexact H23
      ipureintro; exact rfl
    isplitl [H24]
    · iexists _; iexists _; isplitr; swap; · iexact H24
      ipureintro; exact rfl
    iexists _; iexists _; isplitr; swap; · iexact H25
    ipureintro; exact rfl
  · sl_exec_parts (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexists _; isplitr; swap; · iexact H6
      ipureintro; exact rfl
    isplitl [H7]
    · iexists _; iexists _; isplitr; swap; · iexact H7
      ipureintro; exact rfl
    isplitl [H8]
    · iexists _; isplitr; swap
      · iexists _; isplitr; swap; · iexact H8
        ipureintro; exact rfl
      ipureintro; intro h5; exact absurd ((cond1_iff i).2 h5) hc
    isplitl [H9]
    · iexists _; iexists _; isplitr; swap; · iexact H9
      ipureintro; exact rfl
    isplitl [H10]
    · iexists _; iexists _; isplitr; swap; · iexact H10
      ipureintro; exact rfl
    isplitl [H11]
    · iexists _; iexists _; isplitr; swap; · iexact H11
      ipureintro; exact rfl
    isplitl [H12]
    · iexists _; iexists _; isplitr; swap; · iexact H12
      ipureintro; exact rfl
    isplitl [H13]
    · iexists _; iexists _; isplitr; swap; · iexact H13
      ipureintro; exact rfl
    isplitl [H14]
    · iexists _; iexists _; isplitr; swap; · iexact H14
      ipureintro; exact rfl
    isplitl [H15]
    · iexists _; iexists _; isplitr; swap; · iexact H15
      ipureintro; exact rfl
    isplitl [H16]
    · iexists _; iexists _; isplitr; swap; · iexact H16
      ipureintro; exact rfl
    isplitl [H17]
    · iexists _; iexists _; isplitr; swap; · iexact H17
      ipureintro; exact rfl
    isplitl [H18]
    · iexists _; iexists _; isplitr; swap; · iexact H18
      ipureintro; exact rfl
    isplitl [H19]
    · iexists _; iexists _; isplitr; swap; · iexact H19
      ipureintro; exact rfl
    isplitl [H20]
    · iexists _; isplitr; swap
      · iexists _; isplitr; swap; · iexact H20
        ipureintro; exact rfl
      ipureintro; exact hUs _ _ _
    isplitl [H21]
    · iexists _; iexists _; isplitr; swap; · iexact H21
      ipureintro; exact rfl
    isplitl [H22]
    · iexists _; iexists _; isplitr; swap; · iexact H22
      ipureintro; exact rfl
    isplitl [H23]
    · iexists _; iexists _; isplitr; swap; · iexact H23
      ipureintro; exact rfl
    isplitl [H24]
    · iexists _; iexists _; isplitr; swap; · iexact H24
      ipureintro; exact rfl
    iexists _; iexists _; isplitr; swap; · iexact H25
    ipureintro; exact rfl

end Cert.KernelScanIdeal.Hand

end
-- ==== Proof.ScanRun.lean ====
/- The launch of the scan with the value of the state's gradient: the carry buffer is followed from point to point, and
   the last point writes its rows out. -/
module

public import proofs.«01_k».proof.Proof.ScanVal
public import proofs.«01_k».proof.Proof.Gen.KernelScanIdeal.Points

@[expose] public section

set_option maxRecDepth 16384
set_option maxHeartbeats 4000000

noncomputable section

namespace Cert.KernelScanIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)
open Cert.KernelScanIdeal.Gen

local notation "𝕄" => MT nD τ sig Unit (Elt Ideal) ℕ (UR sig nD τ) ℕ

variable (m : (ℓ : Loc nD τ sig) → Buf (Elt Ideal) ℓ) (ρ : Dev nD → PrngReg)

/-- The scratch buffers as memrefs owned at some contents, beside the generator register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d) ∗ (∃ d, owns (c : Thread nD τ) (Memref.whole cc0_scratch14) fullShare d) ∗ (∃ d, owns (c : Thread nD τ) (Memref.whole cc0_scratch15) fullShare d) ∗ (∃ d, owns (c : Thread nD τ) (Memref.whole cc0_scratch16) fullShare d)) ∗ (∃ r, prngReg c r)) := by
  unfold Pipeline.ΦA; rw [scopedRest0_eq]; simp only [owns_whole]; try rfl

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

theorem N_eq : cfg0.N = 6 := rfl

theorem coords_val : ∀ t : Fin cfg0.N, (grid0.coords t 0).val = t.val := by decide

/-- What the carry buffer's row `r` holds once its grid point is done. -/
def SV (c : Dev nD) (r l : ℕ) : EReal :=
  if h : r / 24 < cfg0.N then usVal (iblk m c 0 ⟨r / 24, h⟩) (iblk m c 1 ⟨r / 24, h⟩) (iblk m c 2 ⟨r / 24, h⟩) (iblk m c 3 ⟨r / 24, h⟩) (r / 24) (r % 24) l else 0

theorem SV_at (c : Dev nD) (t : Fin cfg0.N) (r : ℕ) (hr : r < 24) (l : ℕ) :
    SV m c (24 * t.val + r) l = usVal (iblk m c 0 t) (iblk m c 1 t) (iblk m c 2 t) (iblk m c 3 t) t.val r l := by
  have h1 : (24 * t.val + r) / 24 = t.val := by omega
  have h2 : (24 * t.val + r) % 24 = r := by omega
  have key : ∀ (q : ℕ) (hq : q < cfg0.N) (p : ℕ), q = t.val → p = r →
      usVal (iblk m c 0 ⟨q, hq⟩) (iblk m c 1 ⟨q, hq⟩) (iblk m c 2 ⟨q, hq⟩) (iblk m c 3 ⟨q, hq⟩) q p l
        = usVal (iblk m c 0 t) (iblk m c 1 t) (iblk m c 2 t) (iblk m c 3 t) t.val r l := by
    rintro q hq p rfl rfl; rfl
  unfold SV
  rw [dif_pos (by rw [h1]; exact t.isLt)]
  exact key _ _ _ h1 h2

/-- The scratch between points: the carry buffer's first `N` rows are done, the rest is anything. -/
def PhiS (S : ℕ → ℕ → EReal) (N : ℕ) (c : Dev nD) : sProp 𝕄 :=
  iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, ⌜UsD S N d⌝ ∗ owns (c : Thread nD τ) (Memref.whole cc0_scratch11) fullShare d) ∗ (∃ d, owns (c : Thread nD τ) (Memref.whole cc0_scratch12) fullShare d) ∗ (∃ d, owns (c : Thread nD τ) (Memref.whole cc0_scratch13) fullShare d) ∗ (∃ d, owns (c : Thread nD τ) (Memref.whole cc0_scratch14) fullShare d) ∗ (∃ d, owns (c : Thread nD τ) (Memref.whole cc0_scratch15) fullShare d) ∗ (∃ d, owns (c : Thread nD τ) (Memref.whole cc0_scratch16) fullShare d)) ∗ (∃ r, prngReg c r))

/-- The proof data: an input's buffer is left as found; the last point leaves the state's gradient. -/
def rdatV (c : Dev nD) : RDat τ (Elt Ideal) Unit ℕ (UR sig nD τ) ℕ cfg0 c where
  A w := V m c (Pipeline.arrRef spec0 w)
  after w t Y X := (w.val < 5 → X = Y) ∧ ∀ h : w = 7, t.val = 5 → DhD (SV m c) 108 (cast (by subst h; rfl) X)
  Φ t := PhiS (SV m c) (24 * t.val) c
  q _ := fullShare
  owed _ := 0

theorem finds0 (c : Dev nD) (t : Fin cfg0.N) (Y) (h : (rdatV m c).Finds 0 t Y) : Y = iblk m c 0 t := by
  rw [RDat.finds_of_fetch _ (fetch0_0 t)] at h
  obtain ⟨d, rfl⟩ := h
  rfl

theorem finds1 (c : Dev nD) (t : Fin cfg0.N) (Y) (h : (rdatV m c).Finds 1 t Y) : Y = iblk m c 1 t := by
  rw [RDat.finds_of_fetch _ (fetch0_1 t)] at h
  obtain ⟨d, rfl⟩ := h
  rfl

theorem finds2 (c : Dev nD) : ∀ (n : ℕ) (t : Fin cfg0.N) (Y) (hn : t.val = n) (h : (rdatV m c).Finds 2 t Y), Y = iblk m c 2 t := by
  intro n
  induction n with
  | zero =>
    intro t Y hn h
    rw [RDat.finds_of_fetch _ ((fetch0_2 t).2 (by omega))] at h
    obtain ⟨d, rfl⟩ := h
    rfl
  | succ n ih =>
    intro t Y hn h
    have hlt : t.val < 6 := t.isLt
    have hf : (cfg0.win 2).fetch t = false := by
      rw [Bool.eq_false_iff]; intro hf
      have := (fetch0_2 t).1 hf
      omega
    rw [RDat.finds_of_pos _ hf (by omega)] at h
    rcases h with h | ⟨X, hX, hY⟩
    · exact absurd h ((by decide : ∀ t : Fin cfg0.N, ¬ (cfg0.win 2).flush t = true) _)
    · rw [hY.1 (by decide), ih _ _ (by show t.val - 1 = n; omega) hX]
      rfl

theorem finds3 (c : Dev nD) : ∀ (n : ℕ) (t : Fin cfg0.N) (Y) (hn : t.val = n) (h : (rdatV m c).Finds 3 t Y), Y = iblk m c 3 t := by
  intro n
  induction n with
  | zero =>
    intro t Y hn h
    rw [RDat.finds_of_fetch _ ((fetch0_3 t).2 (by omega))] at h
    obtain ⟨d, rfl⟩ := h
    rfl
  | succ n ih =>
    intro t Y hn h
    have hlt : t.val < 6 := t.isLt
    have hf : (cfg0.win 3).fetch t = false := by
      rw [Bool.eq_false_iff]; intro hf
      have := (fetch0_3 t).1 hf
      omega
    rw [RDat.finds_of_pos _ hf (by omega)] at h
    rcases h with h | ⟨X, hX, hY⟩
    · exact absurd h ((by decide : ∀ t : Fin cfg0.N, ¬ (cfg0.win 3).flush t = true) _)
    · rw [hY.1 (by decide), ih _ _ (by show t.val - 1 = n; omega) hX]
      rfl

/-- The body obligation at every point. -/
theorem body_obligationV (c : Dev nD) : (rdatV m c).BodyObligation (defs₀ (F := Ideal)) Variants.none () Set.univ := fun t Y hY => by
  rw [bigSep_W0, bigSep_W0, defs₀_row]
  show iprop(PhiS (SV m c) (24 * t.val) c ∗ _ ∗ _) ⊢ wp _ _ _ (bodyAt0 t) fun _ => iprop(PhiS (SV m c) (24 * (t.val + 1)) c ∗ _ ∗ _)
  have e0 := finds0 m c t (Y 0) (hY 0)
  have e1 := finds1 m c t (Y 1) (hY 1)
  have e2 := finds2 m c _ t (Y 2) rfl (hY 2)
  have e3 := finds3 m c _ t (Y 3) rfl (hY 3)
  have hS : ∀ r : ℕ, r < 24 → ∀ l : Fin 128, SV m c (24 * (grid0.coords t 0).val + r) l.val = usVal (Y 0) (Y 1) (Y 2) (Y 3) (grid0.coords t 0).val r l.val := by
    intro r hr l
    rw [coords_val, e0, e1, e2, e3]
    exact SV_at m c t r hr l.val
  unfold PhiS
  iintro ⟨⟨⟨S0, S1, S2, S3, S4, S5, S6, S7, S8, S9, S10, ⟨%d11, %h11, S11⟩, S12, S13, S14, S15, S16⟩, Hg⟩, Ho, H1, H2, H3, H4, H5, H6, H7, H8⟩
  iapply (body_val c (grid0.coords t) _ _ _ _ _ _ _ _ _ _ _ _ _ _ _ _ _ _ _ _ _ _ _ _ _ _ _ _ _ _ _ _ _ _ _ _ _ _ _ _ _ _ _ _ _ _ _ _ _ _ (SV m c) (Y 0) (Y 1) (Y 2) (Y 3) (Y 4) hS Set.univ _)
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]
  · iexists _; isplitr; swap; · iexact S11
    ipureintro; rw [coords_val]; exact h11
  isplitl [S12]; · iexact S12
  isplitl [S13]; · iexact S13
  isplitl [S14]; · iexact S14
  isplitl [S15]; · iexact S15
  isplitl [S16]; · iexact S16
  iintro ⟨H1, H2, H3, H4, H5, ⟨%e6, H6⟩, ⟨%e7, H7⟩, ⟨%e8, %h8, H8⟩, S0, S1, S2, S3, S4, S5, S6, S7, S8, S9, S10, ⟨%d11b, %h11b, S11⟩, S12, S13, S14, S15, S16⟩
  isplitl [S0 S1 S2 S3 S4 S5 S6 S7 S8 S9 S10 S11 S12 S13 S14 S15 S16 Hg]
  · isplitl [S0 S1 S2 S3 S4 S5 S6 S7 S8 S9 S10 S11 S12 S13 S14 S15 S16]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]
      · iexists _; isplitr; swap; · iexact S11
        ipureintro; rw [coords_val] at h11b; exact h11b
      isplitl [S12]; · iexact S12
      isplitl [S13]; · iexact S13
      isplitl [S14]; · iexact S14
      isplitl [S15]; · iexact S15
      iexact S16
    iexact Hg
  isplitl [Ho]; · iexact Ho
  isplitl [H1]
  · iexists _; isplitr; swap; · iexact H1
    ipureintro; exact ⟨fun h => by first | rfl | exact absurd h (by decide), fun h => absurd h (by decide)⟩
  isplitl [H2]
  · iexists _; isplitr; swap; · iexact H2
    ipureintro; exact ⟨fun h => by first | rfl | exact absurd h (by decide), fun h => absurd h (by decide)⟩
  isplitl [H3]
  · iexists _; isplitr; swap; · iexact H3
    ipureintro; exact ⟨fun h => by first | rfl | exact absurd h (by decide), fun h => absurd h (by decide)⟩
  isplitl [H4]
  · iexists _; isplitr; swap; · iexact H4
    ipureintro; exact ⟨fun h => by first | rfl | exact absurd h (by decide), fun h => absurd h (by decide)⟩
  isplitl [H5]
  · iexists _; isplitr; swap; · iexact H5
    ipureintro; exact ⟨fun h => by first | rfl | exact absurd h (by decide), fun h => absurd h (by decide)⟩
  isplitl [H6]
  · iexists _; isplitr; swap; · iexact H6
    ipureintro; exact ⟨fun h => by first | rfl | exact absurd h (by decide), fun h => absurd h (by decide)⟩
  isplitl [H7]
  · iexists _; isplitr; swap; · iexact H7
    ipureintro; exact ⟨fun h => by first | rfl | exact absurd h (by decide), fun h => absurd h (by decide)⟩
  iexists _; isplitr; swap; · iexact H8
  ipureintro; exact ⟨fun h => absurd h (by decide), fun _ h5 => h8 (by rw [coords_val]; exact h5)⟩

/-- Before the first point no row is done. -/
theorem PhiS_in (c : Dev nD) : Pipeline.ΦA cfg0.spec c ⊢ (rdatV m c).Φ 0 := by
  show (Pipeline.ΦA spec0 c : sProp 𝕄) ⊢ PhiS (SV m c) 0 c
  rw [PhiA_eq]
  unfold PhiS
  iintro ⟨⟨S0, S1, S2, S3, S4, S5, S6, S7, S8, S9, S10, ⟨%d11, S11⟩, S12, S13, S14, S15, S16⟩, Hg⟩
  isplitl [S0 S1 S2 S3 S4 S5 S6 S7 S8 S9 S10 S11 S12 S13 S14 S15 S16]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]
    · iexists _; isplitr; swap; · iexact S11
      ipureintro; exact fun r hr l h => absurd h (Nat.not_lt_zero _)
    isplitl [S12]; · iexact S12
    isplitl [S13]; · iexact S13
    isplitl [S14]; · iexact S14
    isplitl [S15]; · iexact S15
    iexact S16
  iexact Hg

/-- After the last point the rows are forgotten. -/
theorem PhiS_out (c : Dev nD) : (rdatV m c).Φ (Fin.last cfg0.N) ⊢ Pipeline.ΦA cfg0.spec c := by
  show PhiS (SV m c) _ c ⊢ (Pipeline.ΦA spec0 c : sProp 𝕄)
  rw [PhiA_eq]
  unfold PhiS
  iintro ⟨⟨S0, S1, S2, S3, S4, S5, S6, S7, S8, S9, S10, ⟨%d11, -, S11⟩, S12, S13, S14, S15, S16⟩, Hg⟩
  isplitl [S0 S1 S2 S3 S4 S5 S6 S7 S8 S9 S10 S11 S12 S13 S14 S15 S16]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]
    · iexists _; iexact S11
    isplitl [S12]; · iexact S12
    isplitl [S13]; · iexact S13
    isplitl [S14]; · iexact S14
    isplitl [S15]; · iexact S15
    iexact S16
  iexact Hg

-- the implicit arguments are found by unifying the conclusion, which takes unfolding plain definitions in a metavariable's type
set_option backward.isDefEq.respectTransparency.types false in
/-- The launch. -/
theorem run_mainV : θ_run defs (onTc (τ := τ) (main (F := Ideal))) (s₀ m ρ)
    (fun r => Pipeline.RDat.FramePost (cfgs 0) (rdatV m) (V m) r ∧ r.2.sem = fun _ => 0) :=
  Pipeline.RDat.θ_run_frame_track (Q' := _) cfgs (0 : Fin 1) launch0 defs₀ Variants.none (rdatV m) m ρ main
    (hbody := body_obligationV m) (hshare := fun c w => by unfold Pipeline.RDat.share; split <;> rfl)
    (howed := fun _ _ => rfl) (V := V m) (hmain := hmain m Variants.none) (hA := fun _ _ => rfl)
    (hin := PhiS_in m) (hout := PhiS_out m) (hQ' := fun _ h => h)

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨h.1.arr_in c 0 rfl, h.1.arr_in c 2 rfl, h.1.arr_in c 1 rfl, h.1.arr_in c 3 rfl, h.1.arr_in c 4 rfl⟩, h.2⟩)
    (run_mainV m ρ)

end Cert.KernelScanIdeal.Hand

end
-- ==== Proof.ScanAlg.lean ====
/- The recurrence of the state's gradient on the extended reals: the gate is one minus the logistic function, it is at
   least 0 and not infinite, and so the sequence may be cut into chunks, each an affine map of the carry that enters it. -/
module

public import proofs.«01_k».proof.Proof.ScanPay

@[expose] public section

noncomputable section

namespace Cert.KernelScanIdeal.Hand

open Idealize.ShloMosaic Idealize.ShloMosaic.TcCoe

/-- A power of two at `q * (-1 / log 2)` is the exponential at `-q`. -/
theorem exp2_neg (q : EReal) : Ideal.exp2 (q * ((-((Real.log 2)⁻¹) : ℝ) : EReal)) = Ideal.exp (-q) := by
  have hl : (0 : ℝ) < Real.log 2 := Real.log_pos (by norm_num)
  have hn : -((Real.log 2)⁻¹) < (0 : ℝ) := by have := inv_pos.2 hl; linarith
  induction q with
  | bot => rw [EReal.bot_mul_coe_of_neg hn, EReal.neg_bot]; rfl
  | top => rw [EReal.top_mul_coe_of_neg hn, EReal.neg_top]; rfl
  | coe r =>
    rw [← EReal.coe_mul, ← EReal.coe_neg]
    show ((Real.rpow 2 (r * -((Real.log 2)⁻¹)) : ℝ) : EReal) = ((Real.exp (-r) : ℝ) : EReal)
    congr 1
    show (2 : ℝ) ^ (r * -((Real.log 2)⁻¹)) = _
    rw [Real.rpow_def_of_pos (by norm_num)]
    congr 1
    field_simp

/-- The gate from a code and a rescaled scale is one minus the logistic function of the dequantised preactivation. -/
theorem gA_eq (p s : EReal) : gA (p * (s * negLog2e)) = 1 - Ideal.logistic (p * s) := by
  have e : (negLog2e : EReal) = ((-((Real.log 2)⁻¹) : ℝ) : EReal) := rfl
  unfold gA gZ Ideal.logistic
  rw [e, ← mul_assoc]
  show 1 - Ideal.div 1 (1 + Ideal.exp2 (p * s * _)) = _
  rw [exp2_neg]

/-- The gate is at least 0 and not infinite. -/
theorem gate_mem (x : EReal) : 0 ≤ 1 - Ideal.logistic x ∧ 1 - Ideal.logistic x ≠ ⊤ := by
  induction x with
  | bot => rw [Ideal.logistic_bot, sub_zero]; exact ⟨zero_le_one, EReal.coe_ne_top 1⟩
  | top => rw [Ideal.logistic_top]; refine ⟨?_, ?_⟩ <;> (rw [← EReal.coe_one, ← EReal.coe_sub]; simp)
  | coe r =>
    rw [Ideal.logistic_coe, ← EReal.coe_one, ← EReal.coe_sub]
    refine ⟨?_, EReal.coe_ne_top _⟩
    have h1 : (1 + Real.exp (-r))⁻¹ ≤ 1 := inv_le_one_of_one_le₀ (by have := Real.exp_pos (-r); linarith)
    exact_mod_cast sub_nonneg.2 h1

theorem uRec_congr {a a' d d' : ℕ → EReal} {u : EReal} : ∀ (n : ℕ), (∀ m < n, a m = a' m) → (∀ m < n, d m = d' m) → uRec a d u n = uRec a' d' u n := by
  intro n
  induction n with
  | zero => intro _ _; rfl
  | succ n ih =>
    intro ha hd
    show a n * (uRec a d u n + d n) = a' n * (uRec a' d' u n + d' n)
    rw [ha n (Nat.lt_succ_self n), hd n (Nat.lt_succ_self n), ih (fun m h => ha m (Nat.lt_succ_of_lt h)) (fun m h => hd m (Nat.lt_succ_of_lt h))]

/-- The recurrence over `n + k` steps is the recurrence over `k` from where `n` steps end. -/
theorem uRec_add (a d : ℕ → EReal) (u : EReal) (n k : ℕ) :
    uRec a d u (n + k) = uRec (fun m => a (n + m)) (fun m => d (n + m)) (uRec a d u n) k := by
  induction k with
  | zero => rfl
  | succ k ih =>
    show a (n + k) * (uRec a d u (n + k) + d (n + k)) = a (n + k) * (uRec (fun m => a (n + m)) (fun m => d (n + m)) (uRec a d u n) k + d (n + k))
    rw [ih]

/-- The recurrence is affine in the carry that enters it, as every gate is a nonnegative real. -/
theorem uRec_affine (a d : ℕ → EReal) (u : EReal) (ha : ∀ m, 0 ≤ a m ∧ a m ≠ ⊤) (n : ℕ) :
    uRec a d u n = aProd a n * u + uRec a d 0 n := by
  induction n with
  | zero => show u = 1 * u + 0; rw [one_mul, add_zero]
  | succ n ih =>
    show a n * (uRec a d u n + d n) = a n * aProd a n * u + a n * (uRec a d 0 n + d n)
    rw [ih, add_assoc, EReal.left_distrib_of_nonneg_of_ne_top (ha n).1 (ha n).2, mul_assoc]

theorem aProd_eq (a : ℕ → EReal) (n : ℕ) : aProd a n = ∏ m ∈ Finset.range n, a m := by
  induction n with
  | zero => rfl
  | succ n ih => rw [Finset.prod_range_succ, mul_comm, ← ih]; rfl

/-- The product of a chunk's gates does not depend on their order. -/
theorem aProd_reflect (f : ℕ → EReal) : aProd f 64 = aProd (fun m => f (63 - m)) 64 := by
  rw [aProd_eq, aProd_eq]
  exact (Finset.prod_range_reflect f 64).symm

/-- Four chunks of 64 steps, each entered by what the one before left, are the 256 steps. -/
theorem uRec_chunks (a d : ℕ → EReal) (ha : ∀ t, 0 ≤ a t ∧ a t ≠ ⊤) :
    uRec (fun m => a (255 - m)) (fun m => d (255 - m)) 0 256
      = uRec (fun m => a (63 - m)) (fun m => d (63 - m))
          (aProd (fun m => a (64 + m)) 64 * (aProd (fun m => a (128 + m)) 64 * (aProd (fun m => a (192 + m)) 64 * 0 + uRec (fun m => a (192 + (63 - m))) (fun m => d (192 + (63 - m))) 0 64)
            + uRec (fun m => a (128 + (63 - m))) (fun m => d (128 + (63 - m))) 0 64)
            + uRec (fun m => a (64 + (63 - m))) (fun m => d (64 + (63 - m))) 0 64) 64 := by
  have key : ∀ (o n : ℕ) (f : ℕ → EReal), o + 64 + n = 256 → ∀ m < 64, f (255 - (n + m)) = f (o + (63 - m)) := by
    intro o n f h m hm
    congr 1; omega
  have step : ∀ (o n : ℕ), o + 64 + n = 256 → ∀ u, uRec (fun m => a (255 - (n + m))) (fun m => d (255 - (n + m))) u 64
      = aProd (fun m => a (o + m)) 64 * u + uRec (fun m => a (o + (63 - m))) (fun m => d (o + (63 - m))) 0 64 := by
    intro o n h u
    rw [uRec_congr (a' := fun m => a (o + (63 - m))) (d' := fun m => d (o + (63 - m))) 64 (key o n a h) (key o n d h), uRec_affine _ _ _ (fun m => ha _),
      aProd_reflect (fun m => a (o + m))]
  rw [show (256 : ℕ) = 64 + 64 + 64 + 64 from rfl, uRec_add _ _ _ (64 + 64 + 64) 64, uRec_add _ _ _ (64 + 64) 64, uRec_add _ _ _ 64 64]
  rw [show (uRec (fun m => a (255 - m)) (fun m => d (255 - m)) 0 64) = uRec (fun m => a (255 - (0 + m))) (fun m => d (255 - (0 + m))) 0 64 by simp only [Nat.zero_add]]
  rw [step 192 0 rfl, step 128 64 rfl, step 64 (64 + 64) rfl]
  exact uRec_congr 64 (fun m hm => by show a _ = a _; congr 1; omega) (fun m hm => by show d _ = d _; congr 1; omega)

end Cert.KernelScanIdeal.Hand

end
-- ==== Proof.ScanDh0.lean ====
/- What the scan's launch leaves in the state's gradient: at each batch and hidden index the recurrence
   `u ← (1 - logistic p) * (u + dy)`, run over the 256 times backwards from zero. -/
module

public import proofs.«01_k».proof.Proof.ScanRun
public import proofs.«01_k».proof.Proof.ScanAlg
public import Idealize.ShloMosaic.Lib.Pipeline.ValueKit
public import Idealize.ShloMosaic.Lib.Pipeline.ArrRel
public import Idealize.ShloMosaic.Lib.Tactic

@[expose] public section

set_option maxRecDepth 16384
set_option maxHeartbeats 4000000

noncomputable section

namespace Cert.KernelScanIdeal.Hand

open Idealize.ShloMosaic Idealize.ShloMosaic.TcCoe Idealize.SL.Sem
open Idealize.ShloMosaic.Pipeline (Dat RDat Cfg Window)
open Cert.KernelScanIdeal Cert.KernelScanIdeal.Gen

/-- The dequantised preactivation of the gate, by time (zero past the end). -/
def pAt (pre : Vec Ideal S6x256x4608 .fp8e4m3) (ps : Vec Ideal S6x256 .f32) (b : Fin 6) (d : ℕ) (t : ℕ) : EReal :=
  if h : t < 256 ∧ d < 4608 then (pre (ix3 b ⟨t, h.1⟩ ⟨d, h.2⟩) : EReal) * ps (ix2 b ⟨t, h.1⟩) else 0

/-- The dequantised output gradient, by time (zero past the end). -/
def gAt (dy : Vec Ideal S6x256x2304 .fp8e5m2) (ds : Vec Ideal S6x256 .f32) (b : Fin 6) (d : ℕ) (t : ℕ) : EReal :=
  if h : t < 256 ∧ d < 2304 then (dy (ix3 b ⟨t, h.1⟩ ⟨d, h.2⟩) : EReal) * ds (ix2 b ⟨t, h.1⟩) else 0

/-- The state's gradient, of the arguments. -/
def DHH (dy : Vec Ideal S6x256x2304 .fp8e5m2) (ds : Vec Ideal S6x256 .f32) (pre : Vec Ideal S6x256x4608 .fp8e4m3) (ps : Vec Ideal S6x256 .f32) : Vec Ideal S6x2304 .f32 :=
  fun y => uRec (fun m => 1 - Ideal.logistic (pAt pre ps (y 0) (y 1).val (255 - m))) (fun m => gAt dy ds (y 0) (y 1).val (255 - m)) 0 256

variable (m : (ℓ : Loc nD τ sig) → Buf (Elt Ideal) ℓ) (ρ : Dev nD → PrngReg)

/-- The input windows' block indices (decided over the 6 points). -/
theorem idx : ∀ t : Fin cfg0.N, win0_0.index t = ![t.val, 0, 0] ∧ win0_1.index t = ![t.val, 0, 0] ∧ win0_2.index t = ![0, 0] ∧ win0_3.index t = ![0, 0] :=
  (by decide +kernel : ∀ t : Fin grid0.N, _)

theorem blk0 (c : Dev nD) (t : Fin cfg0.N) (t' : Fin 6) (ht : t'.val = t.val) (a : Fin 256) (k : Fin 2304) :
    (iblk m c 0 t : Vec Ideal S1x256x2304 .fp8e5m2) (ix3 0 a k) = (m ((c : Thread nD τ).loc main_arg0) : Vec Ideal S6x256x2304 .fp8e5m2) (ix3 t' a k) := by
  obtain ⟨e0, e1, e2, e3⟩ := idx t
  blk_ext! [iblk, V, e0]

theorem blk1 (c : Dev nD) (t : Fin cfg0.N) (t' : Fin 6) (ht : t'.val = t.val) (a : Fin 256) (k : Fin 4608) :
    (iblk m c 1 t : Vec Ideal S1x256x4608 .fp8e4m3) (ix3 0 a k) = (m ((c : Thread nD τ).loc main_arg2) : Vec Ideal S6x256x4608 .fp8e4m3) (ix3 t' a k) := by
  obtain ⟨e0, e1, e2, e3⟩ := idx t
  blk_ext! [iblk, V, e1]

theorem blk2 (c : Dev nD) (t : Fin cfg0.N) : (iblk m c 2 t : Vec Ideal S6x256 .f32) = (m ((c : Thread nD τ).loc main_arg1) : Vec Ideal S6x256 .f32) := by
  obtain ⟨e0, e1, e2, e3⟩ := idx t
  blk_ext! [iblk, V, e2]

theorem blk3 (c : Dev nD) (t : Fin cfg0.N) : (iblk m c 3 t : Vec Ideal S6x256 .f32) = (m ((c : Thread nD τ).loc main_arg3) : Vec Ideal S6x256 .f32) := by
  obtain ⟨e0, e1, e2, e3⟩ := idx t
  blk_ext! [iblk, V, e3]

theorem pz_at (c : Dev nD) (b : Fin cfg0.N) (d t : ℕ) :
    gA (pzOf (iblk m c 1 b) t d * zB (iblk m c 3 b) b.val t)
      = 1 - Ideal.logistic (pAt (m ((c : Thread nD τ).loc main_arg2)) (m ((c : Thread nD τ).loc main_arg3)) b d t) := by
  unfold zB
  rw [gA_eq]
  congr 2
  unfold pzOf scOf pAt
  by_cases h : t < 256 ∧ d < 4608
  · rw [dif_pos h, dif_pos h, dif_pos ⟨b.isLt, h.1⟩, blk1 m c b b rfl, blk3]
    rfl
  · rw [dif_neg h, dif_neg h, zero_mul]

theorem dy_at (c : Dev nD) (b : Fin cfg0.N) (d t : ℕ) :
    dyOf (iblk m c 0 b) t d * scOf (iblk m c 2 b) b.val t
      = gAt (m ((c : Thread nD τ).loc main_arg0)) (m ((c : Thread nD τ).loc main_arg1)) b d t := by
  unfold dyOf scOf gAt
  by_cases h : t < 256 ∧ d < 2304
  · rw [dif_pos h, dif_pos h, dif_pos ⟨b.isLt, h.1⟩, blk0 m c b b rfl, blk2]
    rfl
  · rw [dif_neg h, dif_neg h, zero_mul]

/-- A row of the last eight is carried in four chunks; the first of them ends where the whole recurrence ends. -/
theorem us_eq (c : Dev nD) (b : Fin cfg0.N) (q l : ℕ) (hl : l < 128) (hq : q < 18) :
    usVal (iblk m c 0 b) (iblk m c 1 b) (iblk m c 2 b) (iblk m c 3 b) b.val (if q < 16 then q else 16 + (q - 16) * 4) l
      = uRec (fun m' => 1 - Ideal.logistic (pAt (m ((c : Thread nD τ).loc main_arg2)) (m ((c : Thread nD τ).loc main_arg3)) b (128 * q + l) (255 - m')))
          (fun m' => gAt (m ((c : Thread nD τ).loc main_arg0)) (m ((c : Thread nD τ).loc main_arg1)) b (128 * q + l) (255 - m')) 0 256 := by
  by_cases h : q < 16
  · rw [if_pos h]
    unfold usVal
    rw [if_pos h]
    refine uRec_congr 256 (fun k hk => ?_) (fun k hk => ?_)
    · show gA (pzOf _ _ _ * zB _ _ _) = _
      rw [show (2080 * (q / 8) + (255 - k) + 260 * (q % 8)) % 260 = 255 - k by omega, show (2080 * (q / 8) + (255 - k) + 260 * (q % 8)) / 260 = q by omega]
      exact pz_at m c b _ _
    · show dyOf _ _ _ * scOf _ _ _ = _
      rw [show (2080 * (q / 8) + (255 - k) + 260 * (q % 8)) % 260 = 255 - k by omega, show (2080 * (q / 8) + (255 - k) + 260 * (q % 8)) / 260 = q by omega]
      exact dy_at m c b _ _
  · rw [if_neg h]
    have hA : ∀ (s k : ℕ), s < 4 → k < 64 → AL (iblk m c 1 b) (iblk m c 3 b) b.val (k + 68 * ((q - 16) * 4 + s)) l
        = 1 - Ideal.logistic (pAt (m ((c : Thread nD τ).loc main_arg2)) (m ((c : Thread nD τ).loc main_arg3)) b (128 * q + l) (64 * s + k)) := by
      intro s k hs hk
      show gA (pzOf _ (timeL _) (hidL _ + l) * zB _ _ (timeL _)) = _
      rw [show timeL (k + 68 * ((q - 16) * 4 + s)) = 64 * s + k by unfold timeL; omega, show hidL (k + 68 * ((q - 16) * 4 + s)) = 128 * q by unfold hidL; omega]
      exact pz_at m c b _ _
    have hD : ∀ (s k : ℕ), s < 4 → k < 64 → DL (iblk m c 0 b) (iblk m c 2 b) b.val (k + 68 * ((q - 16) * 4 + s)) l
        = gAt (m ((c : Thread nD τ).loc main_arg0)) (m ((c : Thread nD τ).loc main_arg1)) b (128 * q + l) (64 * s + k) := by
      intro s k hs hk
      show dyOf _ (timeL _) (hidL _ + l) * scOf _ _ (timeL _) = _
      rw [show timeL (k + 68 * ((q - 16) * 4 + s)) = 64 * s + k by unfold timeL; omega, show hidL (k + 68 * ((q - 16) * 4 + s)) = 128 * q by unfold hidL; omega]
      exact dy_at m c b _ _
    generalize ha : (fun t => 1 - Ideal.logistic (pAt (m ((c : Thread nD τ).loc main_arg2)) (m ((c : Thread nD τ).loc main_arg3)) b (128 * q + l) t)) = a at *
    generalize hd : (fun t => gAt (m ((c : Thread nD τ).loc main_arg0)) (m ((c : Thread nD τ).loc main_arg1)) b (128 * q + l) t) = d at *
    have ha' : ∀ t, 1 - Ideal.logistic (pAt (m ((c : Thread nD τ).loc main_arg2)) (m ((c : Thread nD τ).loc main_arg3)) b (128 * q + l) t) = a t := fun t => congrFun ha t
    have hd' : ∀ t, gAt (m ((c : Thread nD τ).loc main_arg0)) (m ((c : Thread nD τ).loc main_arg1)) b (128 * q + l) t = d t := fun t => congrFun hd t
    simp only [ha', hd'] at hA hD ⊢
    have hP : ∀ s : ℕ, s < 4 → chP (iblk m c 1 b) (iblk m c 3 b) b.val l ((q - 16) * 4 + s) = aProd (fun k => a (64 * s + k)) 64 := by
      intro s hs
      unfold chP
      rw [aProd_eq, aProd_eq]
      exact Finset.prod_congr rfl fun k hk => hA s k hs (Finset.mem_range.1 hk)
    have hR : ∀ (s : ℕ) (u : EReal), s < 4 → uRec (fun k => AL (iblk m c 1 b) (iblk m c 3 b) b.val (63 - k + 68 * ((q - 16) * 4 + s)) l) (fun k => DL (iblk m c 0 b) (iblk m c 2 b) b.val (63 - k + 68 * ((q - 16) * 4 + s)) l) u 64
        = uRec (fun k => a (64 * s + (63 - k))) (fun k => d (64 * s + (63 - k))) u 64 := by
      intro s u hs
      exact uRec_congr 64 (fun k hk => hA s (63 - k) hs (by omega)) (fun k hk => hD s (63 - k) hs (by omega))
    have hU : ∀ s : ℕ, s < 4 → chU (iblk m c 0 b) (iblk m c 1 b) (iblk m c 2 b) (iblk m c 3 b) b.val l ((q - 16) * 4 + s) = uRec (fun k => a (64 * s + (63 - k))) (fun k => d (64 * s + (63 - k))) 0 64 :=
      fun s hs => hR s 0 hs
    have g : ∀ t, 0 ≤ a t ∧ a t ≠ ⊤ := by intro t; rw [← ha']; exact gate_mem _
    unfold usVal
    rw [if_neg (by omega), show 16 + (q - 16) * 4 - 16 = (q - 16) * 4 + 0 by omega, hR 0 _ (by norm_num), uRec_chunks a d g]
    unfold chIn
    rw [chunkIn, if_neg (by omega), chunkIn, if_neg (by omega), chunkIn, if_neg (by omega), chunkIn]
    simp only [Nat.add_assoc, Nat.reduceAdd]
    rw [hP 1 (by norm_num), hP 2 (by norm_num), hP 3 (by norm_num), hU 1 (by norm_num), hU 2 (by norm_num), hU 3 (by norm_num)]
    simp only [Nat.mul_zero, Nat.zero_add, Nat.reduceMul]

/-- The state's gradient, of the launch's arguments. -/
abbrev DH (c : Dev nD) : Vec Ideal S6x2304 .f32 :=
  DHH (m ((c : Thread nD τ).loc main_arg0)) (m ((c : Thread nD τ).loc main_arg1)) (m ((c : Thread nD τ).loc main_arg2)) (m ((c : Thread nD τ).loc main_arg3))

/-- The rows the last point writes out are the state's gradient. -/
theorem dh_eq (c : Dev nD) (X : Vec Ideal S6x2304 .f32) (h : DhD (SV m c) 108 X) : X = DH m c := by
  funext y
  obtain ⟨i, j, rfl⟩ : ∃ (i : Fin 6) (j : Fin 2304), y = ix2 i j := ⟨y 0, y 1, by funext k; fin_cases k <;> rfl⟩
  have hi := i.isLt
  have hj := j.isLt
  refine (h i j (by omega)).trans ?_
  have e : usRow i.val (j.val / 128) = 24 * i.val + (if j.val / 128 < 16 then j.val / 128 else 16 + (j.val / 128 - 16) * 4) := by unfold usRow; rw [Nat.mul_comm]
  rw [e, SV_at m c i _ (by split <;> omega), us_eq m c i _ _ (by omega) (by omega), show 128 * (j.val / 128) + j.val % 128 = j.val by omega]
  rfl

theorem whole7 : win0_7.WholeAt (⟨5, by decide⟩ : Fin grid0.N) := by decide +kernel

/-- The array after the run is the state's gradient. -/
theorem final (c : Dev nD) (G : Vec Ideal S6x2304 .f32) (h : (rdatV m c).ArrAt 7 cfg0.N G) : G = DH m c := by
  obtain ⟨X, ⟨Y, hY, hX⟩, hG⟩ := RDat.ArrAt.emb_eq_of_wholeAt (rd := rdatV m c) h whole7
  have hD : DhD (SV m c) 108 X := hX.2 rfl rfl
  refine Eq.trans ?_ (dh_eq m c X hD)
  funext j
  exact hG j

/-- The launch: the state's gradient at its value, the arguments unchanged. -/
theorem run_dh0 : θ_run defs (onTc (τ := τ) (main (F := Ideal))) ⟨m, fun _ => 0, ρ⟩ (fun r => ∀ c : Dev nD,
      r.2.mem ((c.tc : Thread nD τ).loc main_v0_2) = DH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨final m c _ ((h.1 c).1 7), h.1.arr_in c 0 rfl, h.1.arr_in c 2 rfl, h.1.arr_in c 1 rfl, h.1.arr_in c 3 rfl, h.1.arr_in c 4 rfl⟩)
    (run_mainV m ρ)

end Cert.KernelScanIdeal.Hand

end
-- ==== Proof.Dh0Ref.lean ====
/- The reference of the state's gradient, read off its loop: the same recurrence, and so the same function of the arguments
   as the scan's launch. -/
module

public import proofs.«01_k».proof.Defs
public import proofs.«01_k».proof.Proof.ScanDh0
public import proofs.«01_k».proof.Proof.Gen.RefDh0Ideal.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

namespace Cert.RefDh0Ideal.Val

open Cert.RefDh0Ideal Cert.RefDh0Ideal.Gen Idealize.ShloMosaic Idealize.ShloMosaic.TcCoe Idealize.SL.Sem
open Cert.KernelScanIdeal.Hand (pAt gAt DHH uRec)

/-- Trip `k` reads the arguments at time `255 - k` (decided over the trips). -/
theorem off1 : ∀ k : Fin k0_t1_loop.trips, k0_off1 k = ![0, 255 - k.val, 0] := by decide +kernel
theorem off2 : ∀ k : Fin k0_t1_loop.trips, k0_off2 k = ![0, 255 - k.val] := by decide +kernel
theorem off3 : ∀ k : Fin k0_t1_loop.trips, k0_off3 k = ![0, 255 - k.val, 0] := by decide +kernel
theorem trips_eq : k0_t1_loop.trips = 256 := by decide +kernel

/-- What one trip yields, of the values it has read. -/
theorem pay2_at (acc : FVec Ideal S6x2304 .f32) (v6 : Vec Ideal S6x1x2304 .fp8e4m3) (v10 : Vec Ideal S6x1 .f32) (v14 : Vec Ideal S6x1x2304 .fp8e5m2) (v18 : Vec Ideal S6x1 .f32)
    (b : Fin 6) (d : Fin 2304) :
    (k0_pay2 (F := Ideal) acc v6 v10 v14 v18 (ix2 b d) : EReal)
      = (1 - Ideal.logistic ((v6 (ix3 b 0 d) : EReal) * v10 (ix2 b 0))) * (acc (ix2 b d) + (v14 (ix3 b 0 d) : EReal) * v18 (ix2 b 0)) := by
  pointwise [k0_pay2]

/-- One trip is one step of the recurrence. -/
theorem trip_at (c : Dev nD) (arg0 : Memref sig .tc .vmem S6x256x2304 .fp8e5m2) (harg0 : arg0.IsWhole) (arg1 : Memref sig .tc .vmem S6x256 .f32) (harg1 : arg1.IsWhole)
    (arg2 : Memref sig .tc .vmem S6x256x4608 .fp8e4m3) (harg2 : arg2.IsWhole) (arg3 : Memref sig .tc .vmem S6x256 .f32) (harg3 : arg3.IsWhole)
    (arg4 : Memref sig .tc .vmem S6x2304 .f32) (harg4 : arg4.IsWhole)
    (x0 : Vec Ideal S6x256x2304 .fp8e5m2) (x1 : Vec Ideal S6x256 .f32) (x2 : Vec Ideal S6x256x4608 .fp8e4m3) (x3 : Vec Ideal S6x256 .f32)
    (k : Fin k0_t1_loop.trips) (acc : FVec Ideal S6x2304 .f32) (b : Fin 6) (d : Fin 2304) :
    (tripR_k0_t1 (F := Ideal) Variants.none c none arg0 harg0 arg1 harg1 arg2 harg2 arg3 harg3 arg4 harg4 (harg0.unread x0) (harg1.unread x1) (harg2.unread x2) (harg3.unread x3) k acc (ix2 b d) : EReal)
      = (1 - Ideal.logistic (pAt x2 x3 b d.val (255 - k.val))) * (acc (ix2 b d) + gAt x0 x1 b d.val (255 - k.val)) := by
  have hd := d.isLt
  have ht : 255 - k.val < 256 := by omega
  unfold tripR_k0_t1 trip_k0_t1
  dsimp only
  refine (pay2_at _ _ _ _ _ b d).trans ?_
  unfold pAt gAt
  rw [dif_pos ⟨ht, by omega⟩, dif_pos ⟨ht, hd⟩]
  simp only [View.readAt_eq_ld, harg0.read_unread, harg1.read_unread, harg2.read_unread, harg3.read_unread]
  rw [View.ld_unit_apply_of x2 _ _ _ _ (ix3 b ⟨255 - k.val, ht⟩ ⟨d.val, by omega⟩) (by intro a; refine Eq.trans ?_ (congrArg (· + _) (congrFun (off1 k) a).symm); fin_cases a <;> simp),
    View.ld_unit_apply_of x3 _ _ _ _ (ix2 b ⟨255 - k.val, ht⟩) (by intro a; refine Eq.trans ?_ (congrArg (· + _) (congrFun (off2 k) a).symm); fin_cases a <;> simp),
    View.ld_unit_apply_of x0 _ _ _ _ (ix3 b ⟨255 - k.val, ht⟩ ⟨d.val, hd⟩) (by intro a; refine Eq.trans ?_ (congrArg (· + _) (congrFun (off3 k) a).symm); fin_cases a <;> simp),
    View.ld_unit_apply_of x1 _ _ _ _ (ix2 b ⟨255 - k.val, ht⟩) (by intro a; refine Eq.trans ?_ (congrArg (· + _) (congrFun (off2 k) a).symm); fin_cases a <;> simp)]

/-- So the loop's carry before trip `n` is the recurrence after `n` steps. -/
theorem st_at (c : Dev nD) (arg0 : Memref sig .tc .vmem S6x256x2304 .fp8e5m2) (harg0 : arg0.IsWhole) (arg1 : Memref sig .tc .vmem S6x256 .f32) (harg1 : arg1.IsWhole)
    (arg2 : Memref sig .tc .vmem S6x256x4608 .fp8e4m3) (harg2 : arg2.IsWhole) (arg3 : Memref sig .tc .vmem S6x256 .f32) (harg3 : arg3.IsWhole)
    (arg4 : Memref sig .tc .vmem S6x2304 .f32) (harg4 : arg4.IsWhole)
    (x0 : Vec Ideal S6x256x2304 .fp8e5m2) (x1 : Vec Ideal S6x256 .f32) (x2 : Vec Ideal S6x256x4608 .fp8e4m3) (x3 : Vec Ideal S6x256 .f32)
    (b : Fin 6) (d : Fin 2304) : ∀ n : ℕ, n ≤ 256 →
    (st_k0_t1 (F := Ideal) Variants.none c none arg0 harg0 arg1 harg1 arg2 harg2 arg3 harg3 arg4 harg4 (harg0.unread x0) (harg1.unread x1) (harg2.unread x2) (harg3.unread x3) (k0_pay1 (F := Ideal)) n (ix2 b d) : EReal)
      = uRec (fun m => 1 - Ideal.logistic (pAt x2 x3 b d.val (255 - m))) (fun m => gAt x0 x1 b d.val (255 - m)) 0 n := by
  intro n
  induction n with
  | zero =>
    intro _
    rw [st_k0_t1_zero]
    show _ = (0 : EReal)
    pointwise [k0_pay1]
  | succ n ih =>
    intro hn
    have hk : n < k0_t1_loop.trips := by rw [trips_eq]; omega
    have hs := st_k0_t1_succ (F := Ideal) Variants.none c none arg0 harg0 arg1 harg1 arg2 harg2 arg3 harg3 arg4 harg4 (harg0.unread x0) (harg1.unread x1) (harg2.unread x2) (harg3.unread x3) (k0_pay1 (F := Ideal)) ⟨n, hk⟩
    refine (congrFun hs (ix2 b d)).trans ?_
    rw [trip_at, ih (by omega)]
    rfl

/-- What the body leaves in the output's buffer. -/
theorem out_eq (c : Dev nD) (arg0 : Memref sig .tc .vmem S6x256x2304 .fp8e5m2) (harg0 : arg0.IsWhole) (arg1 : Memref sig .tc .vmem S6x256 .f32) (harg1 : arg1.IsWhole)
    (arg2 : Memref sig .tc .vmem S6x256x4608 .fp8e4m3) (harg2 : arg2.IsWhole) (arg3 : Memref sig .tc .vmem S6x256 .f32) (harg3 : arg3.IsWhole)
    (arg4 : Memref sig .tc .vmem S6x2304 .f32) (harg4 : arg4.IsWhole)
    (x0 : Vec Ideal S6x256x2304 .fp8e5m2) (x1 : Vec Ideal S6x256 .f32) (x2 : Vec Ideal S6x256x4608 .fp8e4m3) (x3 : Vec Ideal S6x256 .f32) :
    out0_A_4 (F := Ideal) c arg0 harg0 arg1 harg1 arg2 harg2 arg3 harg3 arg4 harg4 x0 x1 x2 x3 = DHH x0 x1 x2 x3 := by
  unfold out0_A_4
  rw [View.read_writes_eq_canon _ _ _ (cover0_A_4 c arg0 harg0 arg1 harg1 arg2 harg2 arg3 harg3 arg4 harg4 x0 x1 x2 x3)]
  unfold kernelRun0_A
  dsimp only
  rw [View.canon_unit_zero (by funext a; fin_cases a <;> rfl)]
  funext y
  obtain ⟨i, j, rfl⟩ : ∃ (i : Fin 6) (j : Fin 2304), y = ix2 i j := ⟨y 0, y 1, by funext k; fin_cases k <;> rfl⟩
  refine Eq.trans ?_ (st_at c arg0 harg0 arg1 harg1 arg2 harg2 arg3 harg3 arg4 harg4 x0 x1 x2 x3 i j 256 le_rfl)
  sl_unfold_words
  have e : Scf.trips (0#32) (Scalar.addi 0#32 256#32) 1#32 = 256 := trips_eq
  rw [e]

variable (m : (ℓ : Loc nD τ sig) → Buf (Elt Ideal) ℓ) (ρ : Dev nD → PrngReg)

/-- Every window is its whole array. -/
theorem idx : ∀ t : Fin cfg0.N, win0_0.index t = ![0, 0, 0] ∧ win0_1.index t = ![0, 0] ∧ win0_2.index t = ![0, 0, 0] ∧ win0_3.index t = ![0, 0] :=
  (by decide +kernel : ∀ t : Fin grid0.N, _)

theorem blk0 (c : Dev nD) (t : Fin cfg0.N) : (iblk m c 0 t : Vec Ideal S6x256x2304 .fp8e5m2) = m ((c : Thread nD τ).loc main_arg0) := by
  obtain ⟨e0, e1, e2, e3⟩ := idx t
  blk_ext! [iblk, V, e0]

theorem blk1 (c : Dev nD) (t : Fin cfg0.N) : (iblk m c 1 t : Vec Ideal S6x256 .f32) = m ((c : Thread nD τ).loc main_arg1) := by
  obtain ⟨e0, e1, e2, e3⟩ := idx t
  blk_ext! [iblk, V, e1]

theorem blk2 (c : Dev nD) (t : Fin cfg0.N) : (iblk m c 2 t : Vec Ideal S6x256x4608 .fp8e4m3) = m ((c : Thread nD τ).loc main_arg2) := by
  obtain ⟨e0, e1, e2, e3⟩ := idx t
  blk_ext! [iblk, V, e2]

theorem blk3 (c : Dev nD) (t : Fin cfg0.N) : (iblk m c 3 t : Vec Ideal S6x256 .f32) = m ((c : Thread nD τ).loc main_arg3) := by
  obtain ⟨e0, e1, e2, e3⟩ := idx t
  blk_ext! [iblk, V, e3]

theorem whole4 : win0_4.WholeAt (⟨0, by decide⟩ : Fin grid0.N) := by decide +kernel

/-- The reference's array after the run. -/
theorem final (c : Dev nD) : (dats m 0 c).arrAt 4 cfg0.N
    = DHH (m ((c : Thread nD τ).loc main_arg0)) (m ((c : Thread nD τ).loc main_arg1)) (m ((c : Thread nD τ).loc main_arg2)) (m ((c : Thread nD τ).loc main_arg3)) := by
  have ho : outsAt0 m c ⟨0, by decide⟩ = DHH (m ((c : Thread nD τ).loc main_arg0)) (m ((c : Thread nD τ).loc main_arg1)) (m ((c : Thread nD τ).loc main_arg2)) (m ((c : Thread nD τ).loc main_arg3)) := by
    unfold outsAt0
    rw [out_eq, blk0, blk1, blk2, blk3]
  funext j
  refine ((dats m 0 c).arrAt_emb_eq_after_last 4 ⟨0, by decide⟩ whole4 j).trans ?_
  rw [after0_4, ho]
  rfl

/-- At the reals, kernel and reference compute the same gradient of the state. -/
theorem algebraic : @Cert.algebraic_KernelScanIdeal_RefDh0Ideal Cert.KernelScanIdeal.Gen.facts Cert.RefDh0Ideal.Gen.facts := by
  intro m g m' g' _ hag
  refine ⟨fun c => Cert.KernelScanIdeal.Hand.DH m c, Cert.KernelScanIdeal.Hand.run_dh0 m g, ?_⟩
  refine (θ_run _ _ _).mono (fun r h c => ⟨(h c).1.trans ?_, (h c).2⟩) (Value.run_blocks m' g')
  obtain ⟨h0, h1, h2, h3, h4⟩ := hag c
  rw [final, h0, h1, h2, h3]

end Cert.RefDh0Ideal.Val

end
-- ==== Proof.Dx.lean ====
module

public import proofs.«01_k».proof.Defs
public import proofs.«01_k».proof.Proof.Gen.KernelDxIdeal.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

namespace Cert.KernelDxIdeal.Val

open Cert.KernelDxIdeal Cert.KernelDxIdeal.Gen Idealize.ShloMosaic Idealize.ShloMosaic.TcCoe Idealize.SL.Sem
open Idealize.ShloMosaic.Pipeline (Dat)

/-- The dequantised weights: code times its row's scale. -/
def WD (w : Vec Ideal S4608x1536 .fp8e4m3) (ws : Vec Ideal S1x4608 .f32) : Vec Ideal S4608x1536 .bf16 :=
  fun j => (w j * ws (ix2 0 (j 0)) : EReal)

/-- The same, the scales as the host has them. -/
def WH (w : Vec Ideal S4608x1536 .fp8e4m3) (ws : Vec Ideal S4608 .f32) : Vec Ideal S4608x1536 .bf16 :=
  fun j => (w j * ws (ix1 (j 0)) : EReal)

/-- The gradient of the inputs, index by index: the product with the dequantised weights, times the row's scale. -/
def DXH (codes : Vec Ideal S6x256x4608 .fp8e5m2) (w : Vec Ideal S4608x1536 .fp8e4m3) (ws : Vec Ideal S4608 .f32) (s : Vec Ideal S6x256 .f32) :
    Vec Ideal S6x256x1536 .bf16 := fun i =>
  ((∑ k : Fin 4608, (codes (ix3 (i 0) (i 1) k) : EReal) * (w (ix2 k (i 2)) * ws (ix1 k))) * s (ix2 (i 0) (i 1)) : EReal)

/-- One 128-row strip of the dequantisation: code times its row's scale. -/
theorem pay2_at (v : Vec Ideal S1x128 .f32) (w : Vec Ideal S128x1536 .fp8e4m3) (a : Fin 128) (b : Fin 1536) :
    (k0_pay2 (F := Ideal) v w (ix2 a b) : EReal) = w (ix2 a b) * v (ix2 0 a) := by
  pointwise [k0_pay2]
  simp only [dite_eq_ite, ite_self]

/-- One stored strip holds its rows of `WD`. -/
theorem strip_at (arg2 : Memref sig .tc .vmem S4608x1536 .fp8e4m3) (harg2 : arg2.IsWhole) (arg3 : Memref sig .tc .vmem S1x4608 .f32) (harg3 : arg3.IsWhole)
    (w : Vec Ideal S4608x1536 .fp8e4m3) (ws : Vec Ideal S1x4608 .f32) (o : ℕ)
    (inb3 : ∀ a, (![0, o] : Fin 2 → ℕ) a + S1x128.size a ≤ S1x4608.size a) (inb2 : ∀ a, (![o, 0] : Fin 2 → ℕ) a + S128x1536.size a ≤ S4608x1536.size a)
    (x : S128x1536.Idx) (y : S4608x1536.Idx) (h0 : (y 0 : ℕ) = o + (x 0 : ℕ)) (h1 : (y 1 : ℕ) = (x 1 : ℕ)) :
    k0_pay2 (F := Ideal) (View.readAt (Elt Ideal) arg3.view (Rect.unit (s := S1x4608) ![0, o] S1x128.size inb3).toLoadRect (harg3.unread ws))
      (View.readAt (Elt Ideal) arg2.view (Rect.unit (s := S4608x1536) ![o, 0] S128x1536.size inb2).toLoadRect (harg2.unread w)) x = WD w ws y := by
  idx_vars x
  refine (pay2_at _ _ _ _).trans ?_
  simp only [View.readAt_eq_ld, harg2.read_unread, harg3.read_unread]
  rw [View.ld_unit_apply_of w ![o, 0] S128x1536.size inb2 _ y (by intro a; fin_cases a; exact h0; exact h1.trans (Nat.zero_add _).symm)]
  rw [View.ld_unit_apply_of ws ![0, o] S1x128.size inb3 _ (ix2 0 (y 0)) (by intro a; fin_cases a; rfl; exact h0)]
  rfl

/-- The first point's stores leave `WD` in the scratch. -/
theorem words_A (c : Dev nD) (arg2 : Memref sig .tc .vmem S4608x1536 .fp8e4m3) (harg2 : arg2.IsWhole) (arg3 : Memref sig .tc .vmem S1x4608 .f32) (harg3 : arg3.IsWhole)
    (x1 : Vec Ideal S4608x1536 .fp8e4m3) (x2 : Vec Ideal S1x4608 .f32)
    (hcov : ∀ y : S4608x1536.Idx, ∃ pc ∈ kernelRun0_A.sl.HS0_36 (F := Ideal) c arg2 harg2 arg3 harg3 x1 x2, y ∈ pc.fst.set) :
    View.canon (kernelRun0_A.sl.HS0_36 (F := Ideal) c arg2 harg2 arg3 harg3 x1 x2) = WD x1 x2 := by
  funext y
  refine View.canon_eq_of_allAt _ y _ (hcov y) ?_
  sl_unfold_words
  repeat' first
    | exact View.allAt_nil _ _
    | refine View.allAt_cons_unit _ _ _ _ _ (fun x h => strip_at arg2 harg2 arg3 harg3 x1 x2 _ _ _ x y (h 0) ((h 1).trans (Nat.zero_add _))) ?_

/-- So the first point leaves `WD` in the scratch. -/
theorem sout_A (c : Dev nD) (i : grid0.Coords) (arg1 : Memref sig .tc .vmem S1x256x4608 .fp8e5m2) (harg1 : arg1.IsWhole) (arg2 : Memref sig .tc .vmem S4608x1536 .fp8e4m3) (harg2 : arg2.IsWhole) (arg3 : Memref sig .tc .vmem S1x4608 .f32) (harg3 : arg3.IsWhole) (arg4 : Memref sig .tc .vmem S6x256 .f32) (harg4 : arg4.IsWhole) (arg5 : Memref sig .tc .vmem S1x256x1536 .bf16) (harg5 : arg5.IsWhole) (arg6 : Memref sig .tc .vmem S4608x1536 .bf16) (harg6 : arg6.IsWhole) (hc0 : cond0_0 i)
    (x0 : Vec Ideal S1x256x4608 .fp8e5m2) (x1 : Vec Ideal S4608x1536 .fp8e4m3) (x2 : Vec Ideal S1x4608 .f32) (x3 : Vec Ideal S6x256 .f32) :
    sout0_A_0 (F := Ideal) c i arg1 harg1 arg2 harg2 arg3 harg3 arg4 harg4 arg5 harg5 arg6 harg6 hc0 x0 x1 x2 x3 = WD x1 x2 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  exact words_A c arg2 harg2 arg3 harg3 x1 x2 (scover0_A_0 c i arg1 harg1 arg2 harg2 arg3 harg3 arg4 harg4 arg5 harg5 arg6 harg6 hc0 x0 x1 x2 x3)

/-- The first point's output block, of the scratch it has just filled. -/
theorem out_A (c : Dev nD) (i : grid0.Coords) (arg1 : Memref sig .tc .vmem S1x256x4608 .fp8e5m2) (harg1 : arg1.IsWhole) (arg2 : Memref sig .tc .vmem S4608x1536 .fp8e4m3) (harg2 : arg2.IsWhole) (arg3 : Memref sig .tc .vmem S1x4608 .f32) (harg3 : arg3.IsWhole) (arg4 : Memref sig .tc .vmem S6x256 .f32) (harg4 : arg4.IsWhole) (arg5 : Memref sig .tc .vmem S1x256x1536 .bf16) (harg5 : arg5.IsWhole) (arg6 : Memref sig .tc .vmem S4608x1536 .bf16) (harg6 : arg6.IsWhole) (hc0 : cond0_0 i)
    (x0 : Vec Ideal S1x256x4608 .fp8e5m2) (x1 : Vec Ideal S4608x1536 .fp8e4m3) (x2 : Vec Ideal S1x4608 .f32) (x3 : Vec Ideal S6x256 .f32) :
    out0_A_4 (F := Ideal) c i arg1 harg1 arg2 harg2 arg3 harg3 arg4 harg4 arg5 harg5 arg6 harg6 hc0 x0 x1 x2 x3 = k0_pay1 i x0 (WD x1 x2) x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  rw [View.canon_unit_zero (by funext a; fin_cases a <;> rfl)]
  have hv : kernelRun0_A.sl.v6 (F := Ideal) c arg2 harg2 arg3 harg3 arg6 x1 x2 = WD x1 x2 := by
    unfold kernelRun0_A.sl.v6
    have hw := words_A c arg2 harg2 arg3 harg3 x1 x2 (scover0_A_0 c i arg1 harg1 arg2 harg2 arg3 harg3 arg4 harg4 arg5 harg5 arg6 harg6 hc0 x0 x1 x2 x3)
    rw [View.readCov_eq_canon']
    funext j
    refine congrFun hw _ |>.trans (congrArg (WD x1 x2) ?_)
    funext a
    refine Fin.ext ?_
    rw [Rect.idx_unit_val]
    fin_cases a <;> exact Nat.zero_add _
  rw [hv]
  simp only [View.readAt_eq_ld, harg1.read_unread, harg4.read_unread]
  rw [View.ld_unit_zero (by funext a; fin_cases a <;> rfl), View.ld_unit_zero (by funext a; fin_cases a <;> rfl)]

/-- A later point keeps the scratch. -/
theorem sout_B (c : Dev nD) (i : grid0.Coords) (arg1 : Memref sig .tc .vmem S1x256x4608 .fp8e5m2) (harg1 : arg1.IsWhole) (arg2 : Memref sig .tc .vmem S4608x1536 .fp8e4m3) (harg2 : arg2.IsWhole) (arg3 : Memref sig .tc .vmem S1x4608 .f32) (harg3 : arg3.IsWhole) (arg4 : Memref sig .tc .vmem S6x256 .f32) (harg4 : arg4.IsWhole) (arg5 : Memref sig .tc .vmem S1x256x1536 .bf16) (harg5 : arg5.IsWhole) (arg6 : Memref sig .tc .vmem S4608x1536 .bf16) (harg6 : arg6.IsWhole) (hc0 : ¬cond0_0 i)
    (x0 : Vec Ideal S1x256x4608 .fp8e5m2) (x1 : Vec Ideal S4608x1536 .fp8e4m3) (x2 : Vec Ideal S1x4608 .f32) (x3 : Vec Ideal S6x256 .f32) (xs0 : Vec Ideal S4608x1536 .bf16) :
    sout0_B_0 (F := Ideal) c i arg1 harg1 arg2 harg2 arg3 harg3 arg4 harg4 arg5 harg5 arg6 harg6 hc0 x0 x1 x2 x3 xs0 = xs0 := rfl

/-- A later point's output block, of the scratch it finds. -/
theorem out_B (c : Dev nD) (i : grid0.Coords) (arg1 : Memref sig .tc .vmem S1x256x4608 .fp8e5m2) (harg1 : arg1.IsWhole) (arg2 : Memref sig .tc .vmem S4608x1536 .fp8e4m3) (harg2 : arg2.IsWhole) (arg3 : Memref sig .tc .vmem S1x4608 .f32) (harg3 : arg3.IsWhole) (arg4 : Memref sig .tc .vmem S6x256 .f32) (harg4 : arg4.IsWhole) (arg5 : Memref sig .tc .vmem S1x256x1536 .bf16) (harg5 : arg5.IsWhole) (arg6 : Memref sig .tc .vmem S4608x1536 .bf16) (harg6 : arg6.IsWhole) (hc0 : ¬cond0_0 i)
    (x0 : Vec Ideal S1x256x4608 .fp8e5m2) (x1 : Vec Ideal S4608x1536 .fp8e4m3) (x2 : Vec Ideal S1x4608 .f32) (x3 : Vec Ideal S6x256 .f32) (xs0 : Vec Ideal S4608x1536 .bf16) :
    out0_B_4 (F := Ideal) c i arg1 harg1 arg2 harg2 arg3 harg3 arg4 harg4 arg5 harg5 arg6 harg6 hc0 x0 x1 x2 x3 xs0 = k0_pay1 i x0 xs0 x3 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero (by funext a; fin_cases a <;> rfl)]
  simp only [View.readAt_eq_ld, harg1.read_unread, harg4.read_unread, harg6.read_unread]
  rw [View.ld_unit_zero (by funext a; fin_cases a <;> rfl), View.ld_unit_zero (by funext a; fin_cases a <;> rfl), View.ld_unit_zero (by funext a; fin_cases a <;> rfl)]

/-- The row picked by comparing row numbers with the grid point: of a sum with one non-zero term, that term. -/
theorem pick_row {n : ℕ} (hn : n < 2 ^ 32) (f : Fin n → EReal) (q : ℕ) (hq : q < n) :
    ∑ x : Fin n, Scalar.select (IntOp.cmpi CmpIPredicate.eq (BitVec.ofNat 32 x.val) (BitVec.ofNat 32 q)) (f x) 0 = f ⟨q, hq⟩ := by
  rw [Finset.sum_eq_single (⟨q, hq⟩ : Fin n)]
  · simp [Scalar.select, IntOp.cmpi]
  · intro b _ hb
    have hne : BitVec.ofNat 32 b.val ≠ BitVec.ofNat 32 q := by
      intro h
      have h' := congrArg BitVec.toNat h
      rw [BitVec.toNat_ofNat, BitVec.toNat_ofNat, Nat.mod_eq_of_lt (by have := b.isLt; omega), Nat.mod_eq_of_lt (by omega)] at h'
      exact hb (Fin.ext h')
    have hb' : (BitVec.ofNat 32 b.val == BitVec.ofNat 32 q) = false := beq_eq_false_iff_ne.mpr hne
    simp [Scalar.select, IntOp.cmpi, hb']
  · intro h; exact absurd (Finset.mem_univ _) h

/-- One output block: the row of the product, times its row scale. -/
theorem pay1_at (i : grid0.Coords) (v3 : Vec Ideal S1x256x4608 .fp8e5m2) (v6 : Vec Ideal S4608x1536 .bf16) (v8 : Vec Ideal S6x256 .f32) (a : Fin 256) (b : Fin 1536) :
    (k0_pay1 (F := Ideal) i v3 v6 v8 (ix3 0 a b) : EReal) = (∑ k : Fin 4608, (v3 (ix3 0 a k) : EReal) * v6 (ix2 k b)) * v8 (ix2 (i 0) a) := by
  pointwise [k0_pay1]
  simp only [dite_eq_ite, ite_self]
  have hp := pick_row (n := 6) (by norm_num) (fun x => (v8 (ix2 x a) : EReal)) (i 0).val (i 0).isLt
  exact congrArg (fun z : EReal => (∑ k : Fin 4608, (v3 (ix3 0 a k) : EReal) * v6 (ix2 k b)) * z) hp

variable (m : (ℓ : Loc nD τ sig) → Buf (Elt Ideal) ℓ) (ρ : Dev nD → PrngReg)

/-- Every window's block index, and the grid coordinate (decided over the 6 points). -/
theorem idx : ∀ t : Fin cfg0.N, win0_0.index t = ![t.val, 0, 0] ∧ win0_1.index t = ![0, 0] ∧ win0_2.index t = ![0, 0] ∧ win0_3.index t = ![0, 0]
    ∧ win0_4.index t = ![t.val, 0, 0] ∧ ((grid0.coords t) 0).val = t.val :=
  (by decide +kernel : ∀ t : Fin grid0.N, _)

/-- Point `t`'s block of the codes is batch `t`. -/
theorem blk0 (c : Dev nD) (t : Fin cfg0.N) (t' : Fin 6) (ht : t'.val = t.val) (a : Fin 256) (k : Fin 4608) :
    (iblk m c 0 t : Vec Ideal S1x256x4608 .fp8e5m2) (ix3 0 a k) = (m ((c : Thread nD τ).loc main_arg0) : Vec Ideal S6x256x4608 .fp8e5m2) (ix3 t' a k) := by
  obtain ⟨e0, e1, e2, e3, e4, e5⟩ := idx t
  blk_ext! [iblk, V, e0]

/-- The weight codes are one whole block, -/
theorem blk1 (c : Dev nD) (t : Fin cfg0.N) : (iblk m c 1 t : Vec Ideal S4608x1536 .fp8e4m3) = (m ((c : Thread nD τ).loc main_arg1) : Vec Ideal S4608x1536 .fp8e4m3) := by
  obtain ⟨e0, e1, e2, e3, e4, e5⟩ := idx t
  blk_ext! [iblk, V, e1]

/-- and so are the scales -/
theorem blk3 (c : Dev nD) (t : Fin cfg0.N) : (iblk m c 3 t : Vec Ideal S6x256 .f32) = (m ((c : Thread nD τ).loc main_arg3) : Vec Ideal S6x256 .f32) := by
  obtain ⟨e0, e1, e2, e3, e4, e5⟩ := idx t
  blk_ext! [iblk, V, e3]

/-- and the weight scales, which the host reshapes to one row. -/
theorem blk2 (c : Dev nD) (t : Fin cfg0.N) (z : Fin 1) (k : Fin 4608) : (iblk m c 2 t : Vec Ideal S1x4608 .f32) (ix2 z k) = (m ((c : Thread nD τ).loc main_arg2) : Vec Ideal S4608 .f32) (ix1 k) := by
  obtain ⟨e0, e1, e2, e3, e4, e5⟩ := idx t
  blk_ext! [iblk, V, e2]

/-- The weights the scratch holds, of the arguments. -/
abbrev WM (c : Dev nD) : Vec Ideal S4608x1536 .bf16 :=
  WH (m ((c : Thread nD τ).loc main_arg1)) (m ((c : Thread nD τ).loc main_arg2))

/-- The strips stored are those of the arguments. -/
theorem WD_blk (c : Dev nD) (t : Fin cfg0.N) : WD (iblk m c 1 t) (iblk m c 2 t) = WM m c := by
  funext j
  exact congrArg₂ (fun a b : EReal => a * b) (congrFun (blk1 m c t) j) (blk2 m c t 0 (j 0))

/-- Every point leaves the dequantised weights in the scratch: the first stores them, the others keep them. -/
theorem held (c : Dev nD) : ∀ (n : ℕ) (hn : n < cfg0.N), (outsAt0 m c n hn).2 = WM m c := by
  intro n
  induction n with
  | zero =>
    intro hn
    have h := outsAt0_A m c ⟨0, hn⟩ rfl
    rw [h]
    dsimp only
    rw [sout_A, WD_blk]
  | succ n ih =>
    intro hn
    have hs : ∀ (k : ℕ) (hk : k < cfg0.N), k = n → (outsAt0 m c k hk).2 = WM m c := fun k hk e => by subst e; exact ih hk
    by_cases h0 : (n + 1) % 6 = 0
    · have h := outsAt0_A m c ⟨n + 1, hn⟩ h0
      rw [h]
      dsimp only
      rw [sout_A, WD_blk]
    · have h := outsAt0_B m c ⟨n + 1, hn⟩ h0
      rw [h]
      dsimp only
      rw [sout_B]
      exact hs _ _ rfl

/-- What the kernel computes, of the arguments. -/
abbrev DX (c : Dev nD) : Vec Ideal S6x256x1536 .bf16 :=
  DXH (m ((c : Thread nD τ).loc main_arg0)) (m ((c : Thread nD τ).loc main_arg1)) (m ((c : Thread nD τ).loc main_arg2)) (m ((c : Thread nD τ).loc main_arg3))

/-- The output block a point leaves. -/
theorem outs_eq (c : Dev nD) (t : Fin cfg0.N) : (outsAt0 m c t.val t.isLt).1 = k0_pay1 (grid0.coords t) (iblk m c 0 t) (WM m c) (iblk m c 3 t) := by
  by_cases h0 : t.val % 6 = 0
  · rw [outsAt0_A m c t h0]
    dsimp only
    rw [out_A, WD_blk]
  · rw [outsAt0_B m c t h0]
    dsimp only
    rw [out_B, held]

/-- That block, index by index, is batch `t` of the result. -/
theorem block_at (c : Dev nD) (t : Fin cfg0.N) (t' : Fin 6) (ht : t'.val = t.val) (a : Fin 256) (b : Fin 1536) :
    k0_pay1 (grid0.coords t) (iblk m c 0 t) (WM m c) (iblk m c 3 t) (ix3 0 a b) = DX m c (ix3 t' a b) := by
  obtain ⟨e0, e1, e2, e3, e4, e5⟩ := idx t
  refine (pay1_at _ _ _ _ _ _).trans ?_
  rw [blk3, show (grid0.coords t) 0 = t' from Fin.ext (e5.trans ht.symm)]
  refine congrArg (fun z : EReal => z * _) ?_
  refine Finset.sum_congr rfl fun k _ => ?_
  rw [blk0 m c t t' ht]
  rfl

/-- What each point writes back is its block of the result. -/
theorem flushed_DX (c : Dev nD) (t : Fin cfg0.N) :
    (dats m 0 c).flushed 4 t = ((cfg0.win 4).blk t).view.read (Elt Ideal) (DX m c) := by
  obtain ⟨e0, e1, e2, e3, e4, e5⟩ := idx t
  rw [Value.flushed4, outs_eq]
  funext y
  show k0_pay1 (grid0.coords t) (iblk m c 0 t) (WM m c) (iblk m c 3 t) y = DX m c (((cfg0.win 4).blk t).view.emb y)
  have hy0 : (y 0).val < 1 := (y 0).isLt
  have ht : t.val < 6 := lt_of_lt_of_eq t.isLt N_0
  have hy : ((cfg0.win 4).blk t).view.emb y = ix3 (⟨t.val, ht⟩ : Fin 6) (y 1) (y 2) := by
    blk_ext [e4]
  have hy' : y = ix3 (0 : Fin 1) (y 1) (y 2) := by
    blk_ext
  exact (congrArg _ hy').trans ((block_at m c t ⟨t.val, ht⟩ rfl (y 1) (y 2)).trans (congrArg (DX m c) hy.symm))

/-- The array after the run is the result. -/
theorem final (c : Dev nD) : Value.G4 m c = DX m c :=
  (Value.final4 m c).symm.trans ((dats m 0 c).arrAt_eq_of_cover 4 _ (fun t hf => flushed_DX m c t) (fun i => (Value.covered_iff4 i).2 (by
    have h0 : (i 0).val < 6 := (i 0).isLt; have h1 : (i 1).val < 256 := (i 1).isLt; have h2 : (i 2).val < 1536 := (i 2).isLt; omega)))

end Cert.KernelDxIdeal.Val

end
-- ==== Proof.DxRef.lean ====
module

public import proofs.«01_k».proof.Defs
public import proofs.«01_k».proof.Proof.Dx
public import proofs.«01_k».proof.Proof.Gen.RefDxIdeal.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

namespace Cert.RefDxIdeal.Val

open Cert.RefDxIdeal Cert.RefDxIdeal.Gen Idealize.ShloMosaic Idealize.ShloMosaic.TcCoe Idealize.SL.Sem

/-- The reference's block is the same function of the arguments. -/
theorem ref_eq (codes : Vec Ideal S6x256x4608 .fp8e5m2) (w : Vec Ideal S4608x1536 .fp8e4m3) (ws : Vec Ideal S4608 .f32) (s : Vec Ideal S6x256 .f32) :
    Value.G4 (F := Ideal) codes w ws s = Cert.KernelDxIdeal.Val.DXH codes w ws s := by
  funext y
  idx_vars y
  unfold Value.G4 Cert.KernelDxIdeal.Val.DXH
  pointwise [k0_pay1]

/-- At the reals, kernel and reference compute the same input gradient. -/
theorem algebraic : @Cert.algebraic_KernelDxIdeal_RefDxIdeal Cert.KernelDxIdeal.Gen.facts Cert.RefDxIdeal.Gen.facts := by
  intro m g m' g' _ hag
  refine ⟨fun c => Cert.KernelDxIdeal.Val.DX m c, ?_, ?_⟩
  · exact (θ_run _ _ _).mono (fun r h c => ⟨(h c).1.trans (Cert.KernelDxIdeal.Val.final m c), (h c).2⟩) (Cert.KernelDxIdeal.Value.run m g)
  · refine (θ_run _ _ _).mono (fun r h c => ⟨(h c).1.trans ?_, (h c).2⟩) (Value.run m' g')
    obtain ⟨h0, h1, h2, h3⟩ := hag c
    rw [h0, h1, h2, h3]
    exact ref_eq _ _ _ _

end Cert.RefDxIdeal.Val

end
-- ==== Proof.Dw.lean ====
module

public import proofs.«01_k».proof.Defs
public import proofs.«01_k».proof.Proof.Gen.KernelDwIdeal.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

namespace Cert.KernelDwIdeal.Val

open Cert.KernelDwIdeal Cert.KernelDwIdeal.Gen Idealize.ShloMosaic Idealize.ShloMosaic.TcCoe Idealize.SL.Sem
open Idealize.ShloMosaic.Pipeline (Dat)

/-- The batch and the time of a flat row (256 rows a batch). -/
def bs (k : Fin 1536) : S6x256.Idx := ix2 (⟨k.val / 256, by have := k.isLt; omega⟩ : Fin 6) (⟨k.val % 256, Nat.mod_lt _ (by norm_num)⟩ : Fin 256)

/-- The dequantised inputs, rows flat, with the gradient's row scale folded in: code times the two scales of its row. -/
def XD (x : Vec Ideal S1536x1536 .fp8e4m3) (xs s : Vec Ideal S6x256 .f32) : Vec Ideal S1536x1536 .bf16 :=
  fun j => (x j * xs (bs (j 0)) * s (bs (j 0)) : EReal)

/-- One 256-row strip of the dequantised inputs: code times the two scales of its row. -/
theorem pay2_at (u v : Vec Ideal S1x256 .f32) (w : Vec Ideal S256x1536 .fp8e4m3) (a : Fin 256) (b : Fin 1536) :
    (k0_pay2 (F := Ideal) u v w (ix2 a b) : EReal) = w (ix2 a b) * u (ix2 0 a) * v (ix2 0 a) := by
  pointwise [k0_pay2]
  simp only [dite_eq_ite, ite_self]

/-- One block of the product. -/
theorem pay3_at (x : Vec Ideal S1536x256 .fp8e5m2) (w : Vec Ideal S1536x1536 .bf16) (a : Fin 256) (b : Fin 1536) :
    (k0_pay3 (F := Ideal) x w (ix2 a b) : EReal) = ∑ k : Fin 1536, (x (ix2 k a) : EReal) * w (ix2 k b) := by
  pointwise [k0_pay3]

/-- One stored strip holds its rows of `XD`. -/
theorem strip_at (arg2 : Memref sig .tc .vmem S1536x1536 .fp8e4m3) (harg2 : arg2.IsWhole) (arg3 : Memref sig .tc .vmem S6x256 .f32) (harg3 : arg3.IsWhole) (arg4 : Memref sig .tc .vmem S6x256 .f32) (harg4 : arg4.IsWhole)
    (w : Vec Ideal S1536x1536 .fp8e4m3) (xs s : Vec Ideal S6x256 .f32) (q o : ℕ) (ho : o = 256 * q)
    (inb3 inb4 : ∀ a, (![q, 0] : Fin 2 → ℕ) a + S1x256.size a ≤ S6x256.size a) (inb2 : ∀ a, (![o, 0] : Fin 2 → ℕ) a + S256x1536.size a ≤ S1536x1536.size a)
    (x : S256x1536.Idx) (y : S1536x1536.Idx) (h0 : (y 0 : ℕ) = o + (x 0 : ℕ)) (h1 : (y 1 : ℕ) = (x 1 : ℕ)) :
    k0_pay2 (F := Ideal) (View.readAt (Elt Ideal) arg3.view (Rect.unit (s := S6x256) ![q, 0] S1x256.size inb3).toLoadRect (harg3.unread xs))
      (View.readAt (Elt Ideal) arg4.view (Rect.unit (s := S6x256) ![q, 0] S1x256.size inb4).toLoadRect (harg4.unread s))
      (View.readAt (Elt Ideal) arg2.view (Rect.unit (s := S1536x1536) ![o, 0] S256x1536.size inb2).toLoadRect (harg2.unread w)) x = XD w xs s y := by
  idx_vars x
  refine (pay2_at _ _ _ _ _).trans ?_
  simp only [View.readAt_eq_ld, harg2.read_unread, harg3.read_unread, harg4.read_unread]
  have h0' : (y 0 : ℕ) = o + (x0 : ℕ) := h0
  have hx0 := x0.isLt
  have hq : ∀ a, ((bs (y 0)) a : ℕ) = (![q, 0] : Fin 2 → ℕ) a + ((ix2 (0 : Fin 1) x0 : S1x256.Idx) a : ℕ) := by
    intro a
    fin_cases a
    · show (y 0 : ℕ) / 256 = q + 0
      omega
    · show (y 0 : ℕ) % 256 = 0 + (x0 : ℕ)
      omega
  rw [View.ld_unit_apply_of w ![o, 0] S256x1536.size inb2 _ y (by intro a; fin_cases a; exact h0; exact h1.trans (Nat.zero_add _).symm)]
  rw [View.ld_unit_apply_of xs ![q, 0] S1x256.size inb3 _ (bs (y 0)) hq, View.ld_unit_apply_of s ![q, 0] S1x256.size inb4 _ (bs (y 0)) hq]
  rfl

/-- The first point's stores leave `XD` in the scratch. -/
theorem words_A (c : Dev nD) (arg2 : Memref sig .tc .vmem S1536x1536 .fp8e4m3) (harg2 : arg2.IsWhole) (arg3 : Memref sig .tc .vmem S6x256 .f32) (harg3 : arg3.IsWhole) (arg4 : Memref sig .tc .vmem S6x256 .f32) (harg4 : arg4.IsWhole)
    (x1 : Vec Ideal S1536x1536 .fp8e4m3) (x2 x3 : Vec Ideal S6x256 .f32)
    (hcov : ∀ y : S1536x1536.Idx, ∃ pc ∈ kernelRun0_A.sl.HS0_6 (F := Ideal) c arg2 harg2 arg3 harg3 arg4 harg4 x1 x2 x3, y ∈ pc.fst.set) :
    View.canon (kernelRun0_A.sl.HS0_6 (F := Ideal) c arg2 harg2 arg3 harg3 arg4 harg4 x1 x2 x3) = XD x1 x2 x3 := by
  funext y
  refine View.canon_eq_of_allAt _ y _ (hcov y) ?_
  sl_unfold_words
  repeat' first
    | exact View.allAt_nil _ _
    | refine View.allAt_cons_unit _ _ _ _ _ (fun x h => strip_at arg2 harg2 arg3 harg3 arg4 harg4 x1 x2 x3 _ _ (by norm_num) _ _ _ x y (h 0) ((h 1).trans (Nat.zero_add _))) ?_

/-- So the first point leaves `XD` in the scratch. -/
theorem sout_A (c : Dev nD) (i : grid0.Coords) (arg1 : Memref sig .tc .vmem S1536x256 .fp8e5m2) (harg1 : arg1.IsWhole) (arg2 : Memref sig .tc .vmem S1536x1536 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S256x1536 .f32) (harg5 : arg5.IsWhole) (arg6 : Memref sig .tc .vmem S1536x1536 .bf16) (harg6 : arg6.IsWhole) (hc0 : cond0_0 i)
    (x0 : Vec Ideal S1536x256 .fp8e5m2) (x1 : Vec Ideal S1536x1536 .fp8e4m3) (x2 : Vec Ideal S6x256 .f32) (x3 : Vec Ideal S6x256 .f32) :
    sout0_A_0 (F := Ideal) c i arg1 harg1 arg2 harg2 arg3 harg3 arg4 harg4 arg5 harg5 arg6 harg6 hc0 x0 x1 x2 x3 = XD x1 x2 x3 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  exact words_A c arg2 harg2 arg3 harg3 arg4 harg4 x1 x2 x3 (scover0_A_0 c i arg1 harg1 arg2 harg2 arg3 harg3 arg4 harg4 arg5 harg5 arg6 harg6 hc0 x0 x1 x2 x3)

/-- The first point's output block, of the scratch it has just filled. -/
theorem out_A (c : Dev nD) (i : grid0.Coords) (arg1 : Memref sig .tc .vmem S1536x256 .fp8e5m2) (harg1 : arg1.IsWhole) (arg2 : Memref sig .tc .vmem S1536x1536 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S256x1536 .f32) (harg5 : arg5.IsWhole) (arg6 : Memref sig .tc .vmem S1536x1536 .bf16) (harg6 : arg6.IsWhole) (hc0 : cond0_0 i)
    (x0 : Vec Ideal S1536x256 .fp8e5m2) (x1 : Vec Ideal S1536x1536 .fp8e4m3) (x2 : Vec Ideal S6x256 .f32) (x3 : Vec Ideal S6x256 .f32) :
    out0_A_4 (F := Ideal) c i arg1 harg1 arg2 harg2 arg3 harg3 arg4 harg4 arg5 harg5 arg6 harg6 hc0 x0 x1 x2 x3 = k0_pay3 x0 (XD x1 x2 x3) := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  rw [View.canon_unit_zero (by funext a; fin_cases a <;> rfl)]
  have hv : kernelRun0_A.sl.v6 (F := Ideal) c arg2 harg2 arg3 harg3 arg4 harg4 arg6 x1 x2 x3 = XD x1 x2 x3 := by
    unfold kernelRun0_A.sl.v6
    have hw := words_A c arg2 harg2 arg3 harg3 arg4 harg4 x1 x2 x3 (scover0_A_0 c i arg1 harg1 arg2 harg2 arg3 harg3 arg4 harg4 arg5 harg5 arg6 harg6 hc0 x0 x1 x2 x3)
    rw [View.readCov_eq_canon']
    funext j
    refine congrFun hw _ |>.trans (congrArg (XD x1 x2 x3) ?_)
    funext a
    refine Fin.ext ?_
    rw [Rect.idx_unit_val]
    fin_cases a <;> exact Nat.zero_add _
  rw [hv]
  simp only [View.readAt_eq_ld, harg1.read_unread]
  rw [View.ld_unit_zero (by funext a; fin_cases a <;> rfl)]

/-- A later point keeps the scratch. -/
theorem sout_B (c : Dev nD) (i : grid0.Coords) (arg1 : Memref sig .tc .vmem S1536x256 .fp8e5m2) (harg1 : arg1.IsWhole) (arg2 : Memref sig .tc .vmem S1536x1536 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S256x1536 .f32) (harg5 : arg5.IsWhole) (arg6 : Memref sig .tc .vmem S1536x1536 .bf16) (harg6 : arg6.IsWhole) (hc0 : ¬cond0_0 i)
    (x0 : Vec Ideal S1536x256 .fp8e5m2) (x1 : Vec Ideal S1536x1536 .fp8e4m3) (x2 : Vec Ideal S6x256 .f32) (x3 : Vec Ideal S6x256 .f32) (xs0 : Vec Ideal S1536x1536 .bf16) :
    sout0_B_0 (F := Ideal) c i arg1 harg1 arg2 harg2 arg3 harg3 arg4 harg4 arg5 harg5 arg6 harg6 hc0 x0 x1 x2 x3 xs0 = xs0 := rfl

/-- A later point's output block, of the scratch it finds. -/
theorem out_B (c : Dev nD) (i : grid0.Coords) (arg1 : Memref sig .tc .vmem S1536x256 .fp8e5m2) (harg1 : arg1.IsWhole) (arg2 : Memref sig .tc .vmem S1536x1536 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S256x1536 .f32) (harg5 : arg5.IsWhole) (arg6 : Memref sig .tc .vmem S1536x1536 .bf16) (harg6 : arg6.IsWhole) (hc0 : ¬cond0_0 i)
    (x0 : Vec Ideal S1536x256 .fp8e5m2) (x1 : Vec Ideal S1536x1536 .fp8e4m3) (x2 : Vec Ideal S6x256 .f32) (x3 : Vec Ideal S6x256 .f32) (xs0 : Vec Ideal S1536x1536 .bf16) :
    out0_B_4 (F := Ideal) c i arg1 harg1 arg2 harg2 arg3 harg3 arg4 harg4 arg5 harg5 arg6 harg6 hc0 x0 x1 x2 x3 xs0 = k0_pay3 x0 xs0 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero (by funext a; fin_cases a <;> rfl)]
  simp only [View.readAt_eq_ld, harg1.read_unread, harg6.read_unread]
  rw [View.ld_unit_zero (by funext a; fin_cases a <;> rfl), View.ld_unit_zero (by funext a; fin_cases a <;> rfl)]

variable (m : (ℓ : Loc nD τ sig) → Buf (Elt Ideal) ℓ) (ρ : Dev nD → PrngReg)

/-- Every window's block index (decided over the 18 points). -/
theorem idx : ∀ t : Fin cfg0.N, win0_0.index t = ![0, t.val] ∧ win0_1.index t = ![0, 0] ∧ win0_2.index t = ![0, 0] ∧ win0_3.index t = ![0, 0]
    ∧ win0_4.index t = ![t.val, 0] :=
  (by decide +kernel : ∀ t : Fin grid0.N, _)

/-- Point `t`'s block of the codes, which the host lays out with flat rows: columns `256 t` on. -/
theorem blk0 (c : Dev nD) (t : Fin cfg0.N) (b : Fin 6) (s : Fin 256) (j : Fin 4608) (k : Fin 1536) (a : Fin 256) (hk : k.val = 256 * b.val + s.val) (hj : j.val = 256 * t.val + a.val) :
    (iblk m c 0 t : Vec Ideal S1536x256 .fp8e5m2) (ix2 k a) = (m ((c : Thread nD τ).loc main_arg0) : Vec Ideal S6x256x4608 .fp8e5m2) (ix3 b s j) := by
  obtain ⟨e0, e1, e2, e3, e4⟩ := idx t
  blk_ext! [iblk, V, e0]

/-- The input codes are one whole block, which the host lays out with flat rows; -/
theorem blk1 (c : Dev nD) (t : Fin cfg0.N) (b : Fin 6) (s : Fin 256) (k : Fin 1536) (d : Fin 1536) (hk : k.val = 256 * b.val + s.val) :
    (iblk m c 1 t : Vec Ideal S1536x1536 .fp8e4m3) (ix2 k d) = (m ((c : Thread nD τ).loc main_arg1) : Vec Ideal S6x256x1536 .fp8e4m3) (ix3 b s d) := by
  obtain ⟨e0, e1, e2, e3, e4⟩ := idx t
  blk_ext! [iblk, V, e1]

/-- so are the input scales -/
theorem blk2 (c : Dev nD) (t : Fin cfg0.N) : (iblk m c 2 t : Vec Ideal S6x256 .f32) = (m ((c : Thread nD τ).loc main_arg2) : Vec Ideal S6x256 .f32) := by
  obtain ⟨e0, e1, e2, e3, e4⟩ := idx t
  blk_ext! [iblk, V, e2]

/-- and the gradient's scales. -/
theorem blk3 (c : Dev nD) (t : Fin cfg0.N) : (iblk m c 3 t : Vec Ideal S6x256 .f32) = (m ((c : Thread nD τ).loc main_arg3) : Vec Ideal S6x256 .f32) := by
  obtain ⟨e0, e1, e2, e3, e4⟩ := idx t
  blk_ext! [iblk, V, e3]

/-- The gradient of the weights, index by index: over batches and times, the product of the two dequantised arrays. -/
def DWH (codes : Vec Ideal S6x256x4608 .fp8e5m2) (x : Vec Ideal S6x256x1536 .fp8e4m3) (xs s : Vec Ideal S6x256 .f32) : Vec Ideal S4608x1536 .f32 := fun i =>
  (∑ b : Fin 6, ∑ t : Fin 256, (codes (ix3 b t (i 0)) : EReal) * s (ix2 b t) * (x (ix3 b t (i 1)) * xs (ix2 b t)) : EReal)

/-- The inputs as the host lays them out, rows flat. -/
def XF (x : Vec Ideal S6x256x1536 .fp8e4m3) : Vec Ideal S1536x1536 .fp8e4m3 :=
  fun j => x (ix3 ((bs (j 0)) 0) ((bs (j 0)) 1) (j 1))

/-- The dequantised inputs the scratch holds, of the arguments. -/
abbrev XM (c : Dev nD) : Vec Ideal S1536x1536 .bf16 :=
  XD (XF (m ((c : Thread nD τ).loc main_arg1))) (m ((c : Thread nD τ).loc main_arg2)) (m ((c : Thread nD τ).loc main_arg3))

/-- The strips stored are those of the arguments. -/
theorem XD_blk (c : Dev nD) (t : Fin cfg0.N) : XD (iblk m c 1 t) (iblk m c 2 t) (iblk m c 3 t) = XM m c := by
  have h1 : (iblk m c 1 t : Vec Ideal S1536x1536 .fp8e4m3) = XF (m ((c : Thread nD τ).loc main_arg1)) := by
    funext j
    idx_vars j
    refine blk1 m c t _ _ j0 j1 ?_
    show j0.val = 256 * (j0.val / 256) + j0.val % 256
    omega
  rw [h1, blk2, blk3]

/-- Every point leaves the dequantised inputs in the scratch: the first stores them, the others keep them. -/
theorem held (c : Dev nD) : ∀ (n : ℕ) (hn : n < cfg0.N), (outsAt0 m c n hn).2 = XM m c := by
  intro n
  induction n with
  | zero =>
    intro hn
    have h := outsAt0_A m c ⟨0, hn⟩ rfl
    rw [h]
    dsimp only
    rw [sout_A, XD_blk]
  | succ n ih =>
    intro hn
    have hs : ∀ (k : ℕ) (hk : k < cfg0.N), k = n → (outsAt0 m c k hk).2 = XM m c := fun k hk e => by subst e; exact ih hk
    by_cases h0 : (n + 1) % 18 = 0
    · have h := outsAt0_A m c ⟨n + 1, hn⟩ h0
      rw [h]
      dsimp only
      rw [sout_A, XD_blk]
    · have h := outsAt0_B m c ⟨n + 1, hn⟩ h0
      rw [h]
      dsimp only
      rw [sout_B]
      exact hs _ _ rfl

/-- What the kernel computes, of the arguments. -/
abbrev DW (c : Dev nD) : Vec Ideal S4608x1536 .f32 :=
  DWH (m ((c : Thread nD τ).loc main_arg0)) (m ((c : Thread nD τ).loc main_arg1)) (m ((c : Thread nD τ).loc main_arg2)) (m ((c : Thread nD τ).loc main_arg3))

/-- The output block a point leaves. -/
theorem outs_eq (c : Dev nD) (t : Fin cfg0.N) : (outsAt0 m c t.val t.isLt).1 = k0_pay3 (iblk m c 0 t) (XM m c) := by
  by_cases h0 : t.val % 18 = 0
  · rw [outsAt0_A m c t h0]
    dsimp only
    rw [out_A, XD_blk]
  · rw [outsAt0_B m c t h0]
    dsimp only
    rw [out_B, held]

/-- A sum over flat rows is the sum over batches and times. -/
theorem sum_rows (f : Fin 1536 → EReal) : ∑ k, f k = ∑ b : Fin 6, ∑ t : Fin 256, f ⟨256 * b.val + t.val, by have := b.isLt; have := t.isLt; omega⟩ := by
  rw [← Fintype.sum_prod_type']
  rw [← (finProdFinEquiv (m := 6) (n := 256)).sum_comp]
  refine Finset.sum_congr rfl fun p _ => congrArg f (Fin.ext ?_)
  show p.2.val + 256 * p.1.val = 256 * p.1.val + p.2.val
  omega

/-- The dequantised inputs at a flat row that is time `t` of batch `b`. -/
theorem XD_at (x : Vec Ideal S6x256x1536 .fp8e4m3) (xs s : Vec Ideal S6x256 .f32) (k : Fin 1536) (d : Fin 1536) (b : Fin 6) (t : Fin 256) (hb : bs k = ix2 b t) :
    (XD (XF x) xs s (ix2 k d) : EReal) = x (ix3 b t d) * xs (ix2 b t) * s (ix2 b t) := by
  show (x (ix3 ((bs k) 0) ((bs k) 1) d) : EReal) * xs (bs k) * s (bs k) = _
  rw [hb]
  rfl

/-- A row scale on the inputs may as well stand on the codes. -/
theorem scale_moves (c x xs s : EReal) : c * (x * xs * s) = c * s * (x * xs) := by
  rw [mul_comm (x * xs) s, mul_assoc]

/-- That block, index by index, is rows `256 t` on of the result: the row scale moves from the inputs to the codes. -/
theorem block_at (c : Dev nD) (t : Fin cfg0.N) (j : Fin 4608) (a : Fin 256) (hj : j.val = 256 * t.val + a.val) (d : Fin 1536) :
    k0_pay3 (iblk m c 0 t) (XM m c) (ix2 a d) = DW m c (ix2 j d) := by
  refine (pay3_at _ _ _ _).trans ?_
  rw [sum_rows]
  refine Finset.sum_congr rfl fun b _ => Finset.sum_congr rfl fun s _ => ?_
  rw [blk0 m c t b s j _ a rfl hj]
  have hb : bs (⟨256 * b.val + s.val, by have := b.isLt; have := s.isLt; omega⟩ : Fin 1536) = ix2 b s := by
    have := s.isLt
    unfold bs
    congr 1
    · exact Fin.ext (by show (256 * b.val + s.val) / 256 = b.val; omega)
    · exact Fin.ext (by show (256 * b.val + s.val) % 256 = s.val; omega)
  refine (congrArg (fun z : EReal => _ * z) (XD_at _ _ _ _ d b s hb)).trans ?_
  exact scale_moves _ _ _ _

/-- What each point writes back is its block of the result. -/
theorem flushed_DW (c : Dev nD) (t : Fin cfg0.N) :
    (dats m 0 c).flushed 4 t = ((cfg0.win 4).blk t).view.read (Elt Ideal) (DW m c) := by
  obtain ⟨e0, e1, e2, e3, e4⟩ := idx t
  rw [Value.flushed4, outs_eq]
  funext y
  show k0_pay3 (iblk m c 0 t) (XM m c) y = DW m c (((cfg0.win 4).blk t).view.emb y)
  have hy0 : (y 0).val < 256 := (y 0).isLt
  have ht : t.val < 18 := lt_of_lt_of_eq t.isLt N_0
  have hy : ((cfg0.win 4).blk t).view.emb y = ix2 (⟨256 * t.val + (y 0).val, by omega⟩ : Fin 4608) (y 1) := by
    blk_ext [e4]
  have hy' : y = ix2 (y 0) (y 1) := by
    blk_ext
  exact (congrArg _ hy').trans ((block_at m c t _ (y 0) rfl (y 1)).trans (congrArg (DW m c) hy.symm))

/-- The array after the run is the result. -/
theorem final (c : Dev nD) : Value.G4 m c = DW m c :=
  (Value.final4 m c).symm.trans ((dats m 0 c).arrAt_eq_of_cover 4 _ (fun t hf => flushed_DW m c t) (fun i => (Value.covered_iff4 i).2 (by
    have h0 : (i 0).val < 4608 := (i 0).isLt; have h1 : (i 1).val < 1536 := (i 1).isLt; omega)))

end Cert.KernelDwIdeal.Val

end
-- ==== Proof.DwRef.lean ====
module

public import proofs.«01_k».proof.Defs
public import proofs.«01_k».proof.Proof.Dw
public import proofs.«01_k».proof.Proof.Gen.RefDwIdeal.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

namespace Cert.RefDwIdeal.Val

open Cert.RefDwIdeal Cert.RefDwIdeal.Gen Idealize.ShloMosaic Idealize.ShloMosaic.TcCoe Idealize.SL.Sem

/-- The reference's array is the same function of the arguments. -/
theorem ref_eq (codes : Vec Ideal S6x256x4608 .fp8e5m2) (x : Vec Ideal S6x256x1536 .fp8e4m3) (xs s : Vec Ideal S6x256 .f32) :
    Value.G4 (F := Ideal) codes x xs s = Cert.KernelDwIdeal.Val.DWH codes x xs s := by
  funext y
  idx_vars y
  unfold Value.G4 Cert.KernelDwIdeal.Val.DWH
  pointwise [k0_pay1]

/-- At the reals, kernel and reference compute the same weight gradient. -/
theorem algebraic : @Cert.algebraic_KernelDwIdeal_RefDwIdeal Cert.KernelDwIdeal.Gen.facts Cert.RefDwIdeal.Gen.facts := by
  intro m g m' g' _ hag
  refine ⟨fun c => Cert.KernelDwIdeal.Val.DW m c, ?_, ?_⟩
  · exact (θ_run _ _ _).mono (fun r h c => ⟨(h c).1.trans (Cert.KernelDwIdeal.Val.final m c), (h c).2⟩) (Cert.KernelDwIdeal.Value.run m g)
  · refine (θ_run _ _ _).mono (fun r h c => ⟨(h c).1.trans ?_, (h c).2⟩) (Value.run m' g')
    obtain ⟨h0, h1, h2, h3⟩ := hag c
    rw [h0, h1, h2, h3]
    exact ref_eq _ _ _ _

end Cert.RefDwIdeal.Val

end
-- ==== Proof.lean ====
module

public import proofs.«01_k».proof.Defs
public import proofs.«01_k».proof.Proof.Gen.KernelScan.Frame
public import proofs.«01_k».proof.Proof.Gen.KernelScan.Loops
public import proofs.«01_k».proof.Proof.Gen.KernelScan.Skeleton
public import proofs.«01_k».proof.Proof.Gen.KernelScanIdeal.Frame
public import proofs.«01_k».proof.Proof.Gen.KernelScanIdeal.Loops
public import proofs.«01_k».proof.Proof.Gen.KernelScanIdeal.Skeleton
public import proofs.«01_k».proof.Proof.Gen.RefDh0Ideal
public import proofs.«01_k».proof.Proof.Gen.RefDh0Ideal.Skeleton
public import proofs.«01_k».proof.Proof.Gen.RefDh0Ideal.Launch
public import proofs.«01_k».proof.Proof.Gen.RefDh0Ideal.Points
public import proofs.«01_k».proof.Proof.Gen.RefDh0Ideal.Frame
public import proofs.«01_k».proof.Proof.Gen.RefDh0Ideal.Loops
public import proofs.«01_k».proof.Proof.Gen.RefDh0Ideal.Value
public import proofs.«01_k».proof.Proof.Gen.KernelDx
public import proofs.«01_k».proof.Proof.Gen.KernelDx.Skeleton
public import proofs.«01_k».proof.Proof.Gen.KernelDx.Launch
public import proofs.«01_k».proof.Proof.Gen.KernelDx.Points
public import proofs.«01_k».proof.Proof.Gen.KernelDx.Frame
public import proofs.«01_k».proof.Proof.Gen.KernelDxIdeal
public import proofs.«01_k».proof.Proof.Gen.KernelDxIdeal.Skeleton
public import proofs.«01_k».proof.Proof.Gen.KernelDxIdeal.Launch
public import proofs.«01_k».proof.Proof.Gen.KernelDxIdeal.Points
public import proofs.«01_k».proof.Proof.Gen.KernelDxIdeal.Frame
public import proofs.«01_k».proof.Proof.Gen.RefDxIdeal
public import proofs.«01_k».proof.Proof.Gen.RefDxIdeal.Skeleton
public import proofs.«01_k».proof.Proof.Gen.RefDxIdeal.Launch
public import proofs.«01_k».proof.Proof.Gen.RefDxIdeal.Points
public import proofs.«01_k».proof.Proof.Gen.RefDxIdeal.Frame
public import proofs.«01_k».proof.Proof.Gen.KernelDw
public import proofs.«01_k».proof.Proof.Gen.KernelDw.Skeleton
public import proofs.«01_k».proof.Proof.Gen.KernelDw.Launch
public import proofs.«01_k».proof.Proof.Gen.KernelDw.Points
public import proofs.«01_k».proof.Proof.Gen.KernelDw.Frame
public import proofs.«01_k».proof.Proof.Gen.KernelDwIdeal
public import proofs.«01_k».proof.Proof.Gen.KernelDwIdeal.Skeleton
public import proofs.«01_k».proof.Proof.Gen.KernelDwIdeal.Launch
public import proofs.«01_k».proof.Proof.Gen.KernelDwIdeal.Points
public import proofs.«01_k».proof.Proof.Gen.KernelDwIdeal.Frame
public import proofs.«01_k».proof.Proof.Gen.RefDwIdeal
public import proofs.«01_k».proof.Proof.Gen.RefDwIdeal.Skeleton
public import proofs.«01_k».proof.Proof.Gen.RefDwIdeal.Launch
public import proofs.«01_k».proof.Proof.Gen.RefDwIdeal.Points
public import proofs.«01_k».proof.Proof.Gen.RefDwIdeal.Frame
public import proofs.«01_k».proof.Proof.Gen.KernelDxIdeal.Value
public import proofs.«01_k».proof.Proof.Gen.RefDxIdeal.Value
public import proofs.«01_k».proof.Proof.Gen.KernelDwIdeal.Value
public import proofs.«01_k».proof.Proof.Gen.RefDwIdeal.Value
public import proofs.«01_k».proof.Proof.ScanFrame
public import proofs.«01_k».proof.Proof.ScanRun
public import proofs.«01_k».proof.Proof.Dh0Ref
public import proofs.«01_k».proof.Proof.DxRef
public import proofs.«01_k».proof.Proof.DwRef
public import Idealize.ShloMosaic.Adequacy
public import Idealize.ShloMosaic.Init

@[expose] public section

noncomputable section

namespace Cert.Proof

open Idealize.ShloMosaic Idealize.SL.Sem Cert.KernelDx

theorem claim : Cert.Claim := ⟨Cert.KernelScan.Gen.facts, Cert.KernelScanIdeal.Gen.facts, Cert.RefDh0Ideal.Gen.facts, Cert.KernelDx.Gen.facts, Cert.KernelDxIdeal.Gen.facts, Cert.RefDxIdeal.Gen.facts, Cert.KernelDw.Gen.facts, Cert.KernelDwIdeal.Gen.facts, Cert.RefDwIdeal.Gen.facts,
  fun m ρ _ => Cert.KernelScan.Hand.frame m ρ,
  fun m ρ _ => Cert.KernelScanIdeal.Hand.frame m ρ,
  fun m ρ _ => Cert.RefDh0Ideal.Gen.frame m ρ,
  fun m ρ _ => Cert.KernelDx.Gen.frame m ρ,
  fun m ρ _ => Cert.KernelDxIdeal.Gen.frame m ρ,
  fun m ρ _ => Cert.RefDxIdeal.Gen.frame m ρ,
  fun m ρ _ => Cert.KernelDw.Gen.frame m ρ,
  fun m ρ _ => Cert.KernelDwIdeal.Gen.frame m ρ,
  fun m ρ _ => Cert.RefDwIdeal.Gen.frame m ρ,
  IdealRules.named_const.statement Cert.KernelScanIdeal.κ "neg_log2e" .f32 0xBFB8AA3B#32 ((-((Real.log 2)⁻¹) : ℝ) : EReal) rfl,
  Cert.RefDh0Ideal.Val.algebraic, trivial, Cert.RefDxIdeal.Val.algebraic, trivial, Cert.RefDwIdeal.Val.algebraic⟩

end Cert.Proof

end
